-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_parts [hPre_finite_parts : Cert.Pre_finite_parts.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_parts.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_parts [hPre_finite_parts : Cert.Pre_finite_parts.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_parts.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_parts [hKernel10Ideal : Cert.Kernel10Ideal.Facts] [hPre_finite_parts : Cert.Pre_finite_parts.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_parts m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_parts [hReference10Ideal : Cert.Reference10Ideal.Facts] [hPre_finite_parts : Cert.Pre_finite_parts.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_parts m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)) (v8 : (c : Dev Cert.KernelIdeal.nD) → Buf (Elt Ideal) ((c.tc : Thread Cert.KernelIdeal.nD Cert.KernelIdeal.τ).loc Cert.KernelIdeal.main_v8_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_v8_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_v142) = v4 c
          ∧ r.2.mem ((c.tc : Thread Cert.ReferenceIdeal.nD Cert.ReferenceIdeal.τ).loc Cert.ReferenceIdeal.main_v143) = v5 c
          ∧ r.2.mem ((c.tc : Thread Cert.ReferenceIdeal.nD Cert.ReferenceIdeal.τ).loc Cert.ReferenceIdeal.main_v144) = v6 c
          ∧ r.2.mem ((c.tc : Thread Cert.ReferenceIdeal.nD Cert.ReferenceIdeal.τ).loc Cert.ReferenceIdeal.main_v145) = v7 c
          ∧ r.2.mem ((c.tc : Thread Cert.ReferenceIdeal.nD Cert.ReferenceIdeal.τ).loc Cert.ReferenceIdeal.main_v139) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_v31) = v3 c
          ∧ r.2.mem ((c.tc : Thread Cert.Reference8Ideal.nD Cert.Reference8Ideal.τ).loc Cert.Reference8Ideal.main_v46) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_parts [hKernel10Ideal : Cert.Kernel10Ideal.Facts] [hReference10Ideal : Cert.Reference10Ideal.Facts] [hPre_finite_parts : Cert.Pre_finite_parts.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_parts m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_v73) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v60) = v0 c
          ∧ r.2.mem ((c.tc : Thread Cert.Reference12Ideal.nD Cert.Reference12Ideal.τ).loc Cert.Reference12Ideal.main_v62) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v58) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_all_finite : Cert.Pre_all_finite.Facts) (hPre_finite_parts : Cert.Pre_finite_parts.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_parts (hKernel10Ideal := hKernel10Ideal) (hPre_finite_parts := hPre_finite_parts)
    ∧ quiescent_Reference10Ideal (hReference10Ideal := hReference10Ideal)
    ∧ quiescent_Reference10Ideal_pre_finite_parts (hReference10Ideal := hReference10Ideal) (hPre_finite_parts := hPre_finite_parts)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_parts (hKernel10Ideal := hKernel10Ideal) (hReference10Ideal := hReference10Ideal) (hPre_finite_parts := hPre_finite_parts)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_all_finite.lean ====
abbrev S8192x1024 : Shape := ⟨2, ![8192, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part3 {F : FTy → Type} [FloatOps F] (main_arg11 : FVec F S1024x2816 .f32) (main_arg12 : FVec F S2816x1024 .f32) (main_v49 : IVec S_ 1) (main_v50 : FVec F S1024x2816 .f32) (main_cst_18 : FVec F S_ .f32) : IVec S_ 1 :=
  let main_v51 : FVec F S1024x2816 .f32 := broadcastInDim S1024x2816 ![] bcast_S_S1024x2816 main_cst_18
  let main_v52 : IVec S1024x2816 1 := cmpf .olt main_v50 main_v51
  let main_c_19 : IVec S_ 1 := constantI S_ 1 1#1
  let main_v53 : IVec S_ 1 := (fun x v => Host.reduce IntOp.andi x v reducesTo_S1024x2816_S_d0_1 h_S_) main_v52 main_c_19
  let main_v54 : IVec S_ 1 := andi main_v49 main_v53
  let main_v55 : FVec F S1024x2816 .f32 := Host.absf main_arg11
  let main_cst_20 : FVec F S_ .f32 := constant S_ .f32 0x7F800000#32
  let main_v56 : FVec F S1024x2816 .f32 := broadcastInDim S1024x2816 ![] bcast_S_S1024x2816 main_cst_20
  let main_v57 : IVec S1024x2816 1 := cmpf .olt main_v55 main_v56
  let main_c_21 : IVec S_ 1 := constantI S_ 1 1#1
  let main_v58 : IVec S_ 1 := (fun x v => Host.reduce IntOp.andi x v reducesTo_S1024x2816_S_d0_1 h_S_) main_v57 main_c_21
  let main_v59 : IVec S_ 1 := andi main_v54 main_v58
  let main_v60 : FVec F S2816x1024 .f32 := Host.absf main_arg12
  let main_cst_22 : FVec F S_ .f32 := constant S_ .f32 0x7F800000#32
  let main_v61 : FVec F S2816x1024 .f32 := broadcastInDim S2816x1024 ![] bcast_S_S2816x1024 main_cst_22
  let main_v62 : IVec S2816x1024 1 := cmpf .olt main_v60 main_v61
  let main_c_23 : IVec S_ 1 := constantI S_ 1 1#1
  let main_v63 : IVec S_ 1 := (fun x v => Host.reduce IntOp.andi x v reducesTo_S2816x1024_S_d0_1 h_S_) main_v62 main_c_23
  let main_v64 : IVec S_ 1 := andi main_v59 main_v63
  main_v64

def fn_part2 {F : FTy → Type} [FloatOps F] (main_arg7 : FVec F S1x1024 .f32) (main_arg8 : FVec F S1x1024 .f32) (main_arg9 : FVec F S1024x1024 .f32) (main_arg10 : FVec F S1024x2816 .f32) (main_arg11 : FVec F S1024x2816 .f32) (main_arg12 : FVec F S2816x1024 .f32) (main_v29 : IVec S_ 1) (main_v33 : IVec S_ 1) : IVec S_ 1 :=
  let main_v34 : IVec S_ 1 := andi main_v29 main_v33
  let main_v35 : FVec F S1x1024 .f32 := Host.absf main_arg7
  let main_cst_12 : FVec F S_ .f32 := constant S_ .f32 0x7F800000#32
  let main_v36 : FVec F S1x1024 .f32 := broadcastInDim S1x1024 ![] bcast_S_S1x1024 main_cst_12
  let main_v37 : IVec S1x1024 1 := cmpf .olt main_v35 main_v36
  let main_c_13 : IVec S_ 1 := constantI S_ 1 1#1
  let main_v38 : IVec S_ 1 := (fun x v => Host.reduce IntOp.andi x v reducesTo_S1x1024_S_d0_1 h_S_) main_v37 main_c_13
  let main_v39 : IVec S_ 1 := andi main_v34 main_v38
  let main_v40 : FVec F S1x1024 .f32 := Host.absf main_arg8
  let main_cst_14 : FVec F S_ .f32 := constant S_ .f32 0x7F800000#32
  let main_v41 : FVec F S1x1024 .f32 := broadcastInDim S1x1024 ![] bcast_S_S1x1024 main_cst_14
  let main_v42 : IVec S1x1024 1 := cmpf .olt main_v40 main_v41
  let main_c_15 : IVec S_ 1 := constantI S_ 1 1#1
  let main_v43 : IVec S_ 1 := (fun x v => Host.reduce IntOp.andi x v reducesTo_S1x1024_S_d0_1 h_S_) main_v42 main_c_15
  let main_v44 : IVec S_ 1 := andi main_v39 main_v43
  let main_v45 : FVec F S1024x1024 .f32 := Host.absf main_arg9
  let main_cst_16 : FVec F S_ .f32 := constant S_ .f32 0x7F800000#32
  let main_v46 : FVec F S1024x1024 .f32 := broadcastInDim S1024x1024 ![] bcast_S_S1024x1024 main_cst_16
  let main_v47 : IVec S1024x1024 1 := cmpf .olt main_v45 main_v46
  let main_c_17 : IVec S_ 1 := constantI S_ 1 1#1
  let main_v48 : IVec S_ 1 := (fun x v => Host.reduce IntOp.andi x v reducesTo_S1024x1024_S_d0_1 h_S_) main_v47 main_c_17
  let main_v49 : IVec S_ 1 := andi main_v44 main_v48
  let main_v50 : FVec F S1024x2816 .f32 := Host.absf main_arg10
  let main_cst_18 : FVec F S_ .f32 := constant S_ .f32 0x7F800000#32
  fn_part3 (F := F) main_arg11 main_arg12 main_v49 main_v50 main_cst_18

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024 .f32) (main_arg9 : FVec F S1024x1024 .f32) (main_arg10 : FVec F S1024x2816 .f32) (main_arg11 : FVec F S1024x2816 .f32) (main_arg12 : FVec F S2816x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg7 main_arg8 main_arg9 main_arg10 main_arg11 main_arg12 main_v29 main_v33

def fn {F : FTy → Type} [FloatOps F] (main_arg0 : FVec F S8192x1024 .f32) (main_arg1 : FVec F S8192x1024 .bf16) (main_arg2 : FVec F S8192x1024 .f32) (main_arg3 : FVec F S1x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1024x1024 .f32) (main_arg10 : FVec F S1024x2816 .f32) (main_arg11 : FVec F S1024x2816 .f32) (main_arg12 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_arg5 main_arg6 main_arg7 main_arg8 main_arg9 main_arg10 main_arg11 main_arg12 main_v14 main_v15 main_v16
-- ==== Pre_finite_parts.lean ====
abbrev S8x1x1024 : Shape := ⟨3, ![8, 1, 1024]⟩
abbrev S1x1024 : Shape := ⟨2, ![1, 1024]⟩
abbrev S_ : Shape := ⟨0, ![]⟩

class Facts : Prop where
  bcast_S_S8x1x1024 : S_.BroadcastsInDim S8x1x1024 (![] : Fin 0 → Fin S8x1x1024.rank)
  reducesTo_S8x1x1024_S_d0_1_2 : S8x1x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8x1x1024 .f32) (main_arg1 : FVec F S1x1024 .f32) (main_arg2 : FVec F S1x1024 .f32) (main_arg3 : FVec F S1x1024 .f32) : IVec S_ 1 :=
  let main_v0 : FVec F S8x1x1024 .f32 := Host.absf main_arg0
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_c : IVec S_ 1 := constantI S_ 1 1#1
  let main_v3 : IVec S_ 1 := (fun x v => Host.reduce IntOp.andi x v reducesTo_S8x1x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Kernel.lean ====
abbrev S8192x1024 : Shape := ⟨2, ![8192, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S8192x2816 : Shape := ⟨2, ![8192, 2816]⟩
abbrev S16x1024 : Shape := ⟨2, ![16, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 31
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S_, .f32⟩
  | .hbm, ⟨14, _⟩ => ⟨S1x1024, .f32⟩
  | .hbm, ⟨15, _⟩ => ⟨S8x1024, .f32⟩
  | .hbm, ⟨16, _⟩ => ⟨S1024x1024, .bf16⟩
  | .hbm, ⟨17, _⟩ => ⟨S2816x1024, .f32⟩
  | .hbm, ⟨18, _⟩ => ⟨S2816x1024, .bf16⟩
  | .hbm, ⟨19, _⟩ => ⟨S2816x1024, .f32⟩
  | .hbm, ⟨20, _⟩ => ⟨S2816x1024, .bf16⟩
  | .hbm, ⟨21, _⟩ => ⟨S2816x1024, .bf16⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .hbm, ⟨30, _⟩ => ⟨S16x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S1024x1024, .bf16⟩
  | .local _ .vmem, ⟨8, _⟩ => ⟨S2816x1024, .bf16⟩
  | .local _ .vmem, ⟨9, _⟩ => ⟨S2816x1024, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S16x1024, .f32⟩
  | .local _ .vmem, ⟨28, _⟩ => ⟨S256x2816, .f32⟩
  | .local _ .vmem, ⟨29, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v8_6 : Ref sig .tc := ⟨.hbm, 28, rfl⟩
abbrev main_v8_7 : Ref sig .tc := ⟨.hbm, 29, rfl⟩
abbrev main_v8_8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x1024 : Shape := ⟨2, ![8192, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩
abbrev S9x1024 : Shape := ⟨2, ![9, 1024]⟩
abbrev S16x1024 : Shape := ⟨2, ![16, 1024]⟩

abbrev nBuf : Space → Nat
  | .hbm => 207
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1024x1024, .f32⟩
  | 10 => ⟨S1024x2816, .f32⟩
  | 11 => ⟨S1024x2816, .f32⟩
  | 12 => ⟨S2816x1024, .f32⟩
  | 13 => ⟨S_, .f32⟩
  | 14 => ⟨S8192x1024, .f32⟩
  | 15 => ⟨S_, .f32⟩
  | 16 => ⟨S8192x2816, .f32⟩
  | 17 => ⟨S_, .f32⟩
  | 18 => ⟨S8192x2816, .f32⟩
  | 19 => ⟨S_, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S1x1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x2816, .f32⟩
  | 59 => ⟨S_, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S8192x2816, .f32⟩
  | 69 => ⟨S8192x2816, .f32⟩
  | 70 => ⟨S8192x2816, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S1024, .f32⟩
  | 105 => ⟨S_, .f32⟩
  | 106 => ⟨S1024, .f32⟩
  | 107 => ⟨S1024, .f32⟩
  | 108 => ⟨S_, .f32⟩
  | 109 => ⟨S1024, .f32⟩
  | 110 => ⟨S_, .f32⟩
  | 111 => ⟨S1024, .f32⟩
  | 112 => ⟨S1024, .f32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S8192x2816, .f32⟩
  | 20 => ⟨S8192x2816, .f32⟩
  | 21 => ⟨S8192x2816, .f32⟩
  | 22 => ⟨S8192x2816, .f32⟩
  | 23 => ⟨S8192x2816, .f32⟩
  | 24 => ⟨S8192x2816, .f32⟩
  | 25 => ⟨S8192x2816, .f32⟩
  | 26 => ⟨S8192x1024, .f32⟩
  | 27 => ⟨S8192x1024, .f32⟩
  | 28 => ⟨S8192x1024, .f32⟩
  | 29 => ⟨S_, .f32⟩
  | 30 => ⟨S1024, .f32⟩
  | 31 => ⟨S1x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S8192x1024, .f32⟩
  | 49 => ⟨S8192x1024, .f32⟩
  | 50 => ⟨S8192x1024, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S8192x1024, .f32⟩
  | 69 => ⟨S1x1024, .f32⟩
  | 70 => ⟨S_, .f32⟩
  | 71 => ⟨S9x1024, .f32⟩
  | 72 => ⟨S16x1024, .f32⟩
  | 73 => ⟨S8192x1024, .bf16⟩
  | 74 => ⟨S8192x1024, .bf16⟩
  | 75 => ⟨S8192x1024, .bf16⟩
  | 76 => ⟨S8192x2816, .bf16⟩
  | 77 => ⟨S8192x2816, .bf16⟩
  | 78 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_cst_2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v35_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v35_1 : Ref sig .tc := ⟨.hbm, 68, rfl⟩
abbrev main_v35_0 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_11 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_12 : Ref sig .tc := ⟨.hbm, 97, rfl⟩
abbrev main_v59 : Ref sig .tc := ⟨.hbm, 98, rfl⟩
abbrev main_v60 : Ref sig .tc := ⟨.hbm, 99, rfl⟩
abbrev main_cst_13 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_cst_16 : Ref sig .tc := ⟨.hbm, 108, rfl⟩
abbrev main_v66 : Ref sig .tc := ⟨.hbm, 109, rfl⟩
abbrev main_cst_17 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_18 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_19 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_20 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_21 : Ref sig .tc := ⟨.hbm, 131, rfl⟩
abbrev main_v84 : Ref sig .tc := ⟨.hbm, 132, rfl⟩
abbrev main_v85 : Ref sig .tc := ⟨.hbm, 133, rfl⟩
abbrev main_cst_22 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_23 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_24 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_25 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_26 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_27 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_28 : Ref sig .tc := ⟨.hbm, 180, rfl⟩
abbrev main_v123 : Ref sig .tc := ⟨.hbm, 181, rfl⟩
abbrev main_v124 : Ref sig .tc := ⟨.hbm, 182, rfl⟩
abbrev main_cst_29 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_30 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_31 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S8192x3584 : Shape := ⟨2, ![8192, 3584]⟩
abbrev S1024x1024 : Shape := ⟨2, ![1024, 1024]⟩
abbrev S4x1024x896 : Shape := ⟨3, ![4, 1024, 896]⟩
abbrev S1024x3584 : Shape := ⟨2, ![1024, 3584]⟩
abbrev S1024x128 : Shape := ⟨2, ![1024, 128]⟩
abbrev S1x1024x128 : Shape := ⟨3, ![1, 1024, 128]⟩
abbrev S1024x896 : Shape := ⟨2, ![1024, 896]⟩
abbrev S1x1024x896 : Shape := ⟨3, ![1, 1024, 896]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x1024, .f32⟩
  | .hbm, ⟨3, _⟩ => ⟨S4x1024x896, .f32⟩
  | .local _ .vmem, ⟨0, _⟩ => ⟨S1024x1024, .bf16⟩
  | .local _ .vmem, ⟨1, _⟩ => ⟨S1024x1024, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .f32⟩
  | .local _ .vmem, ⟨5, _⟩ => ⟨S4x1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S8192x1024 : Shape := ⟨2, ![8192, 1024]⟩
abbrev S8192x3584 : Shape := ⟨2, ![8192, 3584]⟩
abbrev S1024x1024 : Shape := ⟨2, ![1024, 1024]⟩
abbrev S_ : Shape := ⟨0, ![]⟩
abbrev S1024x3584 : Shape := ⟨2, ![1024, 3584]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x1024, .f32⟩
  | .hbm, ⟨3, _⟩ => ⟨S_, .f32⟩
  | .hbm, ⟨4, _⟩ => ⟨S1024x3584, .f32⟩
  | .hbm, ⟨5, _⟩ => ⟨S8192x1024, .f32⟩
  | .hbm, ⟨6, _⟩ => ⟨S8192x3584, .f32⟩
  | .hbm, ⟨7, _⟩ => ⟨S1024x1024, .f32⟩
  | .hbm, ⟨8, _⟩ => ⟨S8192x3584, .f32⟩
  | .hbm, ⟨9, _⟩ => ⟨S_, .f32⟩
  | .hbm, ⟨10, _⟩ => ⟨S1024x3584, .f32⟩
  | .hbm, ⟨11, _⟩ => ⟨S3584x1024, .f32⟩
  | .hbm, ⟨12, _⟩ => ⟨S1024x3584, .f32⟩
  | .hbm, ⟨13, _⟩ => ⟨S1024x3584, .f32⟩
  | .hbm, ⟨14, _⟩ => ⟨S1024x4x896, .f32⟩
  | .hbm, ⟨15, _⟩ => ⟨S4x1024x896, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel5.lean ====
abbrev S1 : Shape := ⟨1, ![1]⟩
abbrev S1024x896 : Shape := ⟨2, ![1024, 896]⟩
abbrev S512x896 : Shape := ⟨2, ![512, 896]⟩
abbrev S256x896 : Shape := ⟨2, ![256, 896]⟩

abbrev nBuf : Space → Nat
  | .hbm => 9
  | .vmem => 18
  | .smem => 1
  | _ => 0

abbrev bufTy : (tb : Table) → Fin (tcTables nBuf tb) → BufTy
  | .hbm, ⟨0, _⟩ => ⟨S1024x896, .f32⟩
  | .hbm, ⟨1, _⟩ => ⟨S512x896, .f32⟩
  | .hbm, ⟨2, _⟩ => ⟨S512x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | .local _ .smem, ⟨0, _⟩ => ⟨S1, .i32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1 : Shape := ⟨1, ![1]⟩
abbrev S1024x896 : Shape := ⟨2, ![1024, 896]⟩
abbrev S512x896 : Shape := ⟨2, ![512, 896]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x896, .f32⟩
  | .hbm, ⟨2, _⟩ => ⟨S512x896, .f32⟩
  | .hbm, ⟨3, _⟩ => ⟨S512x896, .f32⟩
  | .hbm, ⟨4, _⟩ => ⟨S1024x896, .f32⟩
  | .hbm, ⟨5, _⟩ => ⟨S1024x896, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x896, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S_, .f32⟩
  | .hbm, ⟨19, _⟩ => ⟨S1024x896, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S_, .f32⟩
  | .hbm, ⟨34, _⟩ => ⟨S1024x896, .f32⟩
  | .hbm, ⟨35, _⟩ => ⟨S1024x896, .f32⟩
  | .hbm, ⟨36, _⟩ => ⟨S1024x896, .f32⟩
  | .hbm, ⟨37, _⟩ => ⟨S_, .f32⟩
  | .hbm, ⟨38, _⟩ => ⟨S1024x896, .f32⟩
  | .hbm, ⟨39, _⟩ => ⟨S1024x896, .f32⟩
  | .hbm, ⟨40, _⟩ => ⟨S1024x896, .f32⟩
  | .hbm, ⟨41, _⟩ => ⟨S_, .f32⟩
  | .hbm, ⟨42, _⟩ => ⟨S1024x896, .f32⟩
  | .hbm, ⟨43, _⟩ => ⟨S1024x896, .f32⟩
  | .hbm, ⟨44, _⟩ => ⟨S1024x896, .f32⟩
  | .hbm, ⟨45, _⟩ => ⟨S_, .f32⟩
  | .hbm, ⟨46, _⟩ => ⟨S1024x896, .f32⟩
  | .hbm, ⟨47, _⟩ => ⟨S1024x896, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel6.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1 : Shape := ⟨1, ![1]⟩
abbrev S256x1024 : Shape := ⟨2, ![256, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel7.lean ====
abbrev S1 : Shape := ⟨1, ![1]⟩
abbrev S704x1024 : Shape := ⟨2, ![704, 1024]⟩
abbrev S352x1024 : Shape := ⟨2, ![352, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1 : Shape := ⟨1, ![1]⟩
abbrev S704x1024 : Shape := ⟨2, ![704, 1024]⟩
abbrev S352x1024 : Shape := ⟨2, ![352, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S352x1024, .f32⟩
  | .hbm, ⟨3, _⟩ => ⟨S352x1024, .f32⟩
  | .hbm, ⟨4, _⟩ => ⟨S704x1024, .f32⟩
  | .hbm, ⟨5, _⟩ => ⟨S704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel8.lean ====
abbrev S8x664x128 : Shape := ⟨3, ![8, 664, 128]⟩
abbrev S608x128 : Shape := ⟨2, ![608, 128]⟩
abbrev S8x128 : Shape := ⟨2, ![8, 128]⟩
abbrev S1x664x128 : Shape := ⟨3, ![1, 664, 128]⟩
abbrev S664x128 : Shape := ⟨2, ![664, 128]⟩
abbrev S48x128 : Shape := ⟨2, ![48, 128]⟩
abbrev S536x128 : Shape := ⟨2, ![536, 128]⟩
abbrev S8 : Shape := ⟨1, ![8]⟩
abbrev S8x1 : Shape := ⟨2, ![8, 1]⟩
abbrev S16x128 : Shape := ⟨2, ![16, 128]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x664x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S608x128, .f32⟩
  | .hbm, ⟨5, _⟩ => ⟨S608x128, .f32⟩
  | .hbm, ⟨6, _⟩ => ⟨S608x128, .f32⟩
  | .hbm, ⟨7, _⟩ => ⟨S608x128, .f32⟩
  | .hbm, ⟨8, _⟩ => ⟨S8x128, .f32⟩
  | .local _ .vmem, ⟨0, _⟩ => ⟨S8x664x128, .f32⟩
  | .local _ .vmem, ⟨1, _⟩ => ⟨S608x128, .f32⟩
  | .local _ .vmem, ⟨2, _⟩ => ⟨S608x128, .f32⟩
  | .local _ .vmem, ⟨3, _⟩ => ⟨S608x128, .f32⟩
  | .local _ .vmem, ⟨4, _⟩ => ⟨S608x128, .f32⟩
  | .local _ .vmem, ⟨5, _⟩ => ⟨S608x128, .f32⟩
  | .local _ .vmem, ⟨6, _⟩ => ⟨S608x128, .f32⟩
  | .local _ .vmem, ⟨7, _⟩ => ⟨S608x128, .f32⟩
  | .local _ .vmem, ⟨8, _⟩ => ⟨S8x128, .f32⟩
  | _, _ => ⟨S8x664x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x664x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S608x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S608x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S608x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S608x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S608x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S608x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S608x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference8Ideal.lean ====
abbrev S8x664x128 : Shape := ⟨3, ![8, 664, 128]⟩
abbrev S608x128 : Shape := ⟨2, ![608, 128]⟩
abbrev S_ : Shape := ⟨0, ![]⟩
abbrev S664x128 : Shape := ⟨2, ![664, 128]⟩
abbrev S48x128 : Shape := ⟨2, ![48, 128]⟩
abbrev S536x128 : Shape := ⟨2, ![536, 128]⟩
abbrev S8x128 : Shape := ⟨2, ![8, 128]⟩
abbrev S16x128 : Shape := ⟨2, ![16, 128]⟩
abbrev S8 : Shape := ⟨1, ![8]⟩
abbrev S8x1 : Shape := ⟨2, ![8, 1]⟩

abbrev nBuf : Space → Nat
  | .hbm => 65
  | .vmem => 0
  | .smem => 0
  | _ => 0

abbrev bufTy : (tb : Table) → Fin (tcTables nBuf tb) → BufTy
  | .hbm, ⟨0, _⟩ => ⟨S8x664x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S_, .f32⟩
  | .hbm, ⟨5, _⟩ => ⟨S664x128, .f32⟩
  | .hbm, ⟨6, _⟩ => ⟨S48x128, .f32⟩
  | .hbm, ⟨7, _⟩ => ⟨S48x128, .f32⟩
  | .hbm, ⟨8, _⟩ => ⟨S536x128, .f32⟩
  | .hbm, ⟨9, _⟩ => ⟨S8x128, .f32⟩
  | .hbm, ⟨10, _⟩ => ⟨S16x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S8x128, .f32⟩
  | .hbm, ⟨27, _⟩ => ⟨S48x128, .f32⟩
  | .hbm, ⟨28, _⟩ => ⟨S608x128, .f32⟩
  | .hbm, ⟨29, _⟩ => ⟨S_, .f32⟩
  | .hbm, ⟨30, _⟩ => ⟨S608x128, .f32⟩
  | .hbm, ⟨31, _⟩ => ⟨S608x128, .f32⟩
  | .hbm, ⟨32, _⟩ => ⟨S_, .f32⟩
  | .hbm, ⟨33, _⟩ => ⟨S608x128, .f32⟩
  | .hbm, ⟨34, _⟩ => ⟨S608x128, .f32⟩
  | .hbm, ⟨35, _⟩ => ⟨S608x128, .f32⟩
  | .hbm, ⟨36, _⟩ => ⟨S_, .f32⟩
  | .hbm, ⟨37, _⟩ => ⟨S608x128, .f32⟩
  | .hbm, ⟨38, _⟩ => ⟨S608x128, .f32⟩
  | .hbm, ⟨39, _⟩ => ⟨S608x128, .f32⟩
  | .hbm, ⟨40, _⟩ => ⟨S_, .f32⟩
  | .hbm, ⟨41, _⟩ => ⟨S608x128, .f32⟩
  | .hbm, ⟨42, _⟩ => ⟨S608x128, .f32⟩
  | .hbm, ⟨43, _⟩ => ⟨S608x128, .f32⟩
  | .hbm, ⟨44, _⟩ => ⟨S_, .f32⟩
  | .hbm, ⟨45, _⟩ => ⟨S608x128, .f32⟩
  | .hbm, ⟨46, _⟩ => ⟨S608x128, .f32⟩
  | .hbm, ⟨47, _⟩ => ⟨S_, .f32⟩
  | .hbm, ⟨48, _⟩ => ⟨S608x128, .f32⟩
  | .hbm, ⟨49, _⟩ => ⟨S608x128, .f32⟩
  | .hbm, ⟨50, _⟩ => ⟨S608x128, .f32⟩
  | .hbm, ⟨51, _⟩ => ⟨S_, .f32⟩
  | .hbm, ⟨52, _⟩ => ⟨S608x128, .f32⟩
  | .hbm, ⟨53, _⟩ => ⟨S608x128, .f32⟩
  | .hbm, ⟨54, _⟩ => ⟨S608x128, .f32⟩
  | .hbm, ⟨55, _⟩ => ⟨S_, .f32⟩
  | .hbm, ⟨56, _⟩ => ⟨S608x128, .f32⟩
  | .hbm, ⟨57, _⟩ => ⟨S608x128, .f32⟩
  | .hbm, ⟨58, _⟩ => ⟨S608x128, .f32⟩
  | .hbm, ⟨59, _⟩ => ⟨S_, .f32⟩
  | .hbm, ⟨60, _⟩ => ⟨S608x128, .f32⟩
  | .hbm, ⟨61, _⟩ => ⟨S608x128, .f32⟩
  | .hbm, ⟨62, _⟩ => ⟨S_, .f32⟩
  | .hbm, ⟨63, _⟩ => ⟨S_, .f32⟩
  | .hbm, ⟨64, _⟩ => ⟨S8x128, .f32⟩
  | _, _ => ⟨S8x664x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel9.lean ====
abbrev S8x1024 : Shape := ⟨2, ![8, 1024]⟩
abbrev S1024 : Shape := ⟨1, ![1024]⟩
abbrev S8x1536 : Shape := ⟨2, ![8, 1536]⟩
abbrev S1024x1536 : Shape := ⟨2, ![1024, 1536]⟩
abbrev S_ : Shape := ⟨0, ![]⟩
abbrev S120x1536 : Shape := ⟨2, ![120, 1536]⟩
abbrev S128x1536 : Shape := ⟨2, ![128, 1536]⟩
abbrev S1024x8 : Shape := ⟨2, ![1024, 8]⟩
abbrev S1024x120 : Shape := ⟨2, ![1024, 120]⟩
abbrev S1024x128 : Shape := ⟨2, ![1024, 128]⟩
abbrev S1024x1 : Shape := ⟨2, ![1024, 1]⟩
abbrev S1x1536 : Shape := ⟨2, ![1, 1536]⟩

abbrev nBuf : Space → Nat
  | .hbm => 15
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S8x1536, .f32⟩
  | .hbm, ⟨3, _⟩ => ⟨S8x1536, .f32⟩
  | .hbm, ⟨4, _⟩ => ⟨S1024x1536, .f32⟩
  | .hbm, ⟨5, _⟩ => ⟨S_, .f32⟩
  | .hbm, ⟨6, _⟩ => ⟨S120x1536, .f32⟩
  | .hbm, ⟨7, _⟩ => ⟨S128x1536, .f32⟩
  | .hbm, ⟨8, _⟩ => ⟨S1024x8, .f32⟩
  | .hbm, ⟨9, _⟩ => ⟨S_, .f32⟩
  | .hbm, ⟨10, _⟩ => ⟨S1024x120, .f32⟩
  | .hbm, ⟨11, _⟩ => ⟨S1024x128, .f32⟩
  | .hbm, ⟨12, _⟩ => ⟨S1024x1, .f32⟩
  | .hbm, ⟨13, _⟩ => ⟨S1024x1536, .f32⟩
  | .hbm, ⟨14, _⟩ => ⟨S8x1024, .f32⟩
  | .local _ .vmem, ⟨0, _⟩ => ⟨S1024x128, .f32⟩
  | .local _ .vmem, ⟨1, _⟩ => ⟨S1024x1, .f32⟩
  | .local _ .vmem, ⟨2, _⟩ => ⟨S128x1536, .f32⟩
  | .local _ .vmem, ⟨3, _⟩ => ⟨S8x1536, .f32⟩
  | .local _ .vmem, ⟨4, _⟩ => ⟨S1024x1536, .f32⟩
  | .local _ .vmem, ⟨5, _⟩ => ⟨S1024x1536, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference9Ideal.lean ====
abbrev S8x1024 : Shape := ⟨2, ![8, 1024]⟩
abbrev S1024 : Shape := ⟨1, ![1024]⟩
abbrev S8x1536 : Shape := ⟨2, ![8, 1536]⟩
abbrev S1024x1536 : Shape := ⟨2, ![1024, 1536]⟩
abbrev S_ : Shape := ⟨0, ![]⟩
abbrev S1x1024 : Shape := ⟨2, ![1, 1024]⟩
abbrev S1x1536 : Shape := ⟨2, ![1, 1536]⟩
abbrev S1536 : Shape := ⟨1, ![1536]⟩
abbrev S1536x1024 : Shape := ⟨2, ![1536, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S8x1536, .f32⟩
  | .hbm, ⟨3, _⟩ => ⟨S8x1536, .f32⟩
  | .hbm, ⟨4, _⟩ => ⟨S1024x1536, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S8x1536, .f32⟩
  | .hbm, ⟨25, _⟩ => ⟨S1x1536, .f32⟩
  | .hbm, ⟨26, _⟩ => ⟨S8x1536, .f32⟩
  | .hbm, ⟨27, _⟩ => ⟨S_, .f32⟩
  | .hbm, ⟨28, _⟩ => ⟨S1536, .f32⟩
  | .hbm, ⟨29, _⟩ => ⟨S1x1536, .f32⟩
  | .hbm, ⟨30, _⟩ => ⟨S1536x1024, .f32⟩
  | .hbm, ⟨31, _⟩ => ⟨S1024x1536, .f32⟩
  | .hbm, ⟨32, _⟩ => ⟨S1x1024, .f32⟩
  | .hbm, ⟨33, _⟩ => ⟨S1536x1024, .f32⟩
  | .hbm, ⟨34, _⟩ => ⟨S1024x1536, .f32⟩
  | .hbm, ⟨35, _⟩ => ⟨S1024x1536, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩

abbrev nD : Nat := 1
abbrev τ : Topo := Topo.v7x

variable {F : FTy → Type} [FloatOps F]
-- ==== Kernel10.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference10Ideal.lean ====
abbrev S8x1x1024 : Shape := ⟨3, ![8, 1, 1024]⟩
abbrev S1x1024 : Shape := ⟨2, ![1, 1024]⟩
abbrev S4x2x1x1024 : Shape := ⟨4, ![4, 2, 1, 1024]⟩
abbrev S4x1x1x1024 : Shape := ⟨4, ![4, 1, 1, 1024]⟩
abbrev S4x1x1024 : Shape := ⟨3, ![4, 1, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x2x1x1024, .f32⟩
  | .hbm, ⟨5, _⟩ => ⟨S4x1x1x1024, .f32⟩
  | .hbm, ⟨6, _⟩ => ⟨S4x1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_cst_5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_v29 : Ref sig .tc := ⟨.hbm, 58, rfl⟩

abbrev nD : Nat := 1
abbrev τ : Topo := Topo.v7x

variable {F : FTy → Type} [FloatOps F]
-- ==== Kernel11.lean ====
abbrev S256x1024 : Shape := ⟨2, ![256, 1024]⟩
abbrev S1x1024 : Shape := ⟨2, ![1, 1024]⟩
abbrev S1024x3584 : Shape := ⟨2, ![1024, 3584]⟩
abbrev S2x4x4x128x128 : Shape := ⟨5, ![2, 4, 4, 128, 128]⟩
abbrev S_ : Shape := ⟨0, ![]⟩
abbrev S8x1024 : Shape := ⟨2, ![8, 1024]⟩
abbrev S1024x4x896 : Shape := ⟨3, ![1024, 4, 896]⟩
abbrev S4x1024x896 : Shape := ⟨3, ![4, 1024, 896]⟩
abbrev S4x128x128 : Shape := ⟨3, ![4, 128, 128]⟩
abbrev S1x1024x128 : Shape := ⟨3, ![1, 1024, 128]⟩
abbrev S1024x128 : Shape := ⟨2, ![1024, 128]⟩
abbrev S1x1x1x128x128 : Shape := ⟨5, ![1, 1, 1, 128, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩

abbrev nBuf : Space → Nat
  | .hbm => 14
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S2x4x4x128x128, .f32⟩
  | .hbm, ⟨6, _⟩ => ⟨S_, .f32⟩
  | .hbm, ⟨7, _⟩ => ⟨S1x1024, .f32⟩
  | .hbm, ⟨8, _⟩ => ⟨S8x1024, .f32⟩
  | .hbm, ⟨9, _⟩ => ⟨S1024x4x896, .f32⟩
  | .hbm, ⟨10, _⟩ => ⟨S4x1024x896, .f32⟩
  | .hbm, ⟨11, _⟩ => ⟨S4x1024x896, .bf16⟩
  | .hbm, ⟨12, _⟩ => ⟨S4x128x128, .f32⟩
  | .hbm, ⟨13, _⟩ => ⟨S4x128x128, .f32⟩
  | .local _ .vmem, ⟨0, _⟩ => ⟨S256x1024, .f32⟩
  | .local _ .vmem, ⟨1, _⟩ => ⟨S8x1024, .f32⟩
  | .local _ .vmem, ⟨2, _⟩ => ⟨S4x1024x896, .bf16⟩
  | .local _ .vmem, ⟨3, _⟩ => ⟨S2x4x4x128x128, .f32⟩
  | .local _ .vmem, ⟨4, _⟩ => ⟨S4x128x128, .f32⟩
  | .local _ .vmem, ⟨5, _⟩ => ⟨S4x128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference11Ideal.lean ====
abbrev S256x1024 : Shape := ⟨2, ![256, 1024]⟩
abbrev S1x1024 : Shape := ⟨2, ![1, 1024]⟩
abbrev S1024x3584 : Shape := ⟨2, ![1024, 3584]⟩
abbrev S2x4x4x128x128 : Shape := ⟨5, ![2, 4, 4, 128, 128]⟩
abbrev S1024x1024 : Shape := ⟨2, ![1024, 1024]⟩
abbrev S2x1x4x128x128 : Shape := ⟨5, ![2, 1, 4, 128, 128]⟩
abbrev S2x4x128x128 : Shape := ⟨4, ![2, 4, 128, 128]⟩
abbrev S_ : Shape := ⟨0, ![]⟩
abbrev S256 : Shape := ⟨1, ![256]⟩
abbrev S256x1 : Shape := ⟨2, ![256, 1]⟩
abbrev S256x512 : Shape := ⟨2, ![256, 512]⟩
abbrev S2x128x4x128 : Shape := ⟨4, ![2, 128, 4, 128]⟩
abbrev S1x4x128x128 : Shape := ⟨4, ![1, 4, 128, 128]⟩
abbrev S4x128x128 : Shape := ⟨3, ![4, 128, 128]⟩

abbrev nBuf : Space → Nat
  | .hbm => 87
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S2x4x4x128x128, .f32⟩
  | .hbm, ⟨6, _⟩ => ⟨S1024x1024, .f32⟩
  | .hbm, ⟨7, _⟩ => ⟨S2x1x4x128x128, .f32⟩
  | .hbm, ⟨8, _⟩ => ⟨S2x4x128x128, .f32⟩
  | .hbm, ⟨9, _⟩ => ⟨S2x1x4x128x128, .f32⟩
  | .hbm, ⟨10, _⟩ => ⟨S2x4x128x128, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x512, .f32⟩
  | .hbm, ⟨35, _⟩ => ⟨S256x512, .f32⟩
  | .hbm, ⟨36, _⟩ => ⟨S2x128x4x128, .f32⟩
  | .hbm, ⟨37, _⟩ => ⟨S2x4x128x128, .f32⟩
  | .hbm, ⟨38, _⟩ => ⟨S_, .f32⟩
  | .hbm, ⟨39, _⟩ => ⟨S2x4x128x128, .f32⟩
  | .hbm, ⟨40, _⟩ => ⟨S2x4x128x128, .f32⟩
  | .hbm, ⟨41, _⟩ => ⟨S2x128x4x128, .f32⟩
  | .hbm, ⟨42, _⟩ => ⟨S2x4x128x128, .f32⟩
  | .hbm, ⟨43, _⟩ => ⟨S1x4x128x128, .f32⟩
  | .hbm, ⟨44, _⟩ => ⟨S4x128x128, .f32⟩
  | .hbm, ⟨45, _⟩ => ⟨S1x4x128x128, .f32⟩
  | .hbm, ⟨46, _⟩ => ⟨S4x128x128, .f32⟩
  | .hbm, ⟨47, _⟩ => ⟨S_, .f32⟩
  | .hbm, ⟨48, _⟩ => ⟨S4x128x128, .f32⟩
  | .hbm, ⟨49, _⟩ => ⟨S4x128x128, .f32⟩
  | .hbm, ⟨50, _⟩ => ⟨S1x4x128x128, .f32⟩
  | .hbm, ⟨51, _⟩ => ⟨S4x128x128, .f32⟩
  | .hbm, ⟨52, _⟩ => ⟨S1x4x128x128, .f32⟩
  | .hbm, ⟨53, _⟩ => ⟨S4x128x128, .f32⟩
  | .hbm, ⟨54, _⟩ => ⟨S4x128x128, .f32⟩
  | .hbm, ⟨55, _⟩ => ⟨S4x128x128, .f32⟩
  | .hbm, ⟨56, _⟩ => ⟨S4x128x128, .f32⟩
  | .hbm, ⟨57, _⟩ => ⟨S4x128x128, .f32⟩
  | .hbm, ⟨58, _⟩ => ⟨S1x4x128x128, .f32⟩
  | .hbm, ⟨59, _⟩ => ⟨S4x128x128, .f32⟩
  | .hbm, ⟨60, _⟩ => ⟨S1x4x128x128, .f32⟩
  | .hbm, ⟨61, _⟩ => ⟨S4x128x128, .f32⟩
  | .hbm, ⟨62, _⟩ => ⟨S4x128x128, .f32⟩
  | .hbm, ⟨63, _⟩ => ⟨S4x128x128, .f32⟩
  | .hbm, ⟨64, _⟩ => ⟨S4x128x128, .f32⟩
  | .hbm, ⟨65, _⟩ => ⟨S1x4x128x128, .f32⟩
  | .hbm, ⟨66, _⟩ => ⟨S4x128x128, .f32⟩
  | .hbm, ⟨67, _⟩ => ⟨S1x4x128x128, .f32⟩
  | .hbm, ⟨68, _⟩ => ⟨S4x128x128, .f32⟩
  | .hbm, ⟨69, _⟩ => ⟨S_, .f32⟩
  | .hbm, ⟨70, _⟩ => ⟨S4x128x128, .f32⟩
  | .hbm, ⟨71, _⟩ => ⟨S4x128x128, .f32⟩
  | .hbm, ⟨72, _⟩ => ⟨S1x4x128x128, .f32⟩
  | .hbm, ⟨73, _⟩ => ⟨S4x128x128, .f32⟩
  | .hbm, ⟨74, _⟩ => ⟨S1x4x128x128, .f32⟩
  | .hbm, ⟨75, _⟩ => ⟨S4x128x128, .f32⟩
  | .hbm, ⟨76, _⟩ => ⟨S4x128x128, .f32⟩
  | .hbm, ⟨77, _⟩ => ⟨S4x128x128, .f32⟩
  | .hbm, ⟨78, _⟩ => ⟨S4x128x128, .f32⟩
  | .hbm, ⟨79, _⟩ => ⟨S4x128x128, .f32⟩
  | .hbm, ⟨80, _⟩ => ⟨S1x4x128x128, .f32⟩
  | .hbm, ⟨81, _⟩ => ⟨S4x128x128, .f32⟩
  | .hbm, ⟨82, _⟩ => ⟨S1x4x128x128, .f32⟩
  | .hbm, ⟨83, _⟩ => ⟨S4x128x128, .f32⟩
  | .hbm, ⟨84, _⟩ => ⟨S4x128x128, .f32⟩
  | .hbm, ⟨85, _⟩ => ⟨S4x128x128, .f32⟩
  | .hbm, ⟨86, _⟩ => ⟨S4x128x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]
-- ==== Kernel12.lean ====
abbrev S2x4x4x128x128 : Shape := ⟨5, ![2, 4, 4, 128, 128]⟩
abbrev S2x2x4x128x128 : Shape := ⟨5, ![2, 2, 4, 128, 128]⟩
abbrev S4x128x128 : Shape := ⟨3, ![4, 128, 128]⟩
abbrev S8x128 : Shape := ⟨2, ![8, 128]⟩
abbrev S128x128 : Shape := ⟨2, ![128, 128]⟩
abbrev S1x1x1x128x128 : Shape := ⟨5, ![1, 1, 1, 128, 128]⟩
abbrev S128 : Shape := ⟨1, ![128]⟩
abbrev S1x128 : Shape := ⟨2, ![1, 128]⟩
abbrev S1x128x128 : Shape := ⟨3, ![1, 128, 128]⟩

abbrev nBuf : Space → Nat
  | .hbm => 6
  | .vmem => 6
  | .smem => 0
  | _ => 0

abbrev bufTy : (tb : Table) → Fin (tcTables nBuf tb) → BufTy
  | .hbm, ⟨0, _⟩ => ⟨S2x4x4x128x128, .f32⟩
  | .hbm, ⟨1, _⟩ => ⟨S2x2x4x128x128, .f32⟩
  | .hbm, ⟨2, _⟩ => ⟨S2x4x4x128x128, .f32⟩
  | .hbm, ⟨3, _⟩ => ⟨S4x128x128, .f32⟩
  | .hbm, ⟨4, _⟩ => ⟨S8x128, .f32⟩
  | .hbm, ⟨5, _⟩ => ⟨S8x128, .f32⟩
  | .local _ .vmem, ⟨0, _⟩ => ⟨S2x4x4x128x128, .f32⟩
  | .local _ .vmem, ⟨1, _⟩ => ⟨S2x2x4x128x128, .f32⟩
  | .local _ .vmem, ⟨2, _⟩ => ⟨S2x4x4x128x128, .f32⟩
  | .local _ .vmem, ⟨3, _⟩ => ⟨S4x128x128, .f32⟩
  | .local _ .vmem, ⟨4, _⟩ => ⟨S8x128, .f32⟩
  | .local _ .vmem, ⟨5, _⟩ => ⟨S8x128, .f32⟩
  | _, _ => ⟨S2x4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x4x4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference12Ideal.lean ====
abbrev S2x4x4x128x128 : Shape := ⟨5, ![2, 4, 4, 128, 128]⟩
abbrev S2x2x4x128x128 : Shape := ⟨5, ![2, 2, 4, 128, 128]⟩
abbrev S4x128x128 : Shape := ⟨3, ![4, 128, 128]⟩
abbrev S_ : Shape := ⟨0, ![]⟩
abbrev S2x4x128 : Shape := ⟨3, ![2, 4, 128]⟩
abbrev S2x1x4x128 : Shape := ⟨4, ![2, 1, 4, 128]⟩
abbrev S2x4x4x128 : Shape := ⟨4, ![2, 4, 4, 128]⟩
abbrev S2x4x4x1x128 : Shape := ⟨5, ![2, 4, 4, 1, 128]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x128x128 : Shape := ⟨3, ![1, 128, 128]⟩
abbrev S1x4x128x128 : Shape := ⟨4, ![1, 4, 128, 128]⟩
abbrev S2x4x128x128 : Shape := ⟨4, ![2, 4, 128, 128]⟩
abbrev S2x4x1x128x128 : Shape := ⟨5, ![2, 4, 1, 128, 128]⟩
abbrev S4x128 : Shape := ⟨2, ![4, 128]⟩
abbrev S4x128x1 : Shape := ⟨3, ![4, 128, 1]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S2x4x4x128x128, .f32⟩
  | .hbm, ⟨1, _⟩ => ⟨S2x2x4x128x128, .f32⟩
  | .hbm, ⟨2, _⟩ => ⟨S2x4x4x128x128, .f32⟩
  | .hbm, ⟨3, _⟩ => ⟨S4x128x128, .f32⟩
  | .hbm, ⟨4, _⟩ => ⟨S2x2x4x128x128, .f32⟩
  | .hbm, ⟨5, _⟩ => ⟨S2x2x4x128x128, .f32⟩
  | .hbm, ⟨6, _⟩ => ⟨S2x2x4x128x128, .f32⟩
  | .hbm, ⟨7, _⟩ => ⟨S2x4x4x128x128, .f32⟩
  | .hbm, ⟨8, _⟩ => ⟨S_, .f32⟩
  | .hbm, ⟨9, _⟩ => ⟨S2x4x128, .f32⟩
  | .hbm, ⟨10, _⟩ => ⟨S2x1x4x128, .f32⟩
  | .hbm, ⟨11, _⟩ => ⟨S2x4x4x128, .f32⟩
  | .hbm, ⟨12, _⟩ => ⟨S2x4x4x1x128, .f32⟩
  | .hbm, ⟨13, _⟩ => ⟨S128, .i32⟩
  | .hbm, ⟨14, _⟩ => ⟨S128, .f32⟩
  | .hbm, ⟨15, _⟩ => ⟨S128x1, .f32⟩
  | .hbm, ⟨16, _⟩ => ⟨S128x128, .f32⟩
  | .hbm, ⟨17, _⟩ => ⟨S1x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S1x128x128, .f32⟩
  | .hbm, ⟨30, _⟩ => ⟨S1x128x128, .f32⟩
  | .hbm, ⟨31, _⟩ => ⟨S1x128x128, .f32⟩
  | .hbm, ⟨32, _⟩ => ⟨S1x128x128, .f32⟩
  | .hbm, ⟨33, _⟩ => ⟨S4x128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S1x128x128, .f32⟩
  | .hbm, ⟨40, _⟩ => ⟨S1x128x128, .f32⟩
  | .hbm, ⟨41, _⟩ => ⟨S1x128x128, .f32⟩
  | .hbm, ⟨42, _⟩ => ⟨S1x128x128, .f32⟩
  | .hbm, ⟨43, _⟩ => ⟨S4x128x128, .f32⟩
  | .hbm, ⟨44, _⟩ => ⟨S1x4x128x128, .f32⟩
  | .hbm, ⟨45, _⟩ => ⟨S1x4x128x128, .f32⟩
  | .hbm, ⟨46, _⟩ => ⟨S2x4x128x128, .f32⟩
  | .hbm, ⟨47, _⟩ => ⟨S2x4x1x128x128, .f32⟩
  | .hbm, ⟨48, _⟩ => ⟨S2x4x4x128x128, .f32⟩
  | .hbm, ⟨49, _⟩ => ⟨S2x4x4x128x128, .f32⟩
  | .hbm, ⟨50, _⟩ => ⟨S2x4x4x128x128, .f32⟩
  | .hbm, ⟨51, _⟩ => ⟨S2x4x4x128x128, .f32⟩
  | .hbm, ⟨52, _⟩ => ⟨S2x4x4x128x128, .f32⟩
  | .hbm, ⟨53, _⟩ => ⟨S2x4x4x128x128, .f32⟩
  | .hbm, ⟨54, _⟩ => ⟨S2x4x4x128x128, .f32⟩
  | .hbm, ⟨55, _⟩ => ⟨S2x4x4x128x128, .f32⟩
  | .hbm, ⟨56, _⟩ => ⟨S2x4x4x128x128, .f32⟩
  | .hbm, ⟨57, _⟩ => ⟨S_, .f32⟩
  | .hbm, ⟨58, _⟩ => ⟨S2x4x4x128, .f32⟩
  | .hbm, ⟨59, _⟩ => ⟨S2x4x4x1x128, .f32⟩
  | .hbm, ⟨60, _⟩ => ⟨S_, .f32⟩
  | .hbm, ⟨61, _⟩ => ⟨S2x4x4x128, .f32⟩
  | .hbm, ⟨62, _⟩ => ⟨S_, .f32⟩
  | .hbm, ⟨63, _⟩ => ⟨S2x4x128, .f32⟩
  | .hbm, ⟨64, _⟩ => ⟨S2x1x4x128, .f32⟩
  | .hbm, ⟨65, _⟩ => ⟨S_, .f32⟩
  | .hbm, ⟨66, _⟩ => ⟨S2x4x128, .f32⟩
  | .hbm, ⟨67, _⟩ => ⟨S_, .f32⟩
  | .hbm, ⟨68, _⟩ => ⟨S4x128, .f32⟩
  | .hbm, ⟨69, _⟩ => ⟨S4x128x1, .f32⟩
  | .hbm, ⟨70, _⟩ => ⟨S4x128x128, .f32⟩
  | .hbm, ⟨71, _⟩ => ⟨S_, .f32⟩
  | .hbm, ⟨72, _⟩ => ⟨S4x128, .f32⟩
  | .hbm, ⟨73, _⟩ => ⟨S4x128x1, .f32⟩
  | .hbm, ⟨74, _⟩ => ⟨S_, .f32⟩
  | .hbm, ⟨75, _⟩ => ⟨S4x128, .f32⟩
  | .hbm, ⟨76, _⟩ => ⟨S8x128, .f32⟩
  | .hbm, ⟨77, _⟩ => ⟨S_, .f32⟩
  | .hbm, ⟨78, _⟩ => ⟨S4x128, .f32⟩
  | .hbm, ⟨79, _⟩ => ⟨S8x128, .f32⟩
  | _, _ => ⟨S2x4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel13.lean ====
abbrev S1x4 : Shape := ⟨2, ![1, 4]⟩
abbrev S4 : Shape := ⟨1, ![4]⟩
abbrev S8 : Shape := ⟨1, ![8]⟩
abbrev S8x1x1 : Shape := ⟨3, ![8, 1, 1]⟩
abbrev S8x128x128 : Shape := ⟨3, ![8, 128, 128]⟩
abbrev S2x4x4x128x128 : Shape := ⟨5, ![2, 4, 4, 128, 128]⟩
abbrev S128x128 : Shape := ⟨2, ![128, 128]⟩
abbrev S1x128x128 : Shape := ⟨3, ![1, 128, 128]⟩
abbrev S1x1x1x128x128 : Shape := ⟨5, ![1, 1, 1, 128, 128]⟩

abbrev nBuf : Space → Nat
  | .hbm => 8
  | .vmem => 2
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S4, .f32⟩
  | .hbm, ⟨3, _⟩ => ⟨S4, .f32⟩
  | .hbm, ⟨4, _⟩ => ⟨S8, .f32⟩
  | .hbm, ⟨5, _⟩ => ⟨S8x1x1, .f32⟩
  | .hbm, ⟨6, _⟩ => ⟨S8x128x128, .f32⟩
  | .hbm, ⟨7, _⟩ => ⟨S2x4x4x128x128, .f32⟩
  | .local _ .vmem, ⟨0, _⟩ => ⟨S8x128x128, .f32⟩
  | .local _ .vmem, ⟨1, _⟩ => ⟨S2x4x4x128x128, .f32⟩
  | _, _ => ⟨S1x4, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference13Ideal.lean ====
abbrev S1x4 : Shape := ⟨2, ![1, 4]⟩
abbrev S4 : Shape := ⟨1, ![4]⟩
abbrev S_ : Shape := ⟨0, ![]⟩
abbrev S2x4 : Shape := ⟨2, ![2, 4]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x128x128 : Shape := ⟨3, ![1, 128, 128]⟩
abbrev S4x128x128 : Shape := ⟨3, ![4, 128, 128]⟩
abbrev S1x4x128x128 : Shape := ⟨4, ![1, 4, 128, 128]⟩
abbrev S2x4x128x128 : Shape := ⟨4, ![2, 4, 128, 128]⟩
abbrev S2x1x128x128 : Shape := ⟨4, ![2, 1, 128, 128]⟩
abbrev S2x128x128 : Shape := ⟨3, ![2, 128, 128]⟩
abbrev S2x4x1x1 : Shape := ⟨4, ![2, 4, 1, 1]⟩
abbrev S2x1x4x1x1 : Shape := ⟨5, ![2, 1, 4, 1, 1]⟩
abbrev S2x3x128x128 : Shape := ⟨4, ![2, 3, 128, 128]⟩
abbrev S2x3x1x128x128 : Shape := ⟨5, ![2, 3, 1, 128, 128]⟩
abbrev S2x3x4x128x128 : Shape := ⟨5, ![2, 3, 4, 128, 128]⟩
abbrev S2x1x4x128x128 : Shape := ⟨5, ![2, 1, 4, 128, 128]⟩
abbrev S2x4x4x128x128 : Shape := ⟨5, ![2, 4, 4, 128, 128]⟩

abbrev nBuf : Space → Nat
  | .hbm => 101
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S4, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4, .i1⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .i1⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S1x4, .f32⟩
  | .hbm, ⟨37, _⟩ => ⟨S1x4, .f32⟩
  | .hbm, ⟨38, _⟩ => ⟨S2x4, .f32⟩
  | .hbm, ⟨39, _⟩ => ⟨S128, .i32⟩
  | .hbm, ⟨40, _⟩ => ⟨S128, .f32⟩
  | .hbm, ⟨41, _⟩ => ⟨S128x1, .f32⟩
  | .hbm, ⟨42, _⟩ => ⟨S128x128, .f32⟩
  | .hbm, ⟨43, _⟩ => ⟨S1x128, .f32⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S1x128x128, .f32⟩
  | .hbm, ⟨56, _⟩ => ⟨S1x128x128, .f32⟩
  | .hbm, ⟨57, _⟩ => ⟨S1x128x128, .f32⟩
  | .hbm, ⟨58, _⟩ => ⟨S1x128x128, .f32⟩
  | .hbm, ⟨59, _⟩ => ⟨S4x128x128, .f32⟩
  | .hbm, ⟨60, _⟩ => ⟨S128x128, .f32⟩
  | .hbm, ⟨61, _⟩ => ⟨S_, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S1x128x128, .f32⟩
  | .hbm, ⟨69, _⟩ => ⟨S4x128x128, .f32⟩
  | .hbm, ⟨70, _⟩ => ⟨S1x4x128x128, .f32⟩
  | .hbm, ⟨71, _⟩ => ⟨S1x4x128x128, .f32⟩
  | .hbm, ⟨72, _⟩ => ⟨S2x4x128x128, .f32⟩
  | .hbm, ⟨73, _⟩ => ⟨S2x1x128x128, .f32⟩
  | .hbm, ⟨74, _⟩ => ⟨S2x128x128, .f32⟩
  | .hbm, ⟨75, _⟩ => ⟨S2x1x128x128, .f32⟩
  | .hbm, ⟨76, _⟩ => ⟨S_, .f32⟩
  | .hbm, ⟨77, _⟩ => ⟨S2x1x128x128, .f32⟩
  | .hbm, ⟨78, _⟩ => ⟨S2x1x128x128, .i1⟩
  | .hbm, ⟨79, _⟩ => ⟨S2x4x1x1, .f32⟩
  | .hbm, ⟨80, _⟩ => ⟨S_, .f32⟩
  | .hbm, ⟨81, _⟩ => ⟨S2x1x128x128, .f32⟩
  | .hbm, ⟨82, _⟩ => ⟨S2x1x128x128, .f32⟩
  | .hbm, ⟨83, _⟩ => ⟨S2x4x128x128, .f32⟩
  | .hbm, ⟨84, _⟩ => ⟨S2x4x128x128, .f32⟩
  | .hbm, ⟨85, _⟩ => ⟨S2x4x128x128, .f32⟩
  | .hbm, ⟨86, _⟩ => ⟨S2x4x128x128, .f32⟩
  | .hbm, ⟨87, _⟩ => ⟨S_, .f32⟩
  | .hbm, ⟨88, _⟩ => ⟨S_, .f32⟩
  | .hbm, ⟨89, _⟩ => ⟨S2x4x128x128, .i1⟩
  | .hbm, ⟨90, _⟩ => ⟨S2x4x128x128, .f32⟩
  | .hbm, ⟨91, _⟩ => ⟨S2x4x128x128, .f32⟩
  | .hbm, ⟨92, _⟩ => ⟨S2x1x4x1x1, .f32⟩
  | .hbm, ⟨93, _⟩ => ⟨S2x3x128x128, .f32⟩
  | .hbm, ⟨94, _⟩ => ⟨S2x3x1x128x128, .f32⟩
  | .hbm, ⟨95, _⟩ => ⟨S2x3x4x128x128, .f32⟩
  | .hbm, ⟨96, _⟩ => ⟨S2x3x4x128x128, .f32⟩
  | .hbm, ⟨97, _⟩ => ⟨S2x3x4x128x128, .f32⟩
  | .hbm, ⟨98, _⟩ => ⟨S2x3x4x128x128, .f32⟩
  | .hbm, ⟨99, _⟩ => ⟨S2x1x4x128x128, .f32⟩
  | .hbm, ⟨100, _⟩ => ⟨S2x4x4x128x128, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_v6 : Ref sig .tc := ⟨.hbm, 28, rfl⟩
abbrev main_call1_call0_v7 : Ref sig .tc := ⟨.hbm, 29, rfl⟩
abbrev main_call1_call0_v8 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_v11 : Ref sig .tc := ⟨.hbm, 33, rfl⟩
abbrev main_call1_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_cst_0 : Ref sig .tc := ⟨.hbm, 48, rfl⟩
abbrev main_v15 : Ref sig .tc := ⟨.hbm, 49, rfl⟩
abbrev main_v16 : Ref sig .tc := ⟨.hbm, 50, rfl⟩
abbrev main_cst_1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_3 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_4 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_5 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩

abbrev nD : Nat := 1
abbrev τ : Topo := Topo.v7x

variable {F : FTy → Type} [FloatOps F]
-- ==== Proof.Spec.lean ====
/- The step after the mixer for ONE token, over the real numbers: the output projection and its gated residual, the
   second norm with its modulation, the gated MLP and its gated residual, the final norm and the squared error; and the
   gradient of all of it, written stage by stage in the order of the chain rule. A token's row of each array the kernel
   returns is one of these functions, and so is a token's part of each accumulated row. -/
module

public import Idealize.ShloMosaic.PureOps.Ideal

@[expose] public section

noncomputable section

namespace Cert.Post

/-- What all tokens share: the gates, norm weights, shift and scale, and the four weight matrices. -/
structure Par where
  g1 : Fin 1024 → ℝ
  n2 : Fin 1024 → ℝ
  sh : Fin 1024 → ℝ
  sc : Fin 1024 → ℝ
  g2 : Fin 1024 → ℝ
  nf : Fin 1024 → ℝ
  wo : Fin 1024 → Fin 1024 → ℝ
  wg : Fin 1024 → Fin 2816 → ℝ
  wu : Fin 1024 → Fin 2816 → ℝ
  wd : Fin 2816 → Fin 1024 → ℝ

/-- One token's rows: the residual stream, the mixer's output and the target. -/
structure Row where
  x : Fin 1024 → ℝ
  yc : Fin 1024 → ℝ
  tg : Fin 1024 → ℝ

/-- The norm's guard: the float nearest to one millionth, as a rational. -/
def eps : ℝ := 8796093 / 8796093022208

theorem eps_pos : 0 < eps := by unfold eps; norm_num

/-- Mean square plus the guard. -/
def ms (v : Fin 1024 → ℝ) : ℝ := (∑ j, v j * v j) / 1024 + eps

theorem ms_pos (v : Fin 1024 → ℝ) : 0 < ms v :=
  add_pos_of_nonneg_of_pos (div_nonneg (Finset.sum_nonneg fun j _ => mul_self_nonneg (v j)) (by norm_num)) eps_pos

/-- The norm's factor. -/
def rr (v : Fin 1024 → ℝ) : ℝ := (Real.sqrt (ms v))⁻¹

theorem rr_sq (v : Fin 1024 → ℝ) : rr v * rr v = (ms v)⁻¹ := by
  unfold rr; rw [← mul_inv, Real.mul_self_sqrt (ms_pos v).le]

/-- The logistic function. -/
def sg (a : ℝ) : ℝ := (1 + Real.exp (-a))⁻¹

/-- The gradient through `v ↦ v · rr v`, in the normed row: `xn` is `v · rr v`. -/
def normB (r : ℝ) (xn g : Fin 1024 → ℝ) (j : Fin 1024) : ℝ := r * (g j - xn j * ((∑ k, g k * xn k) / 1024))

section
variable (p : Par) (q : Row)

def y (j : Fin 1024) : ℝ := ∑ k, q.yc k * p.wo k j
def x1 (j : Fin 1024) : ℝ := q.x j + p.g1 j * y p q j
def xn2 (j : Fin 1024) : ℝ := x1 p q j * rr (x1 p q)
def t2 (j : Fin 1024) : ℝ := xn2 p q j * p.n2 j
def h2 (j : Fin 1024) : ℝ := t2 p q j * (1 + p.sc j) + p.sh j
def ga (c : Fin 2816) : ℝ := ∑ k, h2 p q k * p.wg k c
def up (c : Fin 2816) : ℝ := ∑ k, h2 p q k * p.wu k c
def act (c : Fin 2816) : ℝ := ga p q c * sg (ga p q c) * up p q c
def f (j : Fin 1024) : ℝ := ∑ c, act p q c * p.wd c j
def x2 (j : Fin 1024) : ℝ := x1 p q j + p.g2 j * f p q j
def xn3 (j : Fin 1024) : ℝ := x2 p q j * rr (x2 p q)
def err (j : Fin 1024) : ℝ := xn3 p q j * p.nf j - q.tg j
def dout (j : Fin 1024) : ℝ := err p q j * (1 / 1024)
def gg (j : Fin 1024) : ℝ := dout p q j * p.nf j
def dx2 (j : Fin 1024) : ℝ := normB (rr (x2 p q)) (xn3 p q) (gg p q) j
def df (j : Fin 1024) : ℝ := p.g2 j * dx2 p q j
def dact (c : Fin 2816) : ℝ := ∑ k, df p q k * p.wd c k
def da (c : Fin 2816) : ℝ := dact p q c * up p q c * (sg (ga p q c) * (1 + ga p q c * (1 - sg (ga p q c))))
def db (c : Fin 2816) : ℝ := dact p q c * (ga p q c * sg (ga p q c))
def dh2 (j : Fin 1024) : ℝ := (∑ c, da p q c * p.wg j c) + ∑ c, db p q c * p.wu j c
def gx (j : Fin 1024) : ℝ := dh2 p q j * p.n2 j * (1 + p.sc j)
def dx1 (j : Fin 1024) : ℝ := dx2 p q j + normB (rr (x1 p q)) (xn2 p q) (gx p q) j
def dy (j : Fin 1024) : ℝ := p.g1 j * dx1 p q j
def dyc (j : Fin 1024) : ℝ := ∑ k, dy p q k * p.wo j k

/-- A token's part of accumulated row `k`: the gradients of the first gate, the norm weight, the shift, the scale, the
    second gate and the final norm's weight, then the squared error; the rows below hold nothing. -/
def part (k : Fin 16) (j : Fin 1024) : ℝ :=
  match k with
  | 0 => dx1 p q j * y p q j
  | 1 => dh2 p q j * xn2 p q j * (1 + p.sc j)
  | 2 => dh2 p q j
  | 3 => dh2 p q j * t2 p q j
  | 4 => dx2 p q j * f p q j
  | 5 => dout p q j * xn3 p q j
  | 6 => err p q j * err p q j * (1 / 2048)
  | _ => 0

end

end Cert.Post

end
-- ==== Proof.Coe.lean ====
/- Real numbers inside the extended reals: the constants both programs print, and the few operations a real argument
   takes to a real result. -/
module

public import proofs.«01_k».proof.Proof.Spec
public import Idealize.ShloMosaic.Lib.Pointwise
public import Idealize.ShloMosaic.Lib.IdealHost
public import Idealize.ShloMosaic.PureOps.Ideal.Laws

@[expose] public section

noncomputable section

namespace Cert.Post

open Idealize.ShloMosaic

theorem c1024 : Ideal.ofBits .f32 0x44800000#32 = ((1024 : ℝ) : EReal) := by
  simp [Ideal.ofBits, Ideal.ieee, -EReal.coe_mul]; norm_num
theorem ceps : Ideal.ofBits .f32 0x358637BD#32 = ((eps : ℝ) : EReal) := by
  unfold eps; simp [Ideal.ofBits, Ideal.ieee, -EReal.coe_mul]; norm_num
theorem c2048th : Ideal.ofBits .f32 0x3A000000#32 = ((1 / 2048 : ℝ) : EReal) := by
  simp [Ideal.ofBits, Ideal.ieee, -EReal.coe_mul]; norm_num
theorem c1024th : Ideal.ofBits .f32 0x3A800000#32 = ((1 / 1024 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem cneghalf : Ideal.ofBits .f32 0xBF000000#32 = ((-(1 / 2) : ℝ) : EReal) := by
  simp [Ideal.ofBits, Ideal.ieee, -EReal.coe_mul]; norm_num
theorem ctwo : Ideal.ofBits .f32 0x40000000#32 = ((2 : ℝ) : EReal) := by
  simp [Ideal.ofBits, Ideal.ieee, -EReal.coe_mul]; norm_num

theorem sum_coe {ι : Type*} (s : Finset ι) (g : ι → ℝ) : ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul, mul_one_div]

theorem rsqrt_ms (v : Fin 1024 → ℝ) : Ideal.rsqrt ((ms v : ℝ) : EReal) = ((rr v : ℝ) : EReal) := by
  rw [Ideal.rsqrt_coe, if_neg (not_lt.mpr (ms_pos v).le), if_neg (ms_pos v).ne']; rfl

theorem logistic_real (a : ℝ) : Ideal.logistic ((a : ℝ) : EReal) = ((sg a : ℝ) : EReal) := Ideal.logistic_coe a

theorem one_coe : (1 : EReal) = ((1 : ℝ) : EReal) := EReal.coe_one.symm
theorem zero_coe : (0 : EReal) = ((0 : ℝ) : EReal) := EReal.coe_zero.symm

/-- An extended real of finite size is a real number. -/
theorem coe_toReal_of_abs_lt {v : EReal} (h : max v (-v) < ⊤) : ((v.toReal : ℝ) : EReal) = v :=
  EReal.coe_toReal (fun e => by rw [e] at h; simp at h) (fun e => by rw [e] at h; simp at h)

end Cert.Post

end
-- ==== Proof.PayFwd.lean ====
/- What one grid point's body computes on a tile of 256 tokens, forward part: each value of the body, at token `r` of the
   tile, is the real function of `Spec.lean` it is named after, when the tile's blocks hold real numbers. -/
module

public import proofs.«01_k».proof.Proof.Coe
public import proofs.«01_k».proof.Proof.Gen.KernelIdeal.Skeleton

@[expose] public section

set_option maxRecDepth 16384

noncomputable section

namespace Cert.Post

open Cert.KernelIdeal Cert.KernelIdeal.Gen Idealize.ShloMosaic

/-- A tile block holds the real rows `g`. -/
abbrev Holds {a b : ℕ} (v : (⟨2, ![a, b]⟩ : Shape).Idx → EReal) (g : Fin a → Fin b → ℝ) : Prop :=
  ∀ r j, v (ix2 r j) = ((g r j : ℝ) : EReal)

section
variable (p : Par) (q : Fin 256 → Row)

theorem pay12 {v15 : Vec Ideal S256x1024 .bf16} {v16 : Vec Ideal S1024x1024 .bf16}
    (h15 : Holds v15 fun r => (q r).yc) (h16 : Holds v16 p.wo) :
    Holds (k0_pay12 v15 v16) fun r => y p (q r) := by
  intro r j
  unfold k0_pay12
  pointwise
  simp only [h15 _ _, h16 _ _, ← EReal.coe_mul, sum_coe]
  rfl

theorem pay13 {v3 : Vec Ideal S1x1024 .f32} {v15 : Vec Ideal S256x1024 .bf16} {v16 : Vec Ideal S1024x1024 .bf16}
    {v19 : Vec Ideal S256x1024 .f32} (h3 : Holds v3 fun _ => p.g1)
    (h15 : Holds v15 fun r => (q r).yc) (h16 : Holds v16 p.wo) (h19 : Holds v19 fun r => (q r).x) :
    Holds (k0_pay13 v3 v15 v16 v19) fun r => x1 p (q r) := by
  intro r j
  unfold k0_pay13 k0_pay6
  pointwise
  simp only [h3 _ _, h19 _ _, pay12 p q h15 h16 _ _, ← EReal.coe_mul, ← EReal.coe_add]
  rfl

theorem pay14 {v3 : Vec Ideal S1x1024 .f32} {v15 : Vec Ideal S256x1024 .bf16} {v16 : Vec Ideal S1024x1024 .bf16}
    {v19 : Vec Ideal S256x1024 .f32} (h3 : Holds v3 fun _ => p.g1)
    (h15 : Holds v15 fun r => (q r).yc) (h16 : Holds v16 p.wo) (h19 : Holds v19 fun r => (q r).x) :
    Holds (k0_pay14 v3 v15 v16 v19) fun r _ => rr (x1 p (q r)) := by
  intro r j
  unfold k0_pay14
  pointwise
  simp only [pay13 p q h3 h15 h16 h19 _ _, c1024, ceps, ← EReal.coe_mul, ← EReal.coe_add, sum_coe, div_real _ _ (by norm_num : (1024 : ℝ) ≠ 0)]
  exact rsqrt_ms _

theorem pay15 {v3 : Vec Ideal S1x1024 .f32} {v15 : Vec Ideal S256x1024 .bf16} {v16 : Vec Ideal S1024x1024 .bf16}
    {v19 : Vec Ideal S256x1024 .f32} (h3 : Holds v3 fun _ => p.g1)
    (h15 : Holds v15 fun r => (q r).yc) (h16 : Holds v16 p.wo) (h19 : Holds v19 fun r => (q r).x) :
    Holds (k0_pay15 v3 v15 v16 v19) fun r => xn2 p (q r) := by
  intro r j
  unfold k0_pay15
  pointwise
  simp only [pay13 p q h3 h15 h16 h19 _ _, pay14 p q h3 h15 h16 h19 _ _, ← EReal.coe_mul]
  rfl

theorem pay16 {v5 : Vec Ideal S1x1024 .f32} (h5 : Holds v5 fun _ => p.n2) :
    Holds (k0_pay16 v5) fun _ => p.n2 := by
  intro r j
  unfold k0_pay16 k0_pay7
  pointwise
  exact h5 _ _

theorem pay17 {v32 v33 : FVec Ideal S256x1024 .f32} (h32 : Holds v32 fun r => xn2 p (q r)) (h33 : Holds v33 fun _ => p.n2) :
    Holds (k0_pay17 v32 v33) fun r => t2 p (q r) := by
  intro r j
  unfold k0_pay17
  pointwise
  simp only [h32 _ _, h33 _ _, ← EReal.coe_mul]
  rfl

theorem pay18 {v8 v10 : FVec Ideal S1x1024 .f32} {v32 v33 : FVec Ideal S256x1024 .f32}
    (h8 : Holds v8 fun _ => p.sh) (h10 : Holds v10 fun _ => p.sc)
    (h32 : Holds v32 fun r => xn2 p (q r)) (h33 : Holds v33 fun _ => p.n2) :
    Holds (k0_pay18 v8 v10 v32 v33) fun r => h2 p (q r) := by
  intro r j
  unfold k0_pay18
  pointwise
  simp only [h8 _ _, h10 _ _, pay17 p q h32 h33 _ _, one_coe, ← EReal.coe_mul, ← EReal.coe_add]
  rfl

theorem pay19 {v8 v10 : FVec Ideal S1x1024 .f32} {v32 v33 : FVec Ideal S256x1024 .f32} {v43 : Vec Ideal S2816x1024 .bf16}
    (h8 : Holds v8 fun _ => p.sh) (h10 : Holds v10 fun _ => p.sc)
    (h32 : Holds v32 fun r => xn2 p (q r)) (h33 : Holds v33 fun _ => p.n2) (h43 : Holds v43 fun c j => p.wg j c) :
    Holds (k0_pay19 v8 v10 v32 v33 v43) fun r => ga p (q r) := by
  intro r j
  unfold k0_pay19
  pointwise
  simp only [h43 _ _, pay18 p q h8 h10 h32 h33 _ _, ← EReal.coe_mul, sum_coe]
  rfl

theorem pay20 {v8 v10 : FVec Ideal S1x1024 .f32} {v32 v33 : FVec Ideal S256x1024 .f32} {v46 : Vec Ideal S2816x1024 .bf16}
    (h8 : Holds v8 fun _ => p.sh) (h10 : Holds v10 fun _ => p.sc)
    (h32 : Holds v32 fun r => xn2 p (q r)) (h33 : Holds v33 fun _ => p.n2) (h46 : Holds v46 fun c j => p.wu j c) :
    Holds (k0_pay20 v8 v10 v32 v33 v46) fun r => up p (q r) := by
  intro r j
  unfold k0_pay20
  pointwise
  simp only [h46 _ _, pay18 p q h8 h10 h32 h33 _ _, ← EReal.coe_mul, sum_coe]
  rfl

theorem pay23 {v8 v10 : FVec Ideal S1x1024 .f32} {v32 v33 : FVec Ideal S256x1024 .f32} {v43 v46 : Vec Ideal S2816x1024 .bf16}
    (h8 : Holds v8 fun _ => p.sh) (h10 : Holds v10 fun _ => p.sc)
    (h32 : Holds v32 fun r => xn2 p (q r)) (h33 : Holds v33 fun _ => p.n2)
    (h43 : Holds v43 fun c j => p.wg j c) (h46 : Holds v46 fun c j => p.wu j c) :
    Holds (k0_pay23 v8 v10 v32 v33 v43 v46) fun r => act p (q r) := by
  intro r j
  unfold k0_pay23
  pointwise
  simp only [pay19 p q h8 h10 h32 h33 h43 _ _, pay20 p q h8 h10 h32 h33 h46 _ _, logistic_real, ← EReal.coe_mul]
  rfl

theorem pay24 {v8 v10 : FVec Ideal S1x1024 .f32} {v32 v33 : FVec Ideal S256x1024 .f32} {v43 v46 v60 : Vec Ideal S2816x1024 .bf16}
    (h8 : Holds v8 fun _ => p.sh) (h10 : Holds v10 fun _ => p.sc)
    (h32 : Holds v32 fun r => xn2 p (q r)) (h33 : Holds v33 fun _ => p.n2)
    (h43 : Holds v43 fun c j => p.wg j c) (h46 : Holds v46 fun c j => p.wu j c) (h60 : Holds v60 p.wd) :
    Holds (k0_pay24 v8 v10 v32 v33 v43 v46 v60) fun r => f p (q r) := by
  intro r j
  unfold k0_pay24
  pointwise
  simp only [h60 _ _, pay23 p q h8 h10 h32 h33 h43 h46 _ _, ← EReal.coe_mul, sum_coe]
  rfl

theorem pay25 {v8 v10 v12 : FVec Ideal S1x1024 .f32} {v22 v32 v33 : FVec Ideal S256x1024 .f32} {v43 v46 v60 : Vec Ideal S2816x1024 .bf16}
    (h8 : Holds v8 fun _ => p.sh) (h10 : Holds v10 fun _ => p.sc) (h12 : Holds v12 fun _ => p.g2)
    (h22 : Holds v22 fun r => x1 p (q r)) (h32 : Holds v32 fun r => xn2 p (q r)) (h33 : Holds v33 fun _ => p.n2)
    (h43 : Holds v43 fun c j => p.wg j c) (h46 : Holds v46 fun c j => p.wu j c) (h60 : Holds v60 p.wd) :
    Holds (k0_pay25 v8 v10 v12 v22 v32 v33 v43 v46 v60) fun r => x2 p (q r) := by
  intro r j
  unfold k0_pay25
  pointwise
  simp only [h12 _ _, h22 _ _, pay24 p q h8 h10 h32 h33 h43 h46 h60 _ _, ← EReal.coe_mul, ← EReal.coe_add]
  rfl

theorem pay26 {v8 v10 v12 : FVec Ideal S1x1024 .f32} {v22 v32 v33 : FVec Ideal S256x1024 .f32} {v43 v46 v60 : Vec Ideal S2816x1024 .bf16}
    (h8 : Holds v8 fun _ => p.sh) (h10 : Holds v10 fun _ => p.sc) (h12 : Holds v12 fun _ => p.g2)
    (h22 : Holds v22 fun r => x1 p (q r)) (h32 : Holds v32 fun r => xn2 p (q r)) (h33 : Holds v33 fun _ => p.n2)
    (h43 : Holds v43 fun c j => p.wg j c) (h46 : Holds v46 fun c j => p.wu j c) (h60 : Holds v60 p.wd) :
    Holds (k0_pay26 v8 v10 v12 v22 v32 v33 v43 v46 v60) fun r _ => ∑ j, x2 p (q r) j * x2 p (q r) j := by
  intro r j
  unfold k0_pay26
  pointwise
  simp only [pay25 p q h8 h10 h12 h22 h32 h33 h43 h46 h60 _ _, ← EReal.coe_mul, sum_coe]

theorem pay27 : Holds (k0_pay27 (F := Ideal)) fun _ _ => 1024 := by
  intro r j
  unfold k0_pay27
  pointwise
  exact c1024

end

end Cert.Post

end
-- ==== Proof.Args.lean ====
/- The real parameters and tokens that finite argument arrays hold. -/
module

public import proofs.«01_k».proof.Proof.PayFwd

@[expose] public section

noncomputable section

namespace Cert.Post

open Idealize.ShloMosaic

/-- An array of extended reals over rows and columns. -/
abbrev Arr (a b : ℕ) : Type := (⟨2, ![a, b]⟩ : Shape).Idx → EReal

/-- An array whose elements are all real. -/
abbrev Real' {a b : ℕ} (x : Arr a b) : Prop := Holds x fun r j => (x (ix2 r j)).toReal

/-- The parameters the arrays hold. -/
def parOf (a3 a4 a5 a6 a7 a8 : Arr 1 1024) (a9 : Arr 1024 1024) (a10 a11 : Arr 1024 2816) (a12 : Arr 2816 1024) : Par where
  g1 j := (a3 (ix2 0 j)).toReal
  n2 j := (a4 (ix2 0 j)).toReal
  sh j := (a5 (ix2 0 j)).toReal
  sc j := (a6 (ix2 0 j)).toReal
  g2 j := (a7 (ix2 0 j)).toReal
  nf j := (a8 (ix2 0 j)).toReal
  wo k j := (a9 (ix2 k j)).toReal
  wg k j := (a10 (ix2 k j)).toReal
  wu k j := (a11 (ix2 k j)).toReal
  wd k j := (a12 (ix2 k j)).toReal

/-- Token `R` of the arrays. -/
def rowOf (a0 a1 a2 : Arr 8192 1024) (R : Fin 8192) : Row where
  x j := (a0 (ix2 R j)).toReal
  yc j := (a1 (ix2 R j)).toReal
  tg j := (a2 (ix2 R j)).toReal

/-- All arguments are real. -/
structure AllReal (a0 a1 a2 : Arr 8192 1024) (a3 a4 a5 a6 a7 a8 : Arr 1 1024) (a9 : Arr 1024 1024) (a10 a11 : Arr 1024 2816)
    (a12 : Arr 2816 1024) : Prop where
  h0 : Real' a0
  h1 : Real' a1
  h2 : Real' a2
  h3 : Real' a3
  h4 : Real' a4
  h5 : Real' a5
  h6 : Real' a6
  h7 : Real' a7
  h8 : Real' a8
  h9 : Real' a9
  h10 : Real' a10
  h11 : Real' a11
  h12 : Real' a12

end Cert.Post

end
-- ==== Proof.PayBwd.lean ====
/- What one grid point's body computes on a tile of 256 tokens, backward part: the gradients at token `r` of the tile, and
   what the tile adds to each accumulated row (a sum over its tokens). -/
module

public import proofs.«01_k».proof.Proof.PayFwd

@[expose] public section

set_option maxRecDepth 16384

noncomputable section

namespace Cert.Post

open Cert.KernelIdeal Cert.KernelIdeal.Gen Idealize.ShloMosaic

section
variable (p : Par) (q : Fin 256 → Row)

/-- A row `v` of the accumulator with the sum of `g` over the tile added. -/
abbrev Adds (w : (⟨2, ![1, 1024]⟩ : Shape).Idx → EReal) (v : (⟨2, ![1, 1024]⟩ : Shape).Idx → EReal)
    (g : Fin 256 → Fin 1024 → ℝ) : Prop :=
  ∀ r j, w (ix2 r j) = v (ix2 r j) + ((∑ k, g k j : ℝ) : EReal)

theorem pay28 {v68 : FVec Ideal S256x1 .f32} {v69 : FVec Ideal S256x1 .f32}
    (h68 : Holds v68 (fun r _ => ∑ j, x2 p (q r) j * x2 p (q r) j)) (h69 : Holds v69 (fun _ _ => 1024)) :
    Holds (k0_pay28 v68 v69) (fun r _ => rr (x2 p (q r))) := by
  intro r j
  unfold k0_pay28
  pointwise
  simp only [h68 _ _, h69 _ _, c1024, ceps, c1024th, c2048th, one_coe, logistic_real, ← EReal.coe_mul, ← EReal.coe_add, ← EReal.coe_sub, sum_coe, div_real _ _ (by norm_num : (1024 : ℝ) ≠ 0)]
  exact rsqrt_ms _

theorem pay29 {v65 : FVec Ideal S256x1024 .f32} {v68 : FVec Ideal S256x1 .f32} {v69 : FVec Ideal S256x1 .f32}
    (h65 : Holds v65 (fun r => x2 p (q r))) (h68 : Holds v68 (fun r _ => ∑ j, x2 p (q r) j * x2 p (q r) j)) (h69 : Holds v69 (fun _ _ => 1024)) :
    Holds (k0_pay29 v65 v68 v69) (fun r => xn3 p (q r)) := by
  intro r j
  unfold k0_pay29
  pointwise
  simp only [h65 _ _, h68 _ _, h69 _ _, pay28 p q h68 h69 _ _, c1024, ceps, c1024th, c2048th, one_coe, logistic_real, ← EReal.coe_mul, ← EReal.coe_add, ← EReal.coe_sub, sum_coe, div_real _ _ (by norm_num : (1024 : ℝ) ≠ 0)]
  rfl

theorem pay30 {v14 : FVec Ideal S1x1024 .f32} {v65 : FVec Ideal S256x1024 .f32} {v68 : FVec Ideal S256x1 .f32} {v69 : FVec Ideal S256x1 .f32} {v78 : Vec Ideal S256x1024 .f32}
    (h14 : Holds v14 (fun _ => p.nf)) (h65 : Holds v65 (fun r => x2 p (q r))) (h68 : Holds v68 (fun r _ => ∑ j, x2 p (q r) j * x2 p (q r) j)) (h69 : Holds v69 (fun _ _ => 1024)) (h78 : Holds v78 (fun r => (q r).tg)) :
    Holds (k0_pay30 v14 v65 v68 v69 v78) (fun r => err p (q r)) := by
  intro r j
  unfold k0_pay30
  pointwise
  simp only [h14 _ _, h65 _ _, h68 _ _, h69 _ _, h78 _ _, pay29 p q h65 h68 h69 _ _, c1024, ceps, c1024th, c2048th, one_coe, logistic_real, ← EReal.coe_mul, ← EReal.coe_add, ← EReal.coe_sub, sum_coe, div_real _ _ (by norm_num : (1024 : ℝ) ≠ 0)]
  rfl

theorem pay31 {v14 : FVec Ideal S1x1024 .f32} {v65 : FVec Ideal S256x1024 .f32} {v68 : FVec Ideal S256x1 .f32} {v69 : FVec Ideal S256x1 .f32} {v78 : Vec Ideal S256x1024 .f32} {v80 : Vec Ideal S1x1024 .f32}
    (h14 : Holds v14 (fun _ => p.nf)) (h65 : Holds v65 (fun r => x2 p (q r))) (h68 : Holds v68 (fun r _ => ∑ j, x2 p (q r) j * x2 p (q r) j)) (h69 : Holds v69 (fun _ _ => 1024)) (h78 : Holds v78 (fun r => (q r).tg)) :
    Adds (k0_pay31 v14 v65 v68 v69 v78 v80) v80 (fun r j => err p (q r) j * err p (q r) j * (1 / 2048)) := by
  intro r j
  unfold k0_pay31
  pointwise
  simp only [h14 _ _, h65 _ _, h68 _ _, h69 _ _, h78 _ _, pay30 p q h14 h65 h68 h69 h78 _ _, c1024, ceps, c1024th, c2048th, one_coe, logistic_real, ← EReal.coe_mul, ← EReal.coe_add, ← EReal.coe_sub, sum_coe, div_real _ _ (by norm_num : (1024 : ℝ) ≠ 0)]
  try rw [Finset.sum_mul]

theorem pay32 {v14 : FVec Ideal S1x1024 .f32} {v65 : FVec Ideal S256x1024 .f32} {v68 : FVec Ideal S256x1 .f32} {v69 : FVec Ideal S256x1 .f32} {v78 : Vec Ideal S256x1024 .f32}
    (h14 : Holds v14 (fun _ => p.nf)) (h65 : Holds v65 (fun r => x2 p (q r))) (h68 : Holds v68 (fun r _ => ∑ j, x2 p (q r) j * x2 p (q r) j)) (h69 : Holds v69 (fun _ _ => 1024)) (h78 : Holds v78 (fun r => (q r).tg)) :
    Holds (k0_pay32 v14 v65 v68 v69 v78) (fun r => dout p (q r)) := by
  intro r j
  unfold k0_pay32
  pointwise
  simp only [h14 _ _, h65 _ _, h68 _ _, h69 _ _, h78 _ _, pay30 p q h14 h65 h68 h69 h78 _ _, c1024, ceps, c1024th, c2048th, one_coe, logistic_real, ← EReal.coe_mul, ← EReal.coe_add, ← EReal.coe_sub, sum_coe, div_real _ _ (by norm_num : (1024 : ℝ) ≠ 0)]
  rfl

theorem pay33 {v14 : FVec Ideal S1x1024 .f32} {v65 : FVec Ideal S256x1024 .f32} {v68 : FVec Ideal S256x1 .f32} {v69 : FVec Ideal S256x1 .f32} {v78 : Vec Ideal S256x1024 .f32} {v91 : Vec Ideal S1x1024 .f32}
    (h14 : Holds v14 (fun _ => p.nf)) (h65 : Holds v65 (fun r => x2 p (q r))) (h68 : Holds v68 (fun r _ => ∑ j, x2 p (q r) j * x2 p (q r) j)) (h69 : Holds v69 (fun _ _ => 1024)) (h78 : Holds v78 (fun r => (q r).tg)) :
    Adds (k0_pay33 v14 v65 v68 v69 v78 v91) v91 (fun r j => dout p (q r) j * xn3 p (q r) j) := by
  intro r j
  unfold k0_pay33
  pointwise
  simp only [h14 _ _, h65 _ _, h68 _ _, h69 _ _, h78 _ _, pay32 p q h14 h65 h68 h69 h78 _ _, pay29 p q h65 h68 h69 _ _, c1024, ceps, c1024th, c2048th, one_coe, logistic_real, ← EReal.coe_mul, ← EReal.coe_add, ← EReal.coe_sub, sum_coe, div_real _ _ (by norm_num : (1024 : ℝ) ≠ 0)]

theorem pay34 {v14 : FVec Ideal S1x1024 .f32} {v65 : FVec Ideal S256x1024 .f32} {v68 : FVec Ideal S256x1 .f32} {v69 : FVec Ideal S256x1 .f32} {v78 : Vec Ideal S256x1024 .f32}
    (h14 : Holds v14 (fun _ => p.nf)) (h65 : Holds v65 (fun r => x2 p (q r))) (h68 : Holds v68 (fun r _ => ∑ j, x2 p (q r) j * x2 p (q r) j)) (h69 : Holds v69 (fun _ _ => 1024)) (h78 : Holds v78 (fun r => (q r).tg)) :
    Holds (k0_pay34 v14 v65 v68 v69 v78) (fun r => dx2 p (q r)) := by
  intro r j
  unfold k0_pay34
  pointwise
  simp only [h14 _ _, h65 _ _, h68 _ _, h69 _ _, h78 _ _, pay32 p q h14 h65 h68 h69 h78 _ _, pay29 p q h65 h68 h69 _ _, pay28 p q h68 h69 _ _, c1024, ceps, c1024th, c2048th, one_coe, logistic_real, ← EReal.coe_mul, ← EReal.coe_add, ← EReal.coe_sub, sum_coe, div_real _ _ (by norm_num : (1024 : ℝ) ≠ 0)]
  rfl

theorem pay35 {v62 : FVec Ideal S256x1024 .f32} {v109 : FVec Ideal S256x1024 .f32} {v110 : Vec Ideal S1x1024 .f32}
    (h62 : Holds v62 (fun r => f p (q r))) (h109 : Holds v109 (fun r => dx2 p (q r))) :
    Adds (k0_pay35 v62 v109 v110) v110 (fun r j => dx2 p (q r) j * f p (q r) j) := by
  intro r j
  unfold k0_pay35
  pointwise
  simp only [h62 _ _, h109 _ _, c1024, ceps, c1024th, c2048th, one_coe, logistic_real, ← EReal.coe_mul, ← EReal.coe_add, ← EReal.coe_sub, sum_coe, div_real _ _ (by norm_num : (1024 : ℝ) ≠ 0)]

theorem pay36 {v12 : FVec Ideal S1x1024 .f32} {v109 : FVec Ideal S256x1024 .f32}
    (h12 : Holds v12 (fun _ => p.g2)) (h109 : Holds v109 (fun r => dx2 p (q r))) :
    Holds (k0_pay36 v12 v109) (fun r => df p (q r)) := by
  intro r j
  unfold k0_pay36
  pointwise
  simp only [h12 _ _, h109 _ _, c1024, ceps, c1024th, c2048th, one_coe, logistic_real, ← EReal.coe_mul, ← EReal.coe_add, ← EReal.coe_sub, sum_coe, div_real _ _ (by norm_num : (1024 : ℝ) ≠ 0)]
  rfl

theorem pay37 {v12 : FVec Ideal S1x1024 .f32} {v109 : FVec Ideal S256x1024 .f32} {v121 : Vec Ideal S2816x1024 .bf16}
    (h12 : Holds v12 (fun _ => p.g2)) (h109 : Holds v109 (fun r => dx2 p (q r))) (h121 : Holds v121 (p.wd)) :
    Holds (k0_pay37 v12 v109 v121) (fun r => dact p (q r)) := by
  intro r j
  unfold k0_pay37
  pointwise
  simp only [h12 _ _, h109 _ _, h121 _ _, pay36 p q h12 h109 _ _, c1024, ceps, c1024th, c2048th, one_coe, logistic_real, ← EReal.coe_mul, ← EReal.coe_add, ← EReal.coe_sub, sum_coe, div_real _ _ (by norm_num : (1024 : ℝ) ≠ 0)]
  rfl

theorem pay38 {v124 : Vec Ideal S256x2816 .f32}
    (h124 : Holds v124 (fun r => ga p (q r))) :
    Holds (k0_pay38 v124) (fun r c => sg (ga p (q r) c)) := by
  intro r j
  unfold k0_pay38
  pointwise
  simp only [h124 _ _, c1024, ceps, c1024th, c2048th, one_coe, logistic_real, ← EReal.coe_mul, ← EReal.coe_add, ← EReal.coe_sub, sum_coe, div_real _ _ (by norm_num : (1024 : ℝ) ≠ 0)]

theorem pay39 {v12 : FVec Ideal S1x1024 .f32} {v109 : FVec Ideal S256x1024 .f32} {v121 : Vec Ideal S2816x1024 .bf16} {v124 : Vec Ideal S256x2816 .f32} {v125 : Vec Ideal S256x2816 .f32}
    (h12 : Holds v12 (fun _ => p.g2)) (h109 : Holds v109 (fun r => dx2 p (q r))) (h121 : Holds v121 (p.wd)) (h124 : Holds v124 (fun r => ga p (q r))) (h125 : Holds v125 (fun r => up p (q r))) :
    Holds (k0_pay39 v12 v109 v121 v124 v125) (fun r => da p (q r)) := by
  intro r j
  unfold k0_pay39
  pointwise
  simp only [h12 _ _, h109 _ _, h121 _ _, h124 _ _, h125 _ _, pay37 p q h12 h109 h121 _ _, pay38 p q h124 _ _, c1024, ceps, c1024th, c2048th, one_coe, logistic_real, ← EReal.coe_mul, ← EReal.coe_add, ← EReal.coe_sub, sum_coe, div_real _ _ (by norm_num : (1024 : ℝ) ≠ 0)]
  rfl

theorem pay40 {v12 : FVec Ideal S1x1024 .f32} {v109 : FVec Ideal S256x1024 .f32} {v121 : Vec Ideal S2816x1024 .bf16} {v124 : Vec Ideal S256x2816 .f32}
    (h12 : Holds v12 (fun _ => p.g2)) (h109 : Holds v109 (fun r => dx2 p (q r))) (h121 : Holds v121 (p.wd)) (h124 : Holds v124 (fun r => ga p (q r))) :
    Holds (k0_pay40 v12 v109 v121 v124) (fun r => db p (q r)) := by
  intro r j
  unfold k0_pay40
  pointwise
  simp only [h12 _ _, h109 _ _, h121 _ _, h124 _ _, pay37 p q h12 h109 h121 _ _, pay38 p q h124 _ _, c1024, ceps, c1024th, c2048th, one_coe, logistic_real, ← EReal.coe_mul, ← EReal.coe_add, ← EReal.coe_sub, sum_coe, div_real _ _ (by norm_num : (1024 : ℝ) ≠ 0)]
  rfl

theorem pay41 {v12 : FVec Ideal S1x1024 .f32} {v109 : FVec Ideal S256x1024 .f32} {v121 : Vec Ideal S2816x1024 .bf16} {v124 : Vec Ideal S256x2816 .f32} {v125 : Vec Ideal S256x2816 .f32} {v141 : Vec Ideal S2816x1024 .bf16}
    (h12 : Holds v12 (fun _ => p.g2)) (h109 : Holds v109 (fun r => dx2 p (q r))) (h121 : Holds v121 (p.wd)) (h124 : Holds v124 (fun r => ga p (q r))) (h125 : Holds v125 (fun r => up p (q r))) (h141 : Holds v141 (fun c j => p.wg j c)) :
    Holds (k0_pay41 v12 v109 v121 v124 v125 v141) (fun r j => ∑ c, da p (q r) c * p.wg j c) := by
  intro r j
  unfold k0_pay41
  pointwise
  simp only [h12 _ _, h109 _ _, h121 _ _, h124 _ _, h125 _ _, h141 _ _, pay39 p q h12 h109 h121 h124 h125 _ _, c1024, ceps, c1024th, c2048th, one_coe, logistic_real, ← EReal.coe_mul, ← EReal.coe_add, ← EReal.coe_sub, sum_coe, div_real _ _ (by norm_num : (1024 : ℝ) ≠ 0)]

theorem pay42 {v138 : FVec Ideal S256x2816 .bf16} {v143 : FVec Ideal S256x1024 .f32} {v144 : Vec Ideal S2816x1024 .bf16}
    (h138 : Holds v138 (fun r => db p (q r))) (h143 : Holds v143 (fun r j => ∑ c, da p (q r) c * p.wg j c)) (h144 : Holds v144 (fun c j => p.wu j c)) :
    Holds (k0_pay42 v138 v143 v144) (fun r => dh2 p (q r)) := by
  intro r j
  unfold k0_pay42
  pointwise
  simp only [h138 _ _, h143 _ _, h144 _ _, c1024, ceps, c1024th, c2048th, one_coe, logistic_real, ← EReal.coe_mul, ← EReal.coe_add, ← EReal.coe_sub, sum_coe, div_real _ _ (by norm_num : (1024 : ℝ) ≠ 0)]
  rfl

theorem pay43 {v138 : FVec Ideal S256x2816 .bf16} {v143 : FVec Ideal S256x1024 .f32} {v144 : Vec Ideal S2816x1024 .bf16} {v148 : Vec Ideal S1x1024 .f32}
    (h138 : Holds v138 (fun r => db p (q r))) (h143 : Holds v143 (fun r j => ∑ c, da p (q r) c * p.wg j c)) (h144 : Holds v144 (fun c j => p.wu j c)) :
    Adds (k0_pay43 v138 v143 v144 v148) v148 (fun r j => dh2 p (q r) j) := by
  intro r j
  unfold k0_pay43
  pointwise
  simp only [h138 _ _, h143 _ _, h144 _ _, pay42 p q h138 h143 h144 _ _, c1024, ceps, c1024th, c2048th, one_coe, logistic_real, ← EReal.coe_mul, ← EReal.coe_add, ← EReal.coe_sub, sum_coe, div_real _ _ (by norm_num : (1024 : ℝ) ≠ 0)]

theorem pay44 {v34 : FVec Ideal S256x1024 .f32} {v138 : FVec Ideal S256x2816 .bf16} {v143 : FVec Ideal S256x1024 .f32} {v144 : Vec Ideal S2816x1024 .bf16} {v154 : Vec Ideal S1x1024 .f32}
    (h34 : Holds v34 (fun r => t2 p (q r))) (h138 : Holds v138 (fun r => db p (q r))) (h143 : Holds v143 (fun r j => ∑ c, da p (q r) c * p.wg j c)) (h144 : Holds v144 (fun c j => p.wu j c)) :
    Adds (k0_pay44 v34 v138 v143 v144 v154) v154 (fun r j => dh2 p (q r) j * t2 p (q r) j) := by
  intro r j
  unfold k0_pay44
  pointwise
  simp only [h34 _ _, h138 _ _, h143 _ _, h144 _ _, pay42 p q h138 h143 h144 _ _, c1024, ceps, c1024th, c2048th, one_coe, logistic_real, ← EReal.coe_mul, ← EReal.coe_add, ← EReal.coe_sub, sum_coe, div_real _ _ (by norm_num : (1024 : ℝ) ≠ 0)]

theorem pay45 {v10 : FVec Ideal S1x1024 .f32} {v32 : FVec Ideal S256x1024 .f32} {v138 : FVec Ideal S256x2816 .bf16} {v143 : FVec Ideal S256x1024 .f32} {v144 : Vec Ideal S2816x1024 .bf16} {v161 : Vec Ideal S1x1024 .f32}
    (h10 : Holds v10 (fun _ => p.sc)) (h32 : Holds v32 (fun r => xn2 p (q r))) (h138 : Holds v138 (fun r => db p (q r))) (h143 : Holds v143 (fun r j => ∑ c, da p (q r) c * p.wg j c)) (h144 : Holds v144 (fun c j => p.wu j c)) :
    Adds (k0_pay45 v10 v32 v138 v143 v144 v161) v161 (fun r j => dh2 p (q r) j * xn2 p (q r) j * (1 + p.sc j)) := by
  intro r j
  unfold k0_pay45
  pointwise
  simp only [h10 _ _, h32 _ _, h138 _ _, h143 _ _, h144 _ _, pay42 p q h138 h143 h144 _ _, c1024, ceps, c1024th, c2048th, one_coe, logistic_real, ← EReal.coe_mul, ← EReal.coe_add, ← EReal.coe_sub, sum_coe, div_real _ _ (by norm_num : (1024 : ℝ) ≠ 0)]

theorem pay46 {v6 : FVec Ideal S1x1024 .f32} {v10 : FVec Ideal S1x1024 .f32} {v138 : FVec Ideal S256x2816 .bf16} {v143 : FVec Ideal S256x1024 .f32} {v144 : Vec Ideal S2816x1024 .bf16}
    (h6 : Holds v6 (fun _ => p.n2)) (h10 : Holds v10 (fun _ => p.sc)) (h138 : Holds v138 (fun r => db p (q r))) (h143 : Holds v143 (fun r j => ∑ c, da p (q r) c * p.wg j c)) (h144 : Holds v144 (fun c j => p.wu j c)) :
    Holds (k0_pay46 v6 v10 v138 v143 v144) (fun r => gx p (q r)) := by
  intro r j
  unfold k0_pay46
  pointwise
  simp only [h6 _ _, h10 _ _, h138 _ _, h143 _ _, h144 _ _, pay42 p q h138 h143 h144 _ _, c1024, ceps, c1024th, c2048th, one_coe, logistic_real, ← EReal.coe_mul, ← EReal.coe_add, ← EReal.coe_sub, sum_coe, div_real _ _ (by norm_num : (1024 : ℝ) ≠ 0)]
  rfl

theorem pay47 {v6 : FVec Ideal S1x1024 .f32} {v10 : FVec Ideal S1x1024 .f32} {v32 : FVec Ideal S256x1024 .f32} {v138 : FVec Ideal S256x2816 .bf16} {v143 : FVec Ideal S256x1024 .f32} {v144 : Vec Ideal S2816x1024 .bf16}
    (h6 : Holds v6 (fun _ => p.n2)) (h10 : Holds v10 (fun _ => p.sc)) (h32 : Holds v32 (fun r => xn2 p (q r))) (h138 : Holds v138 (fun r => db p (q r))) (h143 : Holds v143 (fun r j => ∑ c, da p (q r) c * p.wg j c)) (h144 : Holds v144 (fun c j => p.wu j c)) :
    ∀ r, k0_pay47 v6 v10 v32 v138 v143 v144 (ix1 r) = ((∑ k, gx p (q r) k * xn2 p (q r) k : ℝ) : EReal) := by
  intro r
  unfold k0_pay47
  pointwise
  simp only [h6 _ _, h10 _ _, h32 _ _, h138 _ _, h143 _ _, h144 _ _, pay46 p q h6 h10 h138 h143 h144 _ _, c1024, ceps, c1024th, c2048th, one_coe, logistic_real, ← EReal.coe_mul, ← EReal.coe_add, ← EReal.coe_sub, sum_coe, div_real _ _ (by norm_num : (1024 : ℝ) ≠ 0)]

theorem pay1 {v30 : FVec Ideal S256x1 .f32} {v32 : FVec Ideal S256x1024 .f32} {v109 : FVec Ideal S256x1024 .f32} {v177 : FVec Ideal S256x1024 .f32} {v179 : FVec Ideal S256 .f32}
    (h30 : Holds v30 (fun r _ => rr (x1 p (q r)))) (h32 : Holds v32 (fun r => xn2 p (q r))) (h109 : Holds v109 (fun r => dx2 p (q r))) (h177 : Holds v177 (fun r => gx p (q r))) (h179 : ∀ r, v179 (ix1 r) = ((∑ k, gx p (q r) k * xn2 p (q r) k : ℝ) : EReal)) :
    Holds (k0_pay1 v30 v32 v109 v177 v179) (fun r => dx1 p (q r)) := by
  intro r j
  unfold k0_pay1
  pointwise
  simp only [h30 _ _, h32 _ _, h109 _ _, h177 _ _, h179 _, c1024, ceps, c1024th, c2048th, one_coe, logistic_real, ← EReal.coe_mul, ← EReal.coe_add, ← EReal.coe_sub, sum_coe, div_real _ _ (by norm_num : (1024 : ℝ) ≠ 0)]
  rfl

theorem pay2 {v18 : FVec Ideal S256x1024 .f32} {v30 : FVec Ideal S256x1 .f32} {v32 : FVec Ideal S256x1024 .f32} {v109 : FVec Ideal S256x1024 .f32} {v177 : FVec Ideal S256x1024 .f32} {v179 : FVec Ideal S256 .f32} {v190 : Vec Ideal S1x1024 .f32}
    (h18 : Holds v18 (fun r => y p (q r))) (h30 : Holds v30 (fun r _ => rr (x1 p (q r)))) (h32 : Holds v32 (fun r => xn2 p (q r))) (h109 : Holds v109 (fun r => dx2 p (q r))) (h177 : Holds v177 (fun r => gx p (q r))) (h179 : ∀ r, v179 (ix1 r) = ((∑ k, gx p (q r) k * xn2 p (q r) k : ℝ) : EReal)) :
    Adds (k0_pay2 v18 v30 v32 v109 v177 v179 v190) v190 (fun r j => dx1 p (q r) j * y p (q r) j) := by
  intro r j
  unfold k0_pay2
  pointwise
  simp only [h18 _ _, h30 _ _, h32 _ _, h109 _ _, h177 _ _, h179 _, pay1 p q h30 h32 h109 h177 h179 _ _, c1024, ceps, c1024th, c2048th, one_coe, logistic_real, ← EReal.coe_mul, ← EReal.coe_add, ← EReal.coe_sub, sum_coe, div_real _ _ (by norm_num : (1024 : ℝ) ≠ 0)]

theorem pay3 {v4 : FVec Ideal S1x1024 .f32} {v30 : FVec Ideal S256x1 .f32} {v32 : FVec Ideal S256x1024 .f32} {v109 : FVec Ideal S256x1024 .f32} {v177 : FVec Ideal S256x1024 .f32} {v179 : FVec Ideal S256 .f32}
    (h4 : Holds v4 (fun _ => p.g1)) (h30 : Holds v30 (fun r _ => rr (x1 p (q r)))) (h32 : Holds v32 (fun r => xn2 p (q r))) (h109 : Holds v109 (fun r => dx2 p (q r))) (h177 : Holds v177 (fun r => gx p (q r))) (h179 : ∀ r, v179 (ix1 r) = ((∑ k, gx p (q r) k * xn2 p (q r) k : ℝ) : EReal)) :
    Holds (k0_pay3 v4 v30 v32 v109 v177 v179) (fun r => dy p (q r)) := by
  intro r j
  unfold k0_pay3
  pointwise
  simp only [h4 _ _, h30 _ _, h32 _ _, h109 _ _, h177 _ _, h179 _, pay1 p q h30 h32 h109 h177 h179 _ _, c1024, ceps, c1024th, c2048th, one_coe, logistic_real, ← EReal.coe_mul, ← EReal.coe_add, ← EReal.coe_sub, sum_coe, div_real _ _ (by norm_num : (1024 : ℝ) ≠ 0)]
  rfl

theorem pay4 {v4 : FVec Ideal S1x1024 .f32} {v30 : FVec Ideal S256x1 .f32} {v32 : FVec Ideal S256x1024 .f32} {v109 : FVec Ideal S256x1024 .f32} {v177 : FVec Ideal S256x1024 .f32} {v179 : FVec Ideal S256 .f32} {v201 : Vec Ideal S1024x1024 .bf16}
    (h4 : Holds v4 (fun _ => p.g1)) (h30 : Holds v30 (fun r _ => rr (x1 p (q r)))) (h32 : Holds v32 (fun r => xn2 p (q r))) (h109 : Holds v109 (fun r => dx2 p (q r))) (h177 : Holds v177 (fun r => gx p (q r))) (h179 : ∀ r, v179 (ix1 r) = ((∑ k, gx p (q r) k * xn2 p (q r) k : ℝ) : EReal)) (h201 : Holds v201 (p.wo)) :
    Holds (k0_pay4 v4 v30 v32 v109 v177 v179 v201) (fun r => dyc p (q r)) := by
  intro r j
  unfold k0_pay4
  pointwise
  simp only [h4 _ _, h30 _ _, h32 _ _, h109 _ _, h177 _ _, h179 _, h201 _ _, pay3 p q h4 h30 h32 h109 h177 h179 _ _, c1024, ceps, c1024th, c2048th, one_coe, logistic_real, ← EReal.coe_mul, ← EReal.coe_add, ← EReal.coe_sub, sum_coe, div_real _ _ (by norm_num : (1024 : ℝ) ≠ 0)]
  rfl

end

end Cert.Post

end
-- ==== Proof.Acc.lean ====
/- A buffer of sixteen rows into which single rows are stored one after the other, each being the row as it stood with a sum
   over the tile's tokens added. -/
module

public import proofs.«01_k».proof.Proof.PayBwd
public import Idealize.ShloMosaic.Lib.WritesUnit
public import Idealize.ShloMosaic.Lib.Pipeline.FrameBody

@[expose] public section

set_option maxRecDepth 16384

noncomputable section

namespace Cert.Post

open Idealize.ShloMosaic

variable {sig : RefSig} {κ : Kind} {sp : Space}
variable (v : View sig κ sp (⟨2, ![16, 1024]⟩ : Shape) .f32) (f : v.ty.Contents (Elt Ideal))

/-- After the writes `L` the buffer holds the real rows `t`. -/
def RowsAre (L : List (View.Piece (Elt Ideal) (⟨2, ![16, 1024]⟩ : Shape) .f32)) (t : Fin 16 → Fin 1024 → ℝ) : Prop :=
  ∀ k j, (v.read (Elt Ideal) (v.writes (Elt Ideal) f L) (ix2 k j) : EReal) = ((t k j : ℝ) : EReal)

/-- The rows `t` with the tile's sum of `g` added to row `k`. -/
def addRow (k : ℕ) (g : Fin 256 → Fin 1024 → ℝ) (t : Fin 16 → Fin 1024 → ℝ) (k' : Fin 16) (j : Fin 1024) : ℝ :=
  if k'.val = k then t k' j + ∑ r, g r j else t k' j

/-- The row `k` of the buffer, as a load of one row reads it. -/
theorem ld_row (k : Fin 16) (inb : ∀ a : Fin 2, (![k.val, 0] : Fin 2 → ℕ) a + (![1, 1024] : Fin 2 → ℕ) a ≤ (![16, 1024] : Fin 2 → ℕ) a)
    (X : (⟨2, ![16, 1024]⟩ : Shape).Idx → EReal) (j : Fin 1024) :
    X ((Rect.unit (s := ⟨2, ![16, 1024]⟩) ![k.val, 0] ![1, 1024] inb).idx (ix2 0 j)) = X (ix2 k j) := by
  refine congrArg X (funext fun a => Fin.ext ?_)
  fin_cases a
  · show k.val + 1 * 0 = k.val
    omega
  · show 0 + 1 * j.val = j.val
    omega

/-- One row store. -/
theorem RowsAre.store {L : List (View.Piece (Elt Ideal) (⟨2, ![16, 1024]⟩ : Shape) .f32)} {t : Fin 16 → Fin 1024 → ℝ}
    (k : Fin 16) {inb : ∀ a : Fin 2, (![k.val, 0] : Fin 2 → ℕ) a + (![1, 1024] : Fin 2 → ℕ) a ≤ (![16, 1024] : Fin 2 → ℕ) a}
    {w : (⟨2, ![1, 1024]⟩ : Shape).Idx → EReal} {g : Fin 256 → Fin 1024 → ℝ}
    (hw : Adds w (View.ld (v.read (Elt Ideal) (v.writes (Elt Ideal) f L)) (Rect.unit (s := ⟨2, ![16, 1024]⟩) ![k.val, 0] ![1, 1024] inb)) g)
    (hL : RowsAre v f L t) :
    RowsAre v f (⟨Rect.unit (s := ⟨2, ![16, 1024]⟩) ![k.val, 0] ![1, 1024] inb, w⟩ :: L) (addRow k.val g t) := by
  intro k' j
  unfold addRow
  by_cases h : k'.val = k.val
  · rw [if_pos h]
    obtain rfl : k' = k := Fin.ext h
    refine (View.read_writes_cons_rows_of_mem v f (o := k'.val) inb w L (ix2 k' j) (ix2 0 j) rfl (by show k'.val = k'.val + 0; omega) rfl).trans ?_
    refine (hw 0 j).trans ?_
    rw [EReal.coe_add]
    refine congrArg (· + _) ?_
    exact (ld_row k' inb _ j).trans (hL k' j)
  · rw [if_neg h]
    refine (View.read_writes_cons_rows_of_not_mem v f (o := k.val) (W := 1) inb w L (ix2 k' j) rfl rfl ?_).trans (hL k' j)
    show k'.val < k.val ∨ k.val + 1 ≤ k'.val
    omega

/-- One row store, the row having been loaded before any store (no earlier store of the tile meets it). -/
theorem RowsAre.storeOld {L : List (View.Piece (Elt Ideal) (⟨2, ![16, 1024]⟩ : Shape) .f32)} {t t₀ : Fin 16 → Fin 1024 → ℝ}
    (k : Fin 16) {inb : ∀ a : Fin 2, (![k.val, 0] : Fin 2 → ℕ) a + (![1, 1024] : Fin 2 → ℕ) a ≤ (![16, 1024] : Fin 2 → ℕ) a}
    {w : (⟨2, ![1, 1024]⟩ : Shape).Idx → EReal} {g : Fin 256 → Fin 1024 → ℝ}
    (hw : Adds w (View.ld (v.read (Elt Ideal) f) (Rect.unit (s := ⟨2, ![16, 1024]⟩) ![k.val, 0] ![1, 1024] inb)) g)
    (h₀ : RowsAre v f [] t₀) (ht : ∀ j, t k j = t₀ k j) (hL : RowsAre v f L t) :
    RowsAre v f (⟨Rect.unit (s := ⟨2, ![16, 1024]⟩) ![k.val, 0] ![1, 1024] inb, w⟩ :: L) (addRow k.val g t) := by
  refine RowsAre.store v f k (fun r j => ?_) hL
  obtain rfl : r = 0 := Subsingleton.elim _ _
  refine (hw 0 j).trans (congrArg (· + _) ?_)
  refine (ld_row k inb _ j).trans (((h₀ k j).trans ?_).trans ((ld_row k inb _ j).trans (hL k j)).symm)
  rw [ht j]

/-- Before any store. -/
theorem RowsAre.base {t : Fin 16 → Fin 1024 → ℝ} (h : ∀ k j, (v.read (Elt Ideal) f (ix2 k j) : EReal) = ((t k j : ℝ) : EReal)) :
    RowsAre v f [] t := h

/-- The fill with zeros that the first tile begins with. -/
theorem RowsAre.zeros {off : Fin 2 → ℕ} (hoff : off = ![0, 0]) {inb : ∀ a : Fin 2, off a + (![16, 1024] : Fin 2 → ℕ) a ≤ (![16, 1024] : Fin 2 → ℕ) a}
    {w : (⟨2, ![16, 1024]⟩ : Shape).Idx → EReal} (hw : ∀ z, w z = 0) (L : List (View.Piece (Elt Ideal) (⟨2, ![16, 1024]⟩ : Shape) .f32)) :
    RowsAre v f (⟨Rect.unit (s := ⟨2, ![16, 1024]⟩) off ![16, 1024] inb, w⟩ :: L) (fun _ _ => 0) := by
  intro k j
  refine (View.read_writes_cons_rows_of_mem v f (o := 0) inb w L (ix2 k j) (ix2 k j) hoff (by show k.val = 0 + k.val; omega) rfl).trans ?_
  exact (hw _).trans EReal.coe_zero.symm

/-- All seven row stores of a tile, in their order, add the tile's sums of `part`. -/
theorem addRow_all (p : Par) (q : Fin 256 → Row) (t : Fin 16 → Fin 1024 → ℝ) (k : Fin 16) (j : Fin 1024) :
    addRow 0 (fun r j => dx1 p (q r) j * y p (q r) j)
      (addRow 1 (fun r j => dh2 p (q r) j * xn2 p (q r) j * (1 + p.sc j))
        (addRow 3 (fun r j => dh2 p (q r) j * t2 p (q r) j)
          (addRow 2 (fun r j => dh2 p (q r) j)
            (addRow 4 (fun r j => dx2 p (q r) j * Cert.Post.f p (q r) j)
              (addRow 5 (fun r j => dout p (q r) j * xn3 p (q r) j)
                (addRow 6 (fun r j => err p (q r) j * err p (q r) j * (1 / 2048)) t)))))) k j
      = t k j + ∑ r, part p (q r) k j := by
  unfold addRow part
  fin_cases k <;> simp

end Cert.Post

end
-- ==== Proof.Tile.lean ====
/- One grid point of the kernel: from the blocks it finds in its input windows, what it leaves in each output's buffer. The
   values the body names are the registers `r4` to `r179`; each is the real function of the specification at the tile's tokens. -/
module

public import proofs.«01_k».proof.Proof.Acc
public import proofs.«01_k».proof.Proof.Gen.KernelIdeal.Value

@[expose] public section

set_option maxRecDepth 16384

noncomputable section

namespace Cert.Post

open Cert.KernelIdeal Cert.KernelIdeal.Gen Idealize.ShloMosaic Idealize.ShloMosaic.TcCoe Idealize.ShloMosaic.Tactic
open Idealize.SL Idealize.SL.RA Idealize.SL.Sem

theorem hz : (![0, 0] : Fin 2 → Nat) = fun _ => 0 := by
  funext a; fin_cases a <;> rfl

theorem pay6 {v : Vec Ideal S1x1024 .f32} {g : Fin 1024 → ℝ} (h : Holds v (fun _ => g)) : Holds (k0_pay6 v) (fun _ => g) := by
  intro r j
  unfold k0_pay6
  pointwise
  exact h _ _

theorem pay7 {v : Vec Ideal S1x1024 .f32} {g : Fin 1024 → ℝ} (h : Holds v (fun _ => g)) : Holds (k0_pay7 v) (fun _ => g) := by
  intro r j
  unfold k0_pay7
  pointwise
  exact h _ _

theorem pay8 {v : Vec Ideal S1x1024 .f32} {g : Fin 1024 → ℝ} (h : Holds v (fun _ => g)) : Holds (k0_pay8 v) (fun _ => g) := by
  intro r j
  unfold k0_pay8
  pointwise
  exact h _ _

theorem pay9 {v : Vec Ideal S1x1024 .f32} {g : Fin 1024 → ℝ} (h : Holds v (fun _ => g)) : Holds (k0_pay9 v) (fun _ => g) := by
  intro r j
  unfold k0_pay9
  pointwise
  exact h _ _

theorem pay10 {v : Vec Ideal S1x1024 .f32} {g : Fin 1024 → ℝ} (h : Holds v (fun _ => g)) : Holds (k0_pay10 v) (fun _ => g) := by
  intro r j
  unfold k0_pay10
  pointwise
  exact h _ _

theorem pay11 {v : Vec Ideal S1x1024 .f32} {g : Fin 1024 → ℝ} (h : Holds v (fun _ => g)) : Holds (k0_pay11 v) (fun _ => g) := by
  intro r j
  unfold k0_pay11
  pointwise
  exact h _ _

theorem pay21 (p : Par) (q : Fin 256 → Row) {v8 v10 : FVec Ideal S1x1024 .f32} {v32 v33 : FVec Ideal S256x1024 .f32} {v43 : Vec Ideal S2816x1024 .bf16}
    (h8 : Holds v8 fun _ => p.sh) (h10 : Holds v10 fun _ => p.sc)
    (h32 : Holds v32 fun r => xn2 p (q r)) (h33 : Holds v33 fun _ => p.n2) (hw : Holds v43 fun c j => p.wg j c) :
    Holds (k0_pay21 v8 v10 v32 v33 v43) fun r => ga p (q r) := by
  intro r j
  unfold k0_pay21
  pointwise
  exact pay19 p q h8 h10 h32 h33 hw _ _

theorem pay22 (p : Par) (q : Fin 256 → Row) {v8 v10 : FVec Ideal S1x1024 .f32} {v32 v33 : FVec Ideal S256x1024 .f32} {v46 : Vec Ideal S2816x1024 .bf16}
    (h8 : Holds v8 fun _ => p.sh) (h10 : Holds v10 fun _ => p.sc)
    (h32 : Holds v32 fun r => xn2 p (q r)) (h33 : Holds v33 fun _ => p.n2) (hw : Holds v46 fun c j => p.wu j c) :
    Holds (k0_pay22 v8 v10 v32 v33 v46) fun r => up p (q r) := by
  intro r j
  unfold k0_pay22
  pointwise
  exact pay20 p q h8 h10 h32 h33 hw _ _

theorem pay5 (z : S16x1024.Idx) : k0_pay5 (F := Ideal) z = 0 := by
  unfold k0_pay5
  pointwise

abbrev r4 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S1x1024 .f32 :=
  k0_pay6 (View.ld x3 (Rect.unit ![0, 0] ![1, 1024] inb_S8x1024_S1x1024_0_0))

abbrev r6 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S1x1024 .f32 :=
  k0_pay7 (View.ld x3 (Rect.unit ![1, 0] ![1, 1024] inb_S8x1024_S1x1024_1_0))

abbrev r8 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S1x1024 .f32 :=
  k0_pay8 (View.ld x3 (Rect.unit ![2, 0] ![1, 1024] inb_S8x1024_S1x1024_2_0))

abbrev r10 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S1x1024 .f32 :=
  k0_pay9 (View.ld x3 (Rect.unit ![3, 0] ![1, 1024] inb_S8x1024_S1x1024_3_0))

abbrev r12 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S1x1024 .f32 :=
  k0_pay10 (View.ld x3 (Rect.unit ![4, 0] ![1, 1024] inb_S8x1024_S1x1024_4_0))

abbrev r14 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S1x1024 .f32 :=
  k0_pay11 (View.ld x3 (Rect.unit ![5, 0] ![1, 1024] inb_S8x1024_S1x1024_5_0))

abbrev r18 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay12 x1 x4

abbrev r22 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay13 (View.ld x3 (Rect.unit ![0, 0] ![1, 1024] inb_S8x1024_S1x1024_0_0)) x1 x4 x0

abbrev r30 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1 .f32 :=
  k0_pay14 (View.ld x3 (Rect.unit ![0, 0] ![1, 1024] inb_S8x1024_S1x1024_0_0)) x1 x4 x0

abbrev r32 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay15 (View.ld x3 (Rect.unit ![0, 0] ![1, 1024] inb_S8x1024_S1x1024_0_0)) x1 x4 x0

abbrev r33 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay16 (View.ld x3 (Rect.unit ![1, 0] ![1, 1024] inb_S8x1024_S1x1024_1_0))

abbrev r51 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x2816 .f32 :=
  k0_pay21 (r8 x0 x1 x2 x3 x4 x5 x6 x7) (r10 x0 x1 x2 x3 x4 x5 x6 x7) (r32 x0 x1 x2 x3 x4 x5 x6 x7) (r33 x0 x1 x2 x3 x4 x5 x6 x7) x5

abbrev r54 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x2816 .f32 :=
  k0_pay22 (r8 x0 x1 x2 x3 x4 x5 x6 x7) (r10 x0 x1 x2 x3 x4 x5 x6 x7) (r32 x0 x1 x2 x3 x4 x5 x6 x7) (r33 x0 x1 x2 x3 x4 x5 x6 x7) x6

abbrev r34 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay17 (r32 x0 x1 x2 x3 x4 x5 x6 x7) (r33 x0 x1 x2 x3 x4 x5 x6 x7)

abbrev r62 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay24 (r8 x0 x1 x2 x3 x4 x5 x6 x7) (r10 x0 x1 x2 x3 x4 x5 x6 x7) (r32 x0 x1 x2 x3 x4 x5 x6 x7) (r33 x0 x1 x2 x3 x4 x5 x6 x7) x5 x6 x7

abbrev r65 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay25 (r8 x0 x1 x2 x3 x4 x5 x6 x7) (r10 x0 x1 x2 x3 x4 x5 x6 x7) (r12 x0 x1 x2 x3 x4 x5 x6 x7) (r22 x0 x1 x2 x3 x4 x5 x6 x7) (r32 x0 x1 x2 x3 x4 x5 x6 x7) (r33 x0 x1 x2 x3 x4 x5 x6 x7) x5 x6 x7

abbrev r68 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1 .f32 :=
  k0_pay26 (r8 x0 x1 x2 x3 x4 x5 x6 x7) (r10 x0 x1 x2 x3 x4 x5 x6 x7) (r12 x0 x1 x2 x3 x4 x5 x6 x7) (r22 x0 x1 x2 x3 x4 x5 x6 x7) (r32 x0 x1 x2 x3 x4 x5 x6 x7) (r33 x0 x1 x2 x3 x4 x5 x6 x7) x5 x6 x7

abbrev r109 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay34 (r14 x0 x1 x2 x3 x4 x5 x6 x7) (r65 x0 x1 x2 x3 x4 x5 x6 x7) (r68 x0 x1 x2 x3 x4 x5 x6 x7) k0_pay27 x2

abbrev r138 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x2816 .bf16 :=
  k0_pay40 (r12 x0 x1 x2 x3 x4 x5 x6 x7) (r109 x0 x1 x2 x3 x4 x5 x6 x7) x7 (r51 x0 x1 x2 x3 x4 x5 x6 x7)

abbrev r143 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay41 (r12 x0 x1 x2 x3 x4 x5 x6 x7) (r109 x0 x1 x2 x3 x4 x5 x6 x7) x7 (r51 x0 x1 x2 x3 x4 x5 x6 x7) (r54 x0 x1 x2 x3 x4 x5 x6 x7) x5

abbrev r177 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256x1024 .f32 :=
  k0_pay46 (r6 x0 x1 x2 x3 x4 x5 x6 x7) (r10 x0 x1 x2 x3 x4 x5 x6 x7) (r138 x0 x1 x2 x3 x4 x5 x6 x7) (r143 x0 x1 x2 x3 x4 x5 x6 x7) x6

abbrev r179 (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : FVec Ideal S256 .f32 :=
  k0_pay47 (r6 x0 x1 x2 x3 x4 x5 x6 x7) (r10 x0 x1 x2 x3 x4 x5 x6 x7) (r32 x0 x1 x2 x3 x4 x5 x6 x7) (r138 x0 x1 x2 x3 x4 x5 x6 x7) (r143 x0 x1 x2 x3 x4 x5 x6 x7) x6

/-- The blocks a grid point finds hold the real parameters `p` and its 256 tokens `q`. -/
structure Tile (p : Par) (q : Fin 256 → Row) (x0 : Vec Ideal S256x1024 .f32) (x1 : Vec Ideal S256x1024 .bf16) (x2 : Vec Ideal S256x1024 .f32) (x3 : Vec Ideal S8x1024 .f32) (x4 : Vec Ideal S1024x1024 .bf16) (x5 : Vec Ideal S2816x1024 .bf16) (x6 : Vec Ideal S2816x1024 .bf16) (x7 : Vec Ideal S2816x1024 .bf16) : Prop where
  hx0 : Holds x0 fun r => (q r).x
  hx1 : Holds x1 fun r => (q r).yc
  hx2 : Holds x2 fun r => (q r).tg
  row0 : ∀ j, x3 (ix2 0 j) = ((p.g1 j : ℝ) : EReal)
  row1 : ∀ j, x3 (ix2 1 j) = ((p.n2 j : ℝ) : EReal)
  row2 : ∀ j, x3 (ix2 2 j) = ((p.sh j : ℝ) : EReal)
  row3 : ∀ j, x3 (ix2 3 j) = ((p.sc j : ℝ) : EReal)
  row4 : ∀ j, x3 (ix2 4 j) = ((p.g2 j : ℝ) : EReal)
  row5 : ∀ j, x3 (ix2 5 j) = ((p.nf j : ℝ) : EReal)
  hx4 : Holds x4 p.wo
  hx5 : Holds x5 fun c j => p.wg j c
  hx6 : Holds x6 fun c j => p.wu j c
  hx7 : Holds x7 p.wd

variable {p : Par} {q : Fin 256 → Row} {x0 : Vec Ideal S256x1024 .f32} {x1 : Vec Ideal S256x1024 .bf16} {x2 : Vec Ideal S256x1024 .f32} {x3 : Vec Ideal S8x1024 .f32} {x4 : Vec Ideal S1024x1024 .bf16} {x5 : Vec Ideal S2816x1024 .bf16} {x6 : Vec Ideal S2816x1024 .bf16} {x7 : Vec Ideal S2816x1024 .bf16}
variable (T : Tile p q x0 x1 x2 x3 x4 x5 x6 x7)

/-- One of the eight packed rows, as a load of one row reads it. -/
theorem row_ld (k : Fin 8) (inb : ∀ a : Fin 2, (![k.val, 0] : Fin 2 → ℕ) a + (![1, 1024] : Fin 2 → ℕ) a ≤ (![8, 1024] : Fin 2 → ℕ) a)
    (X : S8x1024.Idx → EReal) (g : Fin 1024 → ℝ) (h : ∀ j, X (ix2 k j) = ((g j : ℝ) : EReal)) :
    Holds (a := 1) (b := 1024) (fun x => X ((Rect.unit (s := S8x1024) ![k.val, 0] ![1, 1024] inb).idx x)) (fun _ => g) := by
  intro r j
  refine Eq.trans (congrArg X (funext fun a => Fin.ext ?_)) (h j)
  fin_cases a
  · show k.val + 1 * r.val = k.val
    omega
  · show 0 + 1 * j.val = j.val
    omega

include T

theorem Tile.w0 : Holds (View.ld x3 (Rect.unit ![0, 0] ![1, 1024] inb_S8x1024_S1x1024_0_0)) (fun _ => p.g1) := row_ld 0 _ x3 p.g1 T.row0

theorem Tile.w1 : Holds (View.ld x3 (Rect.unit ![1, 0] ![1, 1024] inb_S8x1024_S1x1024_1_0)) (fun _ => p.n2) := row_ld 1 _ x3 p.n2 T.row1

theorem Tile.w2 : Holds (View.ld x3 (Rect.unit ![2, 0] ![1, 1024] inb_S8x1024_S1x1024_2_0)) (fun _ => p.sh) := row_ld 2 _ x3 p.sh T.row2

theorem Tile.w3 : Holds (View.ld x3 (Rect.unit ![3, 0] ![1, 1024] inb_S8x1024_S1x1024_3_0)) (fun _ => p.sc) := row_ld 3 _ x3 p.sc T.row3

theorem Tile.w4 : Holds (View.ld x3 (Rect.unit ![4, 0] ![1, 1024] inb_S8x1024_S1x1024_4_0)) (fun _ => p.g2) := row_ld 4 _ x3 p.g2 T.row4

theorem Tile.w5 : Holds (View.ld x3 (Rect.unit ![5, 0] ![1, 1024] inb_S8x1024_S1x1024_5_0)) (fun _ => p.nf) := row_ld 5 _ x3 p.nf T.row5

theorem Tile.hr4 : Holds (r4 x0 x1 x2 x3 x4 x5 x6 x7) (fun _ => p.g1) :=
  pay6 T.w0

theorem Tile.hr6 : Holds (r6 x0 x1 x2 x3 x4 x5 x6 x7) (fun _ => p.n2) :=
  pay7 T.w1

theorem Tile.hr8 : Holds (r8 x0 x1 x2 x3 x4 x5 x6 x7) (fun _ => p.sh) :=
  pay8 T.w2

theorem Tile.hr10 : Holds (r10 x0 x1 x2 x3 x4 x5 x6 x7) (fun _ => p.sc) :=
  pay9 T.w3

theorem Tile.hr12 : Holds (r12 x0 x1 x2 x3 x4 x5 x6 x7) (fun _ => p.g2) :=
  pay10 T.w4

theorem Tile.hr14 : Holds (r14 x0 x1 x2 x3 x4 x5 x6 x7) (fun _ => p.nf) :=
  pay11 T.w5

theorem Tile.hr18 : Holds (r18 x0 x1 x2 x3 x4 x5 x6 x7) (fun r => y p (q r)) :=
  pay12 p q T.hx1 T.hx4

theorem Tile.hr22 : Holds (r22 x0 x1 x2 x3 x4 x5 x6 x7) (fun r => Cert.Post.x1 p (q r)) :=
  pay13 p q T.w0 T.hx1 T.hx4 T.hx0

theorem Tile.hr30 : Holds (r30 x0 x1 x2 x3 x4 x5 x6 x7) (fun r _ => rr (Cert.Post.x1 p (q r))) :=
  pay14 p q T.w0 T.hx1 T.hx4 T.hx0

theorem Tile.hr32 : Holds (r32 x0 x1 x2 x3 x4 x5 x6 x7) (fun r => xn2 p (q r)) :=
  pay15 p q T.w0 T.hx1 T.hx4 T.hx0

theorem Tile.hr33 : Holds (r33 x0 x1 x2 x3 x4 x5 x6 x7) (fun _ => p.n2) :=
  pay16 p T.w1

theorem Tile.hr51 : Holds (r51 x0 x1 x2 x3 x4 x5 x6 x7) (fun r => ga p (q r)) :=
  pay21 p q T.hr8 T.hr10 T.hr32 T.hr33 T.hx5

theorem Tile.hr54 : Holds (r54 x0 x1 x2 x3 x4 x5 x6 x7) (fun r => up p (q r)) :=
  pay22 p q T.hr8 T.hr10 T.hr32 T.hr33 T.hx6

theorem Tile.hr34 : Holds (r34 x0 x1 x2 x3 x4 x5 x6 x7) (fun r => t2 p (q r)) :=
  pay17 p q T.hr32 T.hr33

theorem Tile.hr62 : Holds (r62 x0 x1 x2 x3 x4 x5 x6 x7) (fun r => f p (q r)) :=
  pay24 p q T.hr8 T.hr10 T.hr32 T.hr33 T.hx5 T.hx6 T.hx7

theorem Tile.hr65 : Holds (r65 x0 x1 x2 x3 x4 x5 x6 x7) (fun r => Cert.Post.x2 p (q r)) :=
  pay25 p q T.hr8 T.hr10 T.hr12 T.hr22 T.hr32 T.hr33 T.hx5 T.hx6 T.hx7

theorem Tile.hr68 : Holds (r68 x0 x1 x2 x3 x4 x5 x6 x7) (fun r _ => ∑ j, Cert.Post.x2 p (q r) j * Cert.Post.x2 p (q r) j) :=
  pay26 p q T.hr8 T.hr10 T.hr12 T.hr22 T.hr32 T.hr33 T.hx5 T.hx6 T.hx7

theorem Tile.hr109 : Holds (r109 x0 x1 x2 x3 x4 x5 x6 x7) (fun r => dx2 p (q r)) :=
  pay34 p q T.hr14 T.hr65 T.hr68 pay27 T.hx2

theorem Tile.hr138 : Holds (r138 x0 x1 x2 x3 x4 x5 x6 x7) (fun r => db p (q r)) :=
  pay40 p q T.hr12 T.hr109 T.hx7 T.hr51

theorem Tile.hr143 : Holds (r143 x0 x1 x2 x3 x4 x5 x6 x7) (fun r j => ∑ c, da p (q r) c * p.wg j c) :=
  pay41 p q T.hr12 T.hr109 T.hx7 T.hr51 T.hr54 T.hx5

theorem Tile.hr177 : Holds (r177 x0 x1 x2 x3 x4 x5 x6 x7) (fun r => gx p (q r)) :=
  pay46 p q T.hr6 T.hr10 T.hr138 T.hr143 T.hx6

theorem Tile.hr179 : ∀ r, r179 x0 x1 x2 x3 x4 x5 x6 x7 (ix1 r) = ((∑ k, gx p (q r) k * xn2 p (q r) k : ℝ) : EReal) :=
  pay47 p q T.hr6 T.hr10 T.hr32 T.hr138 T.hr143 T.hx6

theorem Tile.outA8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => dx1 p (q r)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay1 p q T.hr30 T.hr32 T.hr109 T.hr177 T.hr179

theorem Tile.outA9 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => dyc p (q r)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay4 p q T.hr4 T.hr30 T.hr32 T.hr109 T.hr177 T.hr179 T.hx4

theorem Tile.outA10 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => h2 p (q r)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay18 p q T.hr8 T.hr10 T.hr32 T.hr33

theorem Tile.outA11 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => dy p (q r)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay3 p q T.hr4 T.hr30 T.hr32 T.hr109 T.hr177 T.hr179

theorem Tile.outA12 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => df p (q r)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay36 p q T.hr12 T.hr109

theorem Tile.outA13 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => act p (q r)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay23 p q T.hr8 T.hr10 T.hr32 T.hr33 T.hx5 T.hx6

theorem Tile.outA14 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => da p (q r)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay39 p q T.hr12 T.hr109 T.hx7 T.hr51 T.hr54

theorem Tile.outA15 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) :
    Holds (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7) (fun r => db p (q r)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay40 p q T.hr12 T.hr109 T.hx7 T.hr51

theorem Tile.outB8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => dx1 p (q r)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay1 p q T.hr30 T.hr32 T.hr109 T.hr177 T.hr179

theorem Tile.outB9 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => dyc p (q r)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay4 p q T.hr4 T.hr30 T.hr32 T.hr109 T.hr177 T.hr179 T.hx4

theorem Tile.outB10 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => h2 p (q r)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay18 p q T.hr8 T.hr10 T.hr32 T.hr33

theorem Tile.outB11 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => dy p (q r)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay3 p q T.hr4 T.hr30 T.hr32 T.hr109 T.hr177 T.hr179

theorem Tile.outB12 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => df p (q r)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay36 p q T.hr12 T.hr109

theorem Tile.outB13 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => act p (q r)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay23 p q T.hr8 T.hr10 T.hr32 T.hr33 T.hx5 T.hx6

theorem Tile.outB14 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => da p (q r)) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay39 p q T.hr12 T.hr109 T.hx7 T.hr51 T.hr54

theorem Tile.outB15 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32) :
    Holds (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16) (fun r => db p (q r)) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  exact pay40 p q T.hr12 T.hr109 T.hx7 T.hr51

/-- The accumulator after the first tile: the tile's sums over rows of zeros. -/
theorem Tile.outA16 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : cond0_0 i) (k : Fin 16) (j : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 (ix2 k j) = ((0 + ∑ r, part p (q r) k j : ℝ) : EReal) := by
  unfold out0_A_16
  rw [View.read_writes_junk_eq_canon, ← View.read_writes_junk_eq_canon arg17.view]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  rw [← addRow_all p q (fun _ _ => 0)]
  exact (RowsAre.store _ _ 0 (pay2 p q T.hr18 T.hr30 T.hr32 T.hr109 T.hr177 T.hr179)
      (RowsAre.store _ _ 1 (pay45 p q T.hr10 T.hr32 T.hr138 T.hr143 T.hx6)
      (RowsAre.store _ _ 3 (pay44 p q T.hr34 T.hr138 T.hr143 T.hx6)
      (RowsAre.store _ _ 2 (pay43 p q T.hr138 T.hr143 T.hx6)
      (RowsAre.store _ _ 4 (pay35 p q T.hr62 T.hr109)
      (RowsAre.store _ _ 5 (pay33 p q T.hr14 T.hr65 T.hr68 pay27 T.hx2)
      (RowsAre.store _ _ 6 (pay31 p q T.hr14 T.hr65 T.hr68 pay27 T.hx2)
      (RowsAre.zeros _ _ rfl pay5 []))))))) : RowsAre arg17.view arg17.view.junk _ _) k j

end Cert.Post

end
-- ==== Proof.TileAcc.lean ====
/- The accumulator after a later tile: the rows as the tile found them with its sums added. -/
module

public import proofs.«01_k».proof.Proof.Tile
public import proofs.«01_k».proof.Proof.Gen.KernelIdeal.Value

@[expose] public section

set_option maxRecDepth 16384

noncomputable section

namespace Cert.Post

open Cert.KernelIdeal Cert.KernelIdeal.Gen Idealize.ShloMosaic Idealize.ShloMosaic.TcCoe Idealize.ShloMosaic.Tactic
open Idealize.SL Idealize.SL.RA Idealize.SL.Sem

variable {p : Par} {q : Fin 256 → Row} {x0 : Vec Ideal S256x1024 .f32} {x1 : Vec Ideal S256x1024 .bf16} {x2 : Vec Ideal S256x1024 .f32} {x3 : Vec Ideal S8x1024 .f32} {x4 : Vec Ideal S1024x1024 .bf16} {x5 : Vec Ideal S2816x1024 .bf16} {x6 : Vec Ideal S2816x1024 .bf16} {x7 : Vec Ideal S2816x1024 .bf16}
variable (T : Tile p q x0 x1 x2 x3 x4 x5 x6 x7)
include T

theorem Tile.outB16 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S8x1024 .f32) (harg4 : arg4.IsWhole) (arg5 : Memref sig .tc .vmem S1024x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S16x1024 .f32) (harg17 : arg17.IsWhole) (arg18 : Memref sig .tc .vmem S256x2816 .f32) (harg18 : arg18.IsWhole) (arg19 : Memref sig .tc .vmem S256x2816 .f32) (harg19 : arg19.IsWhole) (hc0 : ¬cond0_0 i) (xo16 : Vec Ideal S16x1024 .f32)
    (t : Fin 16 → Fin 1024 → ℝ) (hxo : ∀ k j, xo16 (ix2 k j) = ((t k j : ℝ) : EReal)) (k : Fin 16) (j : Fin 1024) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xo16 (ix2 k j) = ((t k j + ∑ r, part p (q r) k j : ℝ) : EReal) := by
  have h₀ : RowsAre arg17.view (harg17.unread xo16) [] t :=
    RowsAre.base _ _ fun k j => (congrFun (harg17.read_unread xo16) (ix2 k j)).trans (hxo k j)
  unfold out0_B_16
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S1024x1024) hz, View.ld_unit_zero (S := S2816x1024) hz, View.ld_unit_zero (S := S256x2816) hz, View.readCov_unit_zero (S := S256x2816) _ hz]
  rw [← addRow_all]
  exact (RowsAre.storeOld _ _ 0 (pay2 p q T.hr18 T.hr30 T.hr32 T.hr109 T.hr177 T.hr179) h₀ (fun _ => by rfl)
      (RowsAre.storeOld _ _ 1 (pay45 p q T.hr10 T.hr32 T.hr138 T.hr143 T.hx6) h₀ (fun _ => by rfl)
      (RowsAre.storeOld _ _ 3 (pay44 p q T.hr34 T.hr138 T.hr143 T.hx6) h₀ (fun _ => by rfl)
      (RowsAre.storeOld _ _ 2 (pay43 p q T.hr138 T.hr143 T.hx6) h₀ (fun _ => by rfl)
      (RowsAre.storeOld _ _ 4 (pay35 p q T.hr62 T.hr109) h₀ (fun _ => by rfl)
      (RowsAre.storeOld _ _ 5 (pay33 p q T.hr14 T.hr65 T.hr68 pay27 T.hx2) h₀ (fun _ => by rfl)
      (RowsAre.storeOld _ _ 6 (pay31 p q T.hr14 T.hr65 T.hr68 pay27 T.hx2) h₀ (fun _ => by rfl)
      (h₀))))))) : RowsAre arg17.view (harg17.unread xo16) _ _) k j

end Cert.Post

end
-- ==== Proof.Blocks.lean ====
/- What the kernel's windows stage at a grid point: the tile's 256 rows of the three token arrays, and the packed rows and
   the weights whole. -/
module

public import proofs.«01_k».proof.Proof.Args
public import proofs.«01_k».proof.Proof.TileAcc

@[expose] public section

set_option maxRecDepth 16384

noncomputable section

namespace Cert.Post

open Cert.KernelIdeal Cert.KernelIdeal.Gen Idealize.ShloMosaic Idealize.ShloMosaic.TcCoe Idealize.ShloMosaic.Tactic
open Idealize.SL Idealize.SL.RA Idealize.SL.Sem Idealize.ShloMosaic.StableHlo

variable (m : (ℓ : Loc nD τ sig) → Buf (Elt Ideal) ℓ) (c : Dev nD)

/-- Argument 0 as launched. -/
abbrev A0 : Arr 8192 1024 := m ((c : Thread nD τ).loc main_arg0)

/-- Argument 1 as launched. -/
abbrev A1 : Arr 8192 1024 := m ((c : Thread nD τ).loc main_arg1)

/-- Argument 2 as launched. -/
abbrev A2 : Arr 8192 1024 := m ((c : Thread nD τ).loc main_arg2)

/-- Argument 3 as launched. -/
abbrev A3 : Arr 1 1024 := m ((c : Thread nD τ).loc main_arg3)

/-- Argument 4 as launched. -/
abbrev A4 : Arr 1 1024 := m ((c : Thread nD τ).loc main_arg4)

/-- Argument 5 as launched. -/
abbrev A5 : Arr 1 1024 := m ((c : Thread nD τ).loc main_arg5)

/-- Argument 6 as launched. -/
abbrev A6 : Arr 1 1024 := m ((c : Thread nD τ).loc main_arg6)

/-- Argument 7 as launched. -/
abbrev A7 : Arr 1 1024 := m ((c : Thread nD τ).loc main_arg7)

/-- Argument 8 as launched. -/
abbrev A8 : Arr 1 1024 := m ((c : Thread nD τ).loc main_arg8)

/-- Argument 9 as launched. -/
abbrev A9 : Arr 1024 1024 := m ((c : Thread nD τ).loc main_arg9)

/-- Argument 10 as launched. -/
abbrev A10 : Arr 1024 2816 := m ((c : Thread nD τ).loc main_arg10)

/-- Argument 11 as launched. -/
abbrev A11 : Arr 1024 2816 := m ((c : Thread nD τ).loc main_arg11)

/-- Argument 12 as launched. -/
abbrev A12 : Arr 2816 1024 := m ((c : Thread nD τ).loc main_arg12)

/-- The launched parameters. -/
abbrev par : Par := parOf (A3 m c) (A4 m c) (A5 m c) (A6 m c) (A7 m c) (A8 m c) (A9 m c) (A10 m c) (A11 m c) (A12 m c)

/-- The launched tokens. -/
abbrev row (R : Fin 8192) : Row := rowOf (A0 m c) (A1 m c) (A2 m c) R

/-- All launched arguments are real. -/
abbrev Launched : Prop := AllReal (A0 m c) (A1 m c) (A2 m c) (A3 m c) (A4 m c) (A5 m c) (A6 m c) (A7 m c) (A8 m c) (A9 m c) (A10 m c) (A11 m c) (A12 m c)

/-- Token `r` of tile `t`. -/
def tok (t : Fin cfg0.N) (r : Fin 256) : Fin 8192 :=
  ⟨256 * t.val + r.val, by
    have hN : cfg0.N = 32 := N_0
    have := t.isLt
    have := r.isLt
    omega⟩

theorem iblk0 (t : Fin cfg0.N) (r : Fin 256) (j : Fin 1024) : iblk m c 0 t (ix2 r j) = A0 m c (ix2 (tok t r) j) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = _
  rw [V_main_arg0]
  refine congrArg (A0 m c) (funext fun a => Fin.ext ?_)
  fin_cases a
  · show win0_0.index t 0 * 256 + 1 * r.val = 256 * t.val + r.val
    rw [hi.1]
    omega
  · show win0_0.index t 1 * 1024 + 1 * j.val = j.val
    rw [hi.2]
    omega

theorem iblk1 (t : Fin cfg0.N) (r : Fin 256) (j : Fin 1024) : iblk m c 1 t (ix2 r j) = A1 m c (ix2 (tok t r) j) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg1 _ = _
  rw [V_main_arg1]
  refine congrArg (A1 m c) (funext fun a => Fin.ext ?_)
  fin_cases a
  · show win0_1.index t 0 * 256 + 1 * r.val = 256 * t.val + r.val
    rw [hi.1]
    omega
  · show win0_1.index t 1 * 1024 + 1 * j.val = j.val
    rw [hi.2]
    omega

theorem iblk2 (t : Fin cfg0.N) (r : Fin 256) (j : Fin 1024) : iblk m c 2 t (ix2 r j) = A2 m c (ix2 (tok t r) j) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg2 _ = _
  rw [V_main_arg2]
  refine congrArg (A2 m c) (funext fun a => Fin.ext ?_)
  fin_cases a
  · show win0_2.index t 0 * 256 + 1 * r.val = 256 * t.val + r.val
    rw [hi.1]
    omega
  · show win0_2.index t 1 * 1024 + 1 * j.val = j.val
    rw [hi.2]
    omega

theorem iblk3 (t : Fin cfg0.N) (r : Fin 8) (j : Fin 1024) : iblk m c 3 t (ix2 r j) = V m c main_v1 (ix2 r j) := by
  have hi : win0_3.index t 0 = 0 ∧ win0_3.index t 1 = 0 :=
    (by decide +kernel : ∀ t : Fin grid0.N, win0_3.index t 0 = 0 ∧ win0_3.index t 1 = 0) t
  unfold iblk
  rw [View.read_apply]
  refine congrArg (V m c main_v1) (funext fun a => Fin.ext ?_)
  fin_cases a
  · show win0_3.index t 0 * 8 + 1 * r.val = r.val
    rw [hi.1]
    omega
  · show win0_3.index t 1 * 1024 + 1 * j.val = j.val
    rw [hi.2]
    omega

theorem iblk4 (t : Fin cfg0.N) (r : Fin 1024) (j : Fin 1024) : iblk m c 4 t (ix2 r j) = V m c main_v2 (ix2 r j) := by
  have hi : win0_4.index t 0 = 0 ∧ win0_4.index t 1 = 0 :=
    (by decide +kernel : ∀ t : Fin grid0.N, win0_4.index t 0 = 0 ∧ win0_4.index t 1 = 0) t
  unfold iblk
  rw [View.read_apply]
  refine congrArg (V m c main_v2) (funext fun a => Fin.ext ?_)
  fin_cases a
  · show win0_4.index t 0 * 1024 + 1 * r.val = r.val
    rw [hi.1]
    omega
  · show win0_4.index t 1 * 1024 + 1 * j.val = j.val
    rw [hi.2]
    omega

theorem iblk5 (t : Fin cfg0.N) (r : Fin 2816) (j : Fin 1024) : iblk m c 5 t (ix2 r j) = V m c main_v4 (ix2 r j) := by
  have hi : win0_5.index t 0 = 0 ∧ win0_5.index t 1 = 0 :=
    (by decide +kernel : ∀ t : Fin grid0.N, win0_5.index t 0 = 0 ∧ win0_5.index t 1 = 0) t
  unfold iblk
  rw [View.read_apply]
  refine congrArg (V m c main_v4) (funext fun a => Fin.ext ?_)
  fin_cases a
  · show win0_5.index t 0 * 2816 + 1 * r.val = r.val
    rw [hi.1]
    omega
  · show win0_5.index t 1 * 1024 + 1 * j.val = j.val
    rw [hi.2]
    omega

theorem iblk6 (t : Fin cfg0.N) (r : Fin 2816) (j : Fin 1024) : iblk m c 6 t (ix2 r j) = V m c main_v6 (ix2 r j) := by
  have hi : win0_6.index t 0 = 0 ∧ win0_6.index t 1 = 0 :=
    (by decide +kernel : ∀ t : Fin grid0.N, win0_6.index t 0 = 0 ∧ win0_6.index t 1 = 0) t
  unfold iblk
  rw [View.read_apply]
  refine congrArg (V m c main_v6) (funext fun a => Fin.ext ?_)
  fin_cases a
  · show win0_6.index t 0 * 2816 + 1 * r.val = r.val
    rw [hi.1]
    omega
  · show win0_6.index t 1 * 1024 + 1 * j.val = j.val
    rw [hi.2]
    omega

theorem iblk7 (t : Fin cfg0.N) (r : Fin 2816) (j : Fin 1024) : iblk m c 7 t (ix2 r j) = V m c main_v7 (ix2 r j) := by
  have hi : win0_7.index t 0 = 0 ∧ win0_7.index t 1 = 0 :=
    (by decide +kernel : ∀ t : Fin grid0.N, win0_7.index t 0 = 0 ∧ win0_7.index t 1 = 0) t
  unfold iblk
  rw [View.read_apply]
  refine congrArg (V m c main_v7) (funext fun a => Fin.ext ?_)
  fin_cases a
  · show win0_7.index t 0 * 2816 + 1 * r.val = r.val
    rw [hi.1]
    omega
  · show win0_7.index t 1 * 1024 + 1 * j.val = j.val
    rw [hi.2]
    omega

theorem V_main_v2 (r : Fin 1024) (j : Fin 1024) : V m c main_v2 (ix2 r j) = A9 m c (ix2 r j) := by
  unfold V
  after_results
  pointwise

theorem V_main_v4 (r : Fin 2816) (j : Fin 1024) : V m c main_v4 (ix2 r j) = A10 m c (ix2 j r) := by
  unfold V
  after_results
  pointwise

theorem V_main_v6 (r : Fin 2816) (j : Fin 1024) : V m c main_v6 (ix2 r j) = A11 m c (ix2 j r) := by
  unfold V
  after_results
  pointwise

theorem V_main_v7 (r : Fin 2816) (j : Fin 1024) : V m c main_v7 (ix2 r j) = A12 m c (ix2 r j) := by
  unfold V
  after_results
  pointwise

theorem V_row0 (j : Fin 1024) : V m c main_v1 (ix2 0 j) = A3 m c (ix2 0 j) := by
  unfold V
  after_results
  pointwise
  exact congrFun (V_main_arg3 m c) (ix2 0 j)

theorem V_row1 (j : Fin 1024) : V m c main_v1 (ix2 1 j) = A4 m c (ix2 0 j) := by
  unfold V
  after_results
  pointwise
  exact congrFun (V_main_arg4 m c) (ix2 0 j)

theorem V_row2 (j : Fin 1024) : V m c main_v1 (ix2 2 j) = A5 m c (ix2 0 j) := by
  unfold V
  after_results
  pointwise
  exact congrFun (V_main_arg5 m c) (ix2 0 j)

theorem V_row3 (j : Fin 1024) : V m c main_v1 (ix2 3 j) = A6 m c (ix2 0 j) := by
  unfold V
  after_results
  pointwise
  exact congrFun (V_main_arg6 m c) (ix2 0 j)

theorem V_row4 (j : Fin 1024) : V m c main_v1 (ix2 4 j) = A7 m c (ix2 0 j) := by
  unfold V
  after_results
  pointwise
  exact congrFun (V_main_arg7 m c) (ix2 0 j)

theorem V_row5 (j : Fin 1024) : V m c main_v1 (ix2 5 j) = A8 m c (ix2 0 j) := by
  unfold V
  after_results
  pointwise
  exact congrFun (V_main_arg8 m c) (ix2 0 j)

theorem tile (h : Launched m c) (t : Fin cfg0.N) :
    Tile (par m c) (fun r => row m c (tok t r)) (iblk m c 0 t) (iblk m c 1 t) (iblk m c 2 t) (iblk m c 3 t) (iblk m c 4 t)
      (iblk m c 5 t) (iblk m c 6 t) (iblk m c 7 t) where
  hx0 r j := (iblk0 m c t r j).trans (h.h0 _ _)
  hx1 r j := (iblk1 m c t r j).trans (h.h1 _ _)
  hx2 r j := (iblk2 m c t r j).trans (h.h2 _ _)
  row0 j := (iblk3 m c t 0 j).trans ((V_row0 m c j).trans (h.h3 _ _))
  row1 j := (iblk3 m c t 1 j).trans ((V_row1 m c j).trans (h.h4 _ _))
  row2 j := (iblk3 m c t 2 j).trans ((V_row2 m c j).trans (h.h5 _ _))
  row3 j := (iblk3 m c t 3 j).trans ((V_row3 m c j).trans (h.h6 _ _))
  row4 j := (iblk3 m c t 4 j).trans ((V_row4 m c j).trans (h.h7 _ _))
  row5 j := (iblk3 m c t 5 j).trans ((V_row5 m c j).trans (h.h8 _ _))
  hx4 r j := (iblk4 m c t r j).trans ((V_main_v2 m c r j).trans (h.h9 _ _))
  hx5 r j := (iblk5 m c t r j).trans ((V_main_v4 m c r j).trans (h.h10 _ _))
  hx6 r j := (iblk6 m c t r j).trans ((V_main_v6 m c r j).trans (h.h11 _ _))
  hx7 r j := (iblk7 m c t r j).trans ((V_main_v7 m c r j).trans (h.h12 _ _))

end Cert.Post

end
-- ==== Proof.Final.lean ====
/- What the kernel's result arrays hold after the run: at each token the gradients of the specification, and in the sixteen
   accumulated rows the sums of `part` over all tokens. -/
module

public import proofs.«01_k».proof.Proof.Blocks

@[expose] public section

set_option maxRecDepth 16384

noncomputable section

namespace Cert.Post

open Cert.KernelIdeal Cert.KernelIdeal.Gen Idealize.ShloMosaic Idealize.ShloMosaic.TcCoe Idealize.ShloMosaic.Tactic
open Idealize.SL Idealize.SL.RA Idealize.SL.Sem
open Idealize.ShloMosaic.Pipeline (Dat)

variable (m : (ℓ : Loc nD τ sig) → Buf (Elt Ideal) ℓ) (c : Dev nD)

/-- An array with the real function `g` of a row and a column at every index. -/
def arrOf {a b : ℕ} (g : Fin a → Fin b → ℝ) : Arr a b := fun i => ((g (i 0) (i 1) : ℝ) : EReal)

theorem outs8 (h : Launched m c) (t : Fin cfg0.N) :
    Holds (a := 256) (b := 1024) (outsAt0 m c t.val t.isLt).1 (fun r => dx1 (par m c) (row m c (tok t r))) := by
  by_cases h0 : t.val % 32 = 0
  · rw [outsAt0_A m c t h0]
    dsimp only
    intro r j
    exact Tile.outA8 (tile m c h t) ..
  · rw [outsAt0_B m c t h0]
    dsimp only
    intro r j
    exact Tile.outB8 (tile m c h t) ..

theorem flushed8 (h : Launched m c) (t : Fin cfg0.N) :
    (dats m 0 c).flushed 8 t = ((cfg0.win 8).blk t).view.read (Elt Ideal) (arrOf fun R => dx1 (par m c) (row m c R)) := by
  have hi : win0_8.index t 0 = t.val ∧ win0_8.index t 1 = 0 :=
    (by decide +kernel : ∀ t : Fin grid0.N, win0_8.index t 0 = t.val ∧ win0_8.index t 1 = 0) t
  rw [Value.flushed8]
  funext y
  rw [View.read_apply]
  have hy : y = ix2 (y 0) (y 1) := by
    funext a
    fin_cases a <;> rfl
  refine ((congrArg (outsAt0 m c t.val t.isLt).1 hy).trans (outs8 m c h t (y 0) (y 1))).trans ?_
  have e0 : tok t (y 0) = (((cfg0.win 8).blk t).view.emb y) 0 := Fin.ext (by
    show 256 * t.val + (y 0).val = win0_8.index t 0 * 256 + 1 * (y 0).val
    rw [hi.1]
    omega)
  have e1 : y 1 = (((cfg0.win 8).blk t).view.emb y) 1 := Fin.ext (by
    show (y 1).val = win0_8.index t 1 * 1024 + 1 * (y 1).val
    rw [hi.2]
    omega)
  show ((dx1 (par m c) (row m c (tok t (y 0))) (y 1) : ℝ) : EReal) = ((dx1 (par m c) (row m c _) _ : ℝ) : EReal)
  rw [e0]
  exact congrArg (fun z => ((dx1 (par m c) (row m c _) z : ℝ) : EReal)) e1

theorem final8 (h : Launched m c) : (dats m 0 c).arrAt 8 cfg0.N = arrOf fun R => dx1 (par m c) (row m c R) :=
  (dats m 0 c).arrAt_eq_of_cover 8 _ (fun t _ => flushed8 m c h t) fun i => by
    have hN : cfg0.N = 32 := N_0
    have b0 : (i 0 : ℕ) < 8192 := (i 0).isLt
    have b1 : (i 1 : ℕ) < 1024 := (i 1).isLt
    refine ⟨⟨(i 0 : ℕ) / 256, by omega⟩, flush0_8 _, ?_⟩
    generalize ht : (⟨(i 0 : ℕ) / 256, by omega⟩ : Fin cfg0.N) = t
    have hv : t.val = (i 0 : ℕ) / 256 := by rw [← ht]
    have hi : win0_8.index t 0 = t.val ∧ win0_8.index t 1 = 0 :=
      (by decide +kernel : ∀ t : Fin grid0.N, win0_8.index t 0 = t.val ∧ win0_8.index t 1 = 0) t
    show i ∈ ((View.whole main_v8_0).slice (win0_8.rect t)).set
    rw [View.set_slice_whole, Rect.mem_set_unit]
    intro a
    match a with
    | ⟨0, _⟩ =>
      show win0_8.index t 0 * 256 ≤ (i 0 : ℕ) ∧ (i 0 : ℕ) < win0_8.index t 0 * 256 + 256
      rw [hi.1]
      omega
    | ⟨1, _⟩ =>
      show win0_8.index t 1 * 1024 ≤ (i 1 : ℕ) ∧ (i 1 : ℕ) < win0_8.index t 1 * 1024 + 1024
      rw [hi.2]
      omega

theorem outs9 (h : Launched m c) (t : Fin cfg0.N) :
    Holds (a := 256) (b := 1024) (outsAt0 m c t.val t.isLt).2.1 (fun r => dyc (par m c) (row m c (tok t r))) := by
  by_cases h0 : t.val % 32 = 0
  · rw [outsAt0_A m c t h0]
    dsimp only
    intro r j
    exact Tile.outA9 (tile m c h t) ..
  · rw [outsAt0_B m c t h0]
    dsimp only
    intro r j
    exact Tile.outB9 (tile m c h t) ..

theorem flushed9 (h : Launched m c) (t : Fin cfg0.N) :
    (dats m 0 c).flushed 9 t = ((cfg0.win 9).blk t).view.read (Elt Ideal) (arrOf fun R => dyc (par m c) (row m c R)) := by
  have hi : win0_9.index t 0 = t.val ∧ win0_9.index t 1 = 0 :=
    (by decide +kernel : ∀ t : Fin grid0.N, win0_9.index t 0 = t.val ∧ win0_9.index t 1 = 0) t
  rw [Value.flushed9]
  funext y
  rw [View.read_apply]
  have hy : y = ix2 (y 0) (y 1) := by
    funext a
    fin_cases a <;> rfl
  refine ((congrArg (outsAt0 m c t.val t.isLt).2.1 hy).trans (outs9 m c h t (y 0) (y 1))).trans ?_
  have e0 : tok t (y 0) = (((cfg0.win 9).blk t).view.emb y) 0 := Fin.ext (by
    show 256 * t.val + (y 0).val = win0_9.index t 0 * 256 + 1 * (y 0).val
    rw [hi.1]
    omega)
  have e1 : y 1 = (((cfg0.win 9).blk t).view.emb y) 1 := Fin.ext (by
    show (y 1).val = win0_9.index t 1 * 1024 + 1 * (y 1).val
    rw [hi.2]
    omega)
  show ((dyc (par m c) (row m c (tok t (y 0))) (y 1) : ℝ) : EReal) = ((dyc (par m c) (row m c _) _ : ℝ) : EReal)
  rw [e0]
  exact congrArg (fun z => ((dyc (par m c) (row m c _) z : ℝ) : EReal)) e1

theorem final9 (h : Launched m c) : (dats m 0 c).arrAt 9 cfg0.N = arrOf fun R => dyc (par m c) (row m c R) :=
  (dats m 0 c).arrAt_eq_of_cover 9 _ (fun t _ => flushed9 m c h t) fun i => by
    have hN : cfg0.N = 32 := N_0
    have b0 : (i 0 : ℕ) < 8192 := (i 0).isLt
    have b1 : (i 1 : ℕ) < 1024 := (i 1).isLt
    refine ⟨⟨(i 0 : ℕ) / 256, by omega⟩, flush0_9 _, ?_⟩
    generalize ht : (⟨(i 0 : ℕ) / 256, by omega⟩ : Fin cfg0.N) = t
    have hv : t.val = (i 0 : ℕ) / 256 := by rw [← ht]
    have hi : win0_9.index t 0 = t.val ∧ win0_9.index t 1 = 0 :=
      (by decide +kernel : ∀ t : Fin grid0.N, win0_9.index t 0 = t.val ∧ win0_9.index t 1 = 0) t
    show i ∈ ((View.whole main_v8_1).slice (win0_9.rect t)).set
    rw [View.set_slice_whole, Rect.mem_set_unit]
    intro a
    match a with
    | ⟨0, _⟩ =>
      show win0_9.index t 0 * 256 ≤ (i 0 : ℕ) ∧ (i 0 : ℕ) < win0_9.index t 0 * 256 + 256
      rw [hi.1]
      omega
    | ⟨1, _⟩ =>
      show win0_9.index t 1 * 1024 ≤ (i 1 : ℕ) ∧ (i 1 : ℕ) < win0_9.index t 1 * 1024 + 1024
      rw [hi.2]
      omega

theorem outs10 (h : Launched m c) (t : Fin cfg0.N) :
    Holds (a := 256) (b := 1024) (outsAt0 m c t.val t.isLt).2.2.1 (fun r => h2 (par m c) (row m c (tok t r))) := by
  by_cases h0 : t.val % 32 = 0
  · rw [outsAt0_A m c t h0]
    dsimp only
    intro r j
    exact Tile.outA10 (tile m c h t) ..
  · rw [outsAt0_B m c t h0]
    dsimp only
    intro r j
    exact Tile.outB10 (tile m c h t) ..

theorem flushed10 (h : Launched m c) (t : Fin cfg0.N) :
    (dats m 0 c).flushed 10 t = ((cfg0.win 10).blk t).view.read (Elt Ideal) (arrOf fun R => h2 (par m c) (row m c R)) := by
  have hi : win0_10.index t 0 = t.val ∧ win0_10.index t 1 = 0 :=
    (by decide +kernel : ∀ t : Fin grid0.N, win0_10.index t 0 = t.val ∧ win0_10.index t 1 = 0) t
  rw [Value.flushed10]
  funext y
  rw [View.read_apply]
  have hy : y = ix2 (y 0) (y 1) := by
    funext a
    fin_cases a <;> rfl
  refine ((congrArg (outsAt0 m c t.val t.isLt).2.2.1 hy).trans (outs10 m c h t (y 0) (y 1))).trans ?_
  have e0 : tok t (y 0) = (((cfg0.win 10).blk t).view.emb y) 0 := Fin.ext (by
    show 256 * t.val + (y 0).val = win0_10.index t 0 * 256 + 1 * (y 0).val
    rw [hi.1]
    omega)
  have e1 : y 1 = (((cfg0.win 10).blk t).view.emb y) 1 := Fin.ext (by
    show (y 1).val = win0_10.index t 1 * 1024 + 1 * (y 1).val
    rw [hi.2]
    omega)
  show ((h2 (par m c) (row m c (tok t (y 0))) (y 1) : ℝ) : EReal) = ((h2 (par m c) (row m c _) _ : ℝ) : EReal)
  rw [e0]
  exact congrArg (fun z => ((h2 (par m c) (row m c _) z : ℝ) : EReal)) e1

theorem final10 (h : Launched m c) : (dats m 0 c).arrAt 10 cfg0.N = arrOf fun R => h2 (par m c) (row m c R) :=
  (dats m 0 c).arrAt_eq_of_cover 10 _ (fun t _ => flushed10 m c h t) fun i => by
    have hN : cfg0.N = 32 := N_0
    have b0 : (i 0 : ℕ) < 8192 := (i 0).isLt
    have b1 : (i 1 : ℕ) < 1024 := (i 1).isLt
    refine ⟨⟨(i 0 : ℕ) / 256, by omega⟩, flush0_10 _, ?_⟩
    generalize ht : (⟨(i 0 : ℕ) / 256, by omega⟩ : Fin cfg0.N) = t
    have hv : t.val = (i 0 : ℕ) / 256 := by rw [← ht]
    have hi : win0_10.index t 0 = t.val ∧ win0_10.index t 1 = 0 :=
      (by decide +kernel : ∀ t : Fin grid0.N, win0_10.index t 0 = t.val ∧ win0_10.index t 1 = 0) t
    show i ∈ ((View.whole main_v8_2).slice (win0_10.rect t)).set
    rw [View.set_slice_whole, Rect.mem_set_unit]
    intro a
    match a with
    | ⟨0, _⟩ =>
      show win0_10.index t 0 * 256 ≤ (i 0 : ℕ) ∧ (i 0 : ℕ) < win0_10.index t 0 * 256 + 256
      rw [hi.1]
      omega
    | ⟨1, _⟩ =>
      show win0_10.index t 1 * 1024 ≤ (i 1 : ℕ) ∧ (i 1 : ℕ) < win0_10.index t 1 * 1024 + 1024
      rw [hi.2]
      omega

theorem outs11 (h : Launched m c) (t : Fin cfg0.N) :
    Holds (a := 256) (b := 1024) (outsAt0 m c t.val t.isLt).2.2.2.1 (fun r => dy (par m c) (row m c (tok t r))) := by
  by_cases h0 : t.val % 32 = 0
  · rw [outsAt0_A m c t h0]
    dsimp only
    intro r j
    exact Tile.outA11 (tile m c h t) ..
  · rw [outsAt0_B m c t h0]
    dsimp only
    intro r j
    exact Tile.outB11 (tile m c h t) ..

theorem flushed11 (h : Launched m c) (t : Fin cfg0.N) :
    (dats m 0 c).flushed 11 t = ((cfg0.win 11).blk t).view.read (Elt Ideal) (arrOf fun R => dy (par m c) (row m c R)) := by
  have hi : win0_11.index t 0 = t.val ∧ win0_11.index t 1 = 0 :=
    (by decide +kernel : ∀ t : Fin grid0.N, win0_11.index t 0 = t.val ∧ win0_11.index t 1 = 0) t
  rw [Value.flushed11]
  funext y
  rw [View.read_apply]
  have hy : y = ix2 (y 0) (y 1) := by
    funext a
    fin_cases a <;> rfl
  refine ((congrArg (outsAt0 m c t.val t.isLt).2.2.2.1 hy).trans (outs11 m c h t (y 0) (y 1))).trans ?_
  have e0 : tok t (y 0) = (((cfg0.win 11).blk t).view.emb y) 0 := Fin.ext (by
    show 256 * t.val + (y 0).val = win0_11.index t 0 * 256 + 1 * (y 0).val
    rw [hi.1]
    omega)
  have e1 : y 1 = (((cfg0.win 11).blk t).view.emb y) 1 := Fin.ext (by
    show (y 1).val = win0_11.index t 1 * 1024 + 1 * (y 1).val
    rw [hi.2]
    omega)
  show ((dy (par m c) (row m c (tok t (y 0))) (y 1) : ℝ) : EReal) = ((dy (par m c) (row m c _) _ : ℝ) : EReal)
  rw [e0]
  exact congrArg (fun z => ((dy (par m c) (row m c _) z : ℝ) : EReal)) e1

theorem final11 (h : Launched m c) : (dats m 0 c).arrAt 11 cfg0.N = arrOf fun R => dy (par m c) (row m c R) :=
  (dats m 0 c).arrAt_eq_of_cover 11 _ (fun t _ => flushed11 m c h t) fun i => by
    have hN : cfg0.N = 32 := N_0
    have b0 : (i 0 : ℕ) < 8192 := (i 0).isLt
    have b1 : (i 1 : ℕ) < 1024 := (i 1).isLt
    refine ⟨⟨(i 0 : ℕ) / 256, by omega⟩, flush0_11 _, ?_⟩
    generalize ht : (⟨(i 0 : ℕ) / 256, by omega⟩ : Fin cfg0.N) = t
    have hv : t.val = (i 0 : ℕ) / 256 := by rw [← ht]
    have hi : win0_11.index t 0 = t.val ∧ win0_11.index t 1 = 0 :=
      (by decide +kernel : ∀ t : Fin grid0.N, win0_11.index t 0 = t.val ∧ win0_11.index t 1 = 0) t
    show i ∈ ((View.whole main_v8_3).slice (win0_11.rect t)).set
    rw [View.set_slice_whole, Rect.mem_set_unit]
    intro a
    match a with
    | ⟨0, _⟩ =>
      show win0_11.index t 0 * 256 ≤ (i 0 : ℕ) ∧ (i 0 : ℕ) < win0_11.index t 0 * 256 + 256
      rw [hi.1]
      omega
    | ⟨1, _⟩ =>
      show win0_11.index t 1 * 1024 ≤ (i 1 : ℕ) ∧ (i 1 : ℕ) < win0_11.index t 1 * 1024 + 1024
      rw [hi.2]
      omega

theorem outs12 (h : Launched m c) (t : Fin cfg0.N) :
    Holds (a := 256) (b := 1024) (outsAt0 m c t.val t.isLt).2.2.2.2.1 (fun r => df (par m c) (row m c (tok t r))) := by
  by_cases h0 : t.val % 32 = 0
  · rw [outsAt0_A m c t h0]
    dsimp only
    intro r j
    exact Tile.outA12 (tile m c h t) ..
  · rw [outsAt0_B m c t h0]
    dsimp only
    intro r j
    exact Tile.outB12 (tile m c h t) ..

theorem flushed12 (h : Launched m c) (t : Fin cfg0.N) :
    (dats m 0 c).flushed 12 t = ((cfg0.win 12).blk t).view.read (Elt Ideal) (arrOf fun R => df (par m c) (row m c R)) := by
  have hi : win0_12.index t 0 = t.val ∧ win0_12.index t 1 = 0 :=
    (by decide +kernel : ∀ t : Fin grid0.N, win0_12.index t 0 = t.val ∧ win0_12.index t 1 = 0) t
  rw [Value.flushed12]
  funext y
  rw [View.read_apply]
  have hy : y = ix2 (y 0) (y 1) := by
    funext a
    fin_cases a <;> rfl
  refine ((congrArg (outsAt0 m c t.val t.isLt).2.2.2.2.1 hy).trans (outs12 m c h t (y 0) (y 1))).trans ?_
  have e0 : tok t (y 0) = (((cfg0.win 12).blk t).view.emb y) 0 := Fin.ext (by
    show 256 * t.val + (y 0).val = win0_12.index t 0 * 256 + 1 * (y 0).val
    rw [hi.1]
    omega)
  have e1 : y 1 = (((cfg0.win 12).blk t).view.emb y) 1 := Fin.ext (by
    show (y 1).val = win0_12.index t 1 * 1024 + 1 * (y 1).val
    rw [hi.2]
    omega)
  show ((df (par m c) (row m c (tok t (y 0))) (y 1) : ℝ) : EReal) = ((df (par m c) (row m c _) _ : ℝ) : EReal)
  rw [e0]
  exact congrArg (fun z => ((df (par m c) (row m c _) z : ℝ) : EReal)) e1

theorem final12 (h : Launched m c) : (dats m 0 c).arrAt 12 cfg0.N = arrOf fun R => df (par m c) (row m c R) :=
  (dats m 0 c).arrAt_eq_of_cover 12 _ (fun t _ => flushed12 m c h t) fun i => by
    have hN : cfg0.N = 32 := N_0
    have b0 : (i 0 : ℕ) < 8192 := (i 0).isLt
    have b1 : (i 1 : ℕ) < 1024 := (i 1).isLt
    refine ⟨⟨(i 0 : ℕ) / 256, by omega⟩, flush0_12 _, ?_⟩
    generalize ht : (⟨(i 0 : ℕ) / 256, by omega⟩ : Fin cfg0.N) = t
    have hv : t.val = (i 0 : ℕ) / 256 := by rw [← ht]
    have hi : win0_12.index t 0 = t.val ∧ win0_12.index t 1 = 0 :=
      (by decide +kernel : ∀ t : Fin grid0.N, win0_12.index t 0 = t.val ∧ win0_12.index t 1 = 0) t
    show i ∈ ((View.whole main_v8_4).slice (win0_12.rect t)).set
    rw [View.set_slice_whole, Rect.mem_set_unit]
    intro a
    match a with
    | ⟨0, _⟩ =>
      show win0_12.index t 0 * 256 ≤ (i 0 : ℕ) ∧ (i 0 : ℕ) < win0_12.index t 0 * 256 + 256
      rw [hi.1]
      omega
    | ⟨1, _⟩ =>
      show win0_12.index t 1 * 1024 ≤ (i 1 : ℕ) ∧ (i 1 : ℕ) < win0_12.index t 1 * 1024 + 1024
      rw [hi.2]
      omega

theorem outs13 (h : Launched m c) (t : Fin cfg0.N) :
    Holds (a := 256) (b := 2816) (outsAt0 m c t.val t.isLt).2.2.2.2.2.1 (fun r => act (par m c) (row m c (tok t r))) := by
  by_cases h0 : t.val % 32 = 0
  · rw [outsAt0_A m c t h0]
    dsimp only
    intro r j
    exact Tile.outA13 (tile m c h t) ..
  · rw [outsAt0_B m c t h0]
    dsimp only
    intro r j
    exact Tile.outB13 (tile m c h t) ..

theorem flushed13 (h : Launched m c) (t : Fin cfg0.N) :
    (dats m 0 c).flushed 13 t = ((cfg0.win 13).blk t).view.read (Elt Ideal) (arrOf fun R => act (par m c) (row m c R)) := by
  have hi : win0_13.index t 0 = t.val ∧ win0_13.index t 1 = 0 :=
    (by decide +kernel : ∀ t : Fin grid0.N, win0_13.index t 0 = t.val ∧ win0_13.index t 1 = 0) t
  rw [Value.flushed13]
  funext y
  rw [View.read_apply]
  have hy : y = ix2 (y 0) (y 1) := by
    funext a
    fin_cases a <;> rfl
  refine ((congrArg (outsAt0 m c t.val t.isLt).2.2.2.2.2.1 hy).trans (outs13 m c h t (y 0) (y 1))).trans ?_
  have e0 : tok t (y 0) = (((cfg0.win 13).blk t).view.emb y) 0 := Fin.ext (by
    show 256 * t.val + (y 0).val = win0_13.index t 0 * 256 + 1 * (y 0).val
    rw [hi.1]
    omega)
  have e1 : y 1 = (((cfg0.win 13).blk t).view.emb y) 1 := Fin.ext (by
    show (y 1).val = win0_13.index t 1 * 2816 + 1 * (y 1).val
    rw [hi.2]
    omega)
  show ((act (par m c) (row m c (tok t (y 0))) (y 1) : ℝ) : EReal) = ((act (par m c) (row m c _) _ : ℝ) : EReal)
  rw [e0]
  exact congrArg (fun z => ((act (par m c) (row m c _) z : ℝ) : EReal)) e1

theorem final13 (h : Launched m c) : (dats m 0 c).arrAt 13 cfg0.N = arrOf fun R => act (par m c) (row m c R) :=
  (dats m 0 c).arrAt_eq_of_cover 13 _ (fun t _ => flushed13 m c h t) fun i => by
    have hN : cfg0.N = 32 := N_0
    have b0 : (i 0 : ℕ) < 8192 := (i 0).isLt
    have b1 : (i 1 : ℕ) < 2816 := (i 1).isLt
    refine ⟨⟨(i 0 : ℕ) / 256, by omega⟩, flush0_13 _, ?_⟩
    generalize ht : (⟨(i 0 : ℕ) / 256, by omega⟩ : Fin cfg0.N) = t
    have hv : t.val = (i 0 : ℕ) / 256 := by rw [← ht]
    have hi : win0_13.index t 0 = t.val ∧ win0_13.index t 1 = 0 :=
      (by decide +kernel : ∀ t : Fin grid0.N, win0_13.index t 0 = t.val ∧ win0_13.index t 1 = 0) t
    show i ∈ ((View.whole main_v8_5).slice (win0_13.rect t)).set
    rw [View.set_slice_whole, Rect.mem_set_unit]
    intro a
    match a with
    | ⟨0, _⟩ =>
      show win0_13.index t 0 * 256 ≤ (i 0 : ℕ) ∧ (i 0 : ℕ) < win0_13.index t 0 * 256 + 256
      rw [hi.1]
      omega
    | ⟨1, _⟩ =>
      show win0_13.index t 1 * 2816 ≤ (i 1 : ℕ) ∧ (i 1 : ℕ) < win0_13.index t 1 * 2816 + 2816
      rw [hi.2]
      omega

theorem outs14 (h : Launched m c) (t : Fin cfg0.N) :
    Holds (a := 256) (b := 2816) (outsAt0 m c t.val t.isLt).2.2.2.2.2.2.1 (fun r => da (par m c) (row m c (tok t r))) := by
  by_cases h0 : t.val % 32 = 0
  · rw [outsAt0_A m c t h0]
    dsimp only
    intro r j
    exact Tile.outA14 (tile m c h t) ..
  · rw [outsAt0_B m c t h0]
    dsimp only
    intro r j
    exact Tile.outB14 (tile m c h t) ..

theorem flushed14 (h : Launched m c) (t : Fin cfg0.N) :
    (dats m 0 c).flushed 14 t = ((cfg0.win 14).blk t).view.read (Elt Ideal) (arrOf fun R => da (par m c) (row m c R)) := by
  have hi : win0_14.index t 0 = t.val ∧ win0_14.index t 1 = 0 :=
    (by decide +kernel : ∀ t : Fin grid0.N, win0_14.index t 0 = t.val ∧ win0_14.index t 1 = 0) t
  rw [Value.flushed14]
  funext y
  rw [View.read_apply]
  have hy : y = ix2 (y 0) (y 1) := by
    funext a
    fin_cases a <;> rfl
  refine ((congrArg (outsAt0 m c t.val t.isLt).2.2.2.2.2.2.1 hy).trans (outs14 m c h t (y 0) (y 1))).trans ?_
  have e0 : tok t (y 0) = (((cfg0.win 14).blk t).view.emb y) 0 := Fin.ext (by
    show 256 * t.val + (y 0).val = win0_14.index t 0 * 256 + 1 * (y 0).val
    rw [hi.1]
    omega)
  have e1 : y 1 = (((cfg0.win 14).blk t).view.emb y) 1 := Fin.ext (by
    show (y 1).val = win0_14.index t 1 * 2816 + 1 * (y 1).val
    rw [hi.2]
    omega)
  show ((da (par m c) (row m c (tok t (y 0))) (y 1) : ℝ) : EReal) = ((da (par m c) (row m c _) _ : ℝ) : EReal)
  rw [e0]
  exact congrArg (fun z => ((da (par m c) (row m c _) z : ℝ) : EReal)) e1

theorem final14 (h : Launched m c) : (dats m 0 c).arrAt 14 cfg0.N = arrOf fun R => da (par m c) (row m c R) :=
  (dats m 0 c).arrAt_eq_of_cover 14 _ (fun t _ => flushed14 m c h t) fun i => by
    have hN : cfg0.N = 32 := N_0
    have b0 : (i 0 : ℕ) < 8192 := (i 0).isLt
    have b1 : (i 1 : ℕ) < 2816 := (i 1).isLt
    refine ⟨⟨(i 0 : ℕ) / 256, by omega⟩, flush0_14 _, ?_⟩
    generalize ht : (⟨(i 0 : ℕ) / 256, by omega⟩ : Fin cfg0.N) = t
    have hv : t.val = (i 0 : ℕ) / 256 := by rw [← ht]
    have hi : win0_14.index t 0 = t.val ∧ win0_14.index t 1 = 0 :=
      (by decide +kernel : ∀ t : Fin grid0.N, win0_14.index t 0 = t.val ∧ win0_14.index t 1 = 0) t
    show i ∈ ((View.whole main_v8_6).slice (win0_14.rect t)).set
    rw [View.set_slice_whole, Rect.mem_set_unit]
    intro a
    match a with
    | ⟨0, _⟩ =>
      show win0_14.index t 0 * 256 ≤ (i 0 : ℕ) ∧ (i 0 : ℕ) < win0_14.index t 0 * 256 + 256
      rw [hi.1]
      omega
    | ⟨1, _⟩ =>
      show win0_14.index t 1 * 2816 ≤ (i 1 : ℕ) ∧ (i 1 : ℕ) < win0_14.index t 1 * 2816 + 2816
      rw [hi.2]
      omega

theorem outs15 (h : Launched m c) (t : Fin cfg0.N) :
    Holds (a := 256) (b := 2816) (outsAt0 m c t.val t.isLt).2.2.2.2.2.2.2.1 (fun r => db (par m c) (row m c (tok t r))) := by
  by_cases h0 : t.val % 32 = 0
  · rw [outsAt0_A m c t h0]
    dsimp only
    intro r j
    exact Tile.outA15 (tile m c h t) ..
  · rw [outsAt0_B m c t h0]
    dsimp only
    intro r j
    exact Tile.outB15 (tile m c h t) ..

theorem flushed15 (h : Launched m c) (t : Fin cfg0.N) :
    (dats m 0 c).flushed 15 t = ((cfg0.win 15).blk t).view.read (Elt Ideal) (arrOf fun R => db (par m c) (row m c R)) := by
  have hi : win0_15.index t 0 = t.val ∧ win0_15.index t 1 = 0 :=
    (by decide +kernel : ∀ t : Fin grid0.N, win0_15.index t 0 = t.val ∧ win0_15.index t 1 = 0) t
  rw [Value.flushed15]
  funext y
  rw [View.read_apply]
  have hy : y = ix2 (y 0) (y 1) := by
    funext a
    fin_cases a <;> rfl
  refine ((congrArg (outsAt0 m c t.val t.isLt).2.2.2.2.2.2.2.1 hy).trans (outs15 m c h t (y 0) (y 1))).trans ?_
  have e0 : tok t (y 0) = (((cfg0.win 15).blk t).view.emb y) 0 := Fin.ext (by
    show 256 * t.val + (y 0).val = win0_15.index t 0 * 256 + 1 * (y 0).val
    rw [hi.1]
    omega)
  have e1 : y 1 = (((cfg0.win 15).blk t).view.emb y) 1 := Fin.ext (by
    show (y 1).val = win0_15.index t 1 * 2816 + 1 * (y 1).val
    rw [hi.2]
    omega)
  show ((db (par m c) (row m c (tok t (y 0))) (y 1) : ℝ) : EReal) = ((db (par m c) (row m c _) _ : ℝ) : EReal)
  rw [e0]
  exact congrArg (fun z => ((db (par m c) (row m c _) z : ℝ) : EReal)) e1

theorem final15 (h : Launched m c) : (dats m 0 c).arrAt 15 cfg0.N = arrOf fun R => db (par m c) (row m c R) :=
  (dats m 0 c).arrAt_eq_of_cover 15 _ (fun t _ => flushed15 m c h t) fun i => by
    have hN : cfg0.N = 32 := N_0
    have b0 : (i 0 : ℕ) < 8192 := (i 0).isLt
    have b1 : (i 1 : ℕ) < 2816 := (i 1).isLt
    refine ⟨⟨(i 0 : ℕ) / 256, by omega⟩, flush0_15 _, ?_⟩
    generalize ht : (⟨(i 0 : ℕ) / 256, by omega⟩ : Fin cfg0.N) = t
    have hv : t.val = (i 0 : ℕ) / 256 := by rw [← ht]
    have hi : win0_15.index t 0 = t.val ∧ win0_15.index t 1 = 0 :=
      (by decide +kernel : ∀ t : Fin grid0.N, win0_15.index t 0 = t.val ∧ win0_15.index t 1 = 0) t
    show i ∈ ((View.whole main_v8_7).slice (win0_15.rect t)).set
    rw [View.set_slice_whole, Rect.mem_set_unit]
    intro a
    match a with
    | ⟨0, _⟩ =>
      show win0_15.index t 0 * 256 ≤ (i 0 : ℕ) ∧ (i 0 : ℕ) < win0_15.index t 0 * 256 + 256
      rw [hi.1]
      omega
    | ⟨1, _⟩ =>
      show win0_15.index t 1 * 2816 ≤ (i 1 : ℕ) ∧ (i 1 : ℕ) < win0_15.index t 1 * 2816 + 2816
      rw [hi.2]
      omega

/-- What tile `s` adds to row `k`. -/
def tilePart (k : Fin 16) (j : Fin 1024) (s : ℕ) : ℝ :=
  if h : s < cfg0.N then ∑ r, part (par m c) (row m c (tok ⟨s, h⟩ r)) k j else 0

theorem acc_A (h : Launched m c) (t : Fin cfg0.N) (h0 : t.val % 32 = 0) (k : Fin 16) (j : Fin 1024) :
    (outsAt0 m c t.val t.isLt).2.2.2.2.2.2.2.2 (ix2 k j) = ((0 + ∑ r, part (par m c) (row m c (tok t r)) k j : ℝ) : EReal) := by
  rw [outsAt0_A m c t h0]
  dsimp only
  apply Tile.outA16 (tile m c h t)

theorem acc_B (h : Launched m c) (t : Fin cfg0.N) (h0 : ¬t.val % 32 = 0) (s : Fin 16 → Fin 1024 → ℝ)
    (hs : ∀ k j, (outsAt0 m c (t.val - 1) (Nat.lt_of_le_of_lt (Nat.sub_le _ _) t.isLt)).2.2.2.2.2.2.2.2 (ix2 k j) = ((s k j : ℝ) : EReal))
    (k : Fin 16) (j : Fin 1024) :
    (outsAt0 m c t.val t.isLt).2.2.2.2.2.2.2.2 (ix2 k j) = ((s k j + ∑ r, part (par m c) (row m c (tok t r)) k j : ℝ) : EReal) := by
  rw [outsAt0_B m c t h0]
  dsimp only
  apply Tile.outB16 (tile m c h t)
  exact hs

/-- After tile `n` the accumulator holds what the tiles up to `n` add. -/
theorem outs16 (h : Launched m c) : ∀ (n : ℕ) (hn : n < cfg0.N) (k : Fin 16) (j : Fin 1024),
    (outsAt0 m c n hn).2.2.2.2.2.2.2.2 (ix2 k j) = ((∑ s ∈ Finset.range (n + 1), tilePart m c k j s : ℝ) : EReal)
  | 0, hn, k, j => by
    refine (acc_A m c h ⟨0, hn⟩ rfl k j).trans ?_
    rw [Finset.sum_range_succ, Finset.sum_range_zero]
    unfold tilePart
    rw [dif_pos hn]
  | n + 1, hn, k, j => by
    have hN : cfg0.N = 32 := N_0
    have h0 : ¬(⟨n + 1, hn⟩ : Fin cfg0.N).val % 32 = 0 := by
      dsimp only
      omega
    refine (acc_B m c h ⟨n + 1, hn⟩ h0 (fun k j => ∑ s ∈ Finset.range (n + 1), tilePart m c k j s)
      (fun k j => outs16 h n _ k j) k j).trans ?_
    rw [Finset.sum_range_succ _ (n + 1)]
    refine congrArg (fun z : ℝ => ((_ + z : ℝ) : EReal)) ?_
    unfold tilePart
    rw [dif_pos hn]

/-- The tiles' parts together are the sum over all tokens. -/
theorem tileParts (k : Fin 16) (j : Fin 1024) :
    ∑ s ∈ Finset.range 32, tilePart m c k j s = ∑ R, part (par m c) (row m c R) k j := by
  have hN : cfg0.N = 32 := N_0
  rw [Finset.sum_range]
  refine Eq.trans ?_ (Equiv.sum_comp (finProdFinEquiv : Fin 32 × Fin 256 ≃ Fin (32 * 256))
    (fun R : Fin 8192 => part (par m c) (row m c R) k j))
  rw [Fintype.sum_prod_type]
  refine Finset.sum_congr rfl fun s _ => ?_
  unfold tilePart
  rw [dif_pos (by have := s.isLt; omega)]
  refine Finset.sum_congr rfl fun r _ => ?_
  have e : tok ⟨s.val, by have := s.isLt; omega⟩ r = (finProdFinEquiv (s, r) : Fin (32 * 256)) := Fin.ext (by
    show 256 * s.val + r.val = r.val + 256 * s.val
    omega)
  rw [e]

theorem flushed16 (h : Launched m c) (t : Fin cfg0.N) (hf : (cfg0.win 16).flush t = true) :
    (dats m 0 c).flushed 16 t = ((cfg0.win 16).blk t).view.read (Elt Ideal) (arrOf fun k j => ∑ R, part (par m c) (row m c R) k j) := by
  have hN : cfg0.N = 32 := N_0
  have h31 : t.val = 31 := by
    have := (flush0_16 t).mp hf
    have := t.isLt
    omega
  have hi : win0_16.index t 0 = 0 ∧ win0_16.index t 1 = 0 :=
    (by decide +kernel : ∀ t : Fin grid0.N, win0_16.index t 0 = 0 ∧ win0_16.index t 1 = 0) t
  rw [Value.flushed16]
  funext y
  rw [View.read_apply]
  have hy : y = ix2 (y 0) (y 1) := by
    funext a
    fin_cases a <;> rfl
  refine ((congrArg (outsAt0 m c t.val t.isLt).2.2.2.2.2.2.2.2 hy).trans (outs16 m c h t.val t.isLt (y 0) (y 1))).trans ?_
  refine (congrArg (fun z : ℝ => (z : EReal)) ((congrArg (fun n => ∑ s ∈ Finset.range (n + 1), tilePart m c (y 0) (y 1) s) h31).trans
    (tileParts m c (y 0) (y 1)))).trans ?_
  have e0 : y 0 = (((cfg0.win 16).blk t).view.emb y) 0 := Fin.ext (by
    show (y 0).val = win0_16.index t 0 * 16 + 1 * (y 0).val
    rw [hi.1]
    omega)
  have e1 : y 1 = (((cfg0.win 16).blk t).view.emb y) 1 := Fin.ext (by
    show (y 1).val = win0_16.index t 1 * 1024 + 1 * (y 1).val
    rw [hi.2]
    omega)
  exact congrArg₂ (fun k j => ((∑ R, part (par m c) (row m c R) k j : ℝ) : EReal)) e0 e1

theorem final16 (h : Launched m c) :
    (dats m 0 c).arrAt 16 cfg0.N = arrOf fun k j => ∑ R, part (par m c) (row m c R) k j :=
  (dats m 0 c).arrAt_eq_of_cover 16 _ (flushed16 m c h) fun i => by
    have hN : cfg0.N = 32 := N_0
    have b0 : (i 0 : ℕ) < 16 := (i 0).isLt
    have b1 : (i 1 : ℕ) < 1024 := (i 1).isLt
    refine ⟨⟨31, by omega⟩, (flush0_16 _).mpr rfl, ?_⟩
    generalize (⟨31, by omega⟩ : Fin cfg0.N) = t
    have hi : win0_16.index t 0 = 0 ∧ win0_16.index t 1 = 0 :=
      (by decide +kernel : ∀ t : Fin grid0.N, win0_16.index t 0 = 0 ∧ win0_16.index t 1 = 0) t
    show i ∈ ((View.whole main_v8_8).slice (win0_16.rect t)).set
    rw [View.set_slice_whole, Rect.mem_set_unit]
    intro a
    match a with
    | ⟨0, _⟩ =>
      show win0_16.index t 0 * 16 ≤ (i 0 : ℕ) ∧ (i 0 : ℕ) < win0_16.index t 0 * 16 + 16
      rw [hi.1]
      omega
    | ⟨1, _⟩ =>
      show win0_16.index t 1 * 1024 ≤ (i 1 : ℕ) ∧ (i 1 : ℕ) < win0_16.index t 1 * 1024 + 1024
      rw [hi.2]
      omega

end Cert.Post

end
-- ==== Proof.RefFwd.lean ====
/- What the reference's forward operations compute: each array, at a token's row, is the real function of `Spec.lean` it
   is named after. -/
module

public import proofs.«01_k».proof.Proof.Final
public import proofs.«01_k».proof.Proof.Gen.ReferenceIdeal.Read

@[expose] public section

set_option maxRecDepth 16384

noncomputable section

namespace Cert.Post

open Cert.ReferenceIdeal Cert.ReferenceIdeal.Read Idealize.ShloMosaic

/-- The argument arrays hold the parameters `p` and the tokens `q`. -/
structure Inputs (p : Par) (q : Fin 8192 → Row) (x0 x1 x2 : Arr 8192 1024) (x3 x4 x5 x6 x7 x8 : Arr 1 1024)
    (x9 : Arr 1024 1024) (x10 x11 : Arr 1024 2816) (x12 : Arr 2816 1024) : Prop where
  h0 : Holds x0 fun R => (q R).x
  h1 : Holds x1 fun R => (q R).yc
  h2 : Holds x2 fun R => (q R).tg
  h3 : Holds x3 fun _ => p.g1
  h4 : Holds x4 fun _ => p.n2
  h5 : Holds x5 fun _ => p.sh
  h6 : Holds x6 fun _ => p.sc
  h7 : Holds x7 fun _ => p.g2
  h8 : Holds x8 fun _ => p.nf
  h9 : Holds x9 p.wo
  h10 : Holds x10 p.wg
  h11 : Holds x11 p.wu
  h12 : Holds x12 p.wd

theorem sigmoid (a : ℝ) : Ideal.div 1 (1 + Ideal.exp (-((a : ℝ) : EReal))) = ((sg a : ℝ) : EReal) := by
  have h : (1 + Real.exp (-a)) ≠ 0 := (add_pos one_pos (Real.exp_pos _)).ne'
  rw [← EReal.coe_neg, Ideal.exp_coe, one_coe, ← EReal.coe_add, div_real _ _ h]
  exact congrArg _ (one_div _)

section
variable (p : Par) (q : Fin 8192 → Row)
variable {x0 x1 x2 : Arr 8192 1024} {x3 x4 x5 x6 x7 x8 : Arr 1 1024} {x9 : Arr 1024 1024} {x10 x11 : Arr 1024 2816}
  {x12 : Arr 2816 1024}

theorem r_v6 (h : Inputs p q x0 x1 x2 x3 x4 x5 x6 x7 x8 x9 x10 x11 x12) : ∀ (R : Fin 8192) (j : Fin _),
    val_main_v6 (F := Ideal) x1 x9 (ix2 R j) = ((y p (q R) j : ℝ) : EReal) := by
  intro R j
  unfold val_main_v6 val_main_v5 val_main_v4 val_main_v0 val_main_cst
  pointwise
  simp only [h.h9 _ _, h.h1 _ _, add_zero, zero_add, ← EReal.coe_mul, ← EReal.coe_add, sum_coe]
  rfl

theorem r_v9 (h : Inputs p q x0 x1 x2 x3 x4 x5 x6 x7 x8 x9 x10 x11 x12) : ∀ (R : Fin 8192) (j : Fin _),
    val_main_v9 (F := Ideal) x0 x1 x3 x9 (ix2 R j) = ((Post.x1 p (q R) j : ℝ) : EReal) := by
  intro R j
  unfold val_main_v9 val_main_v8 val_main_v7
  pointwise
  simp only [r_v6 p q h, h.h0 _ _, h.h3 _ _, add_zero, zero_add, ← EReal.coe_mul, ← EReal.coe_add]
  rfl

theorem r_v16 (h : Inputs p q x0 x1 x2 x3 x4 x5 x6 x7 x8 x9 x10 x11 x12) : ∀ (R : Fin 8192) (u : Fin 1),
    val_main_v16 (F := Ideal) x0 x1 x3 x9 (ix2 R u) = ((ms (Post.x1 p (q R)) : ℝ) : EReal) := by
  intro R u
  unfold val_main_v16 val_main_v15 val_main_cst_5 val_main_v14 val_main_v13 val_main_cst_4 val_main_v12 val_main_v11 val_main_cst_3 val_main_v10
  pointwise
  simp only [r_v9 p q h, c1024, div_real _ _ (by norm_num : (1024 : ℝ) ≠ 0), ceps, add_zero, zero_add, ← EReal.coe_mul, ← EReal.coe_add, sum_coe]
  rfl

theorem r_v17 (h : Inputs p q x0 x1 x2 x3 x4 x5 x6 x7 x8 x9 x10 x11 x12) : ∀ (R : Fin 8192) (u : Fin 1),
    val_main_v17 (F := Ideal) x0 x1 x3 x9 (ix2 R u) = ((rr (Post.x1 p (q R)) : ℝ) : EReal) := by
  intro R u
  unfold val_main_v17
  pointwise
  simp only [r_v16 p q h, add_zero, zero_add, ← EReal.coe_mul, ← EReal.coe_add]
  exact rsqrt_ms _

theorem r_v20 (h : Inputs p q x0 x1 x2 x3 x4 x5 x6 x7 x8 x9 x10 x11 x12) : ∀ (R : Fin 8192) (u : Fin 1),
    val_main_v20 (F := Ideal) x0 x1 x3 x9 (ix2 R u) = ((-(1 / 2) * (rr (Post.x1 p (q R)) / ms (Post.x1 p (q R))) : ℝ) : EReal) := by
  intro R u
  unfold val_main_v20 val_main_v19 val_main_cst_6 val_main_v18
  pointwise
  simp only [r_v17 p q h, r_v16 p q h, cneghalf, add_zero, zero_add, ← EReal.coe_mul, ← EReal.coe_add, div_real _ _ (ms_pos _).ne']

theorem r_v22 (h : Inputs p q x0 x1 x2 x3 x4 x5 x6 x7 x8 x9 x10 x11 x12) : ∀ (R : Fin 8192) (j : Fin _),
    val_main_v22 (F := Ideal) x0 x1 x3 x9 (ix2 R j) = ((xn2 p (q R) j : ℝ) : EReal) := by
  intro R j
  unfold val_main_v22 val_main_v21
  pointwise
  simp only [r_v9 p q h, r_v17 p q h, add_zero, zero_add, ← EReal.coe_mul, ← EReal.coe_add]
  rfl

theorem r_v24 (h : Inputs p q x0 x1 x2 x3 x4 x5 x6 x7 x8 x9 x10 x11 x12) : ∀ (R : Fin 8192) (j : Fin _),
    val_main_v24 (F := Ideal) x0 x1 x3 x4 x9 (ix2 R j) = ((t2 p (q R) j : ℝ) : EReal) := by
  intro R j
  unfold val_main_v24 val_main_v23
  pointwise
  simp only [r_v22 p q h, h.h4 _ _, add_zero, zero_add, ← EReal.coe_mul, ← EReal.coe_add]
  rfl

theorem r_v30 (h : Inputs p q x0 x1 x2 x3 x4 x5 x6 x7 x8 x9 x10 x11 x12) : ∀ (R : Fin 8192) (j : Fin _),
    val_main_v30 (F := Ideal) x0 x1 x3 x4 x5 x6 x9 (ix2 R j) = ((h2 p (q R) j : ℝ) : EReal) := by
  intro R j
  unfold val_main_v30 val_main_v29 val_main_v28 val_main_v27 val_main_v26 val_main_v25 val_main_cst_7
  pointwise
  simp only [r_v24 p q h, h.h5 _ _, h.h6 _ _, one_coe, add_zero, zero_add, ← EReal.coe_mul, ← EReal.coe_add]
  rfl

theorem r_v32 (h : Inputs p q x0 x1 x2 x3 x4 x5 x6 x7 x8 x9 x10 x11 x12) : ∀ (R : Fin 8192) (j : Fin _),
    val_main_v32 (F := Ideal) x0 x1 x3 x4 x5 x6 x9 x10 (ix2 R j) = ((ga p (q R) j : ℝ) : EReal) := by
  intro R j
  unfold val_main_v32 val_main_v31 val_main_v1 val_main_cst_0
  pointwise
  simp only [r_v30 p q h, h.h10 _ _, add_zero, zero_add, ← EReal.coe_mul, ← EReal.coe_add, sum_coe]
  rfl

theorem r_v34 (h : Inputs p q x0 x1 x2 x3 x4 x5 x6 x7 x8 x9 x10 x11 x12) : ∀ (R : Fin 8192) (j : Fin _),
    val_main_v34 (F := Ideal) x0 x1 x3 x4 x5 x6 x9 x11 (ix2 R j) = ((up p (q R) j : ℝ) : EReal) := by
  intro R j
  unfold val_main_v34 val_main_v33 val_main_v2 val_main_cst_1
  pointwise
  simp only [r_v30 p q h, h.h11 _ _, add_zero, zero_add, ← EReal.coe_mul, ← EReal.coe_add, sum_coe]
  rfl

theorem r_v35_2 (h : Inputs p q x0 x1 x2 x3 x4 x5 x6 x7 x8 x9 x10 x11 x12) : ∀ (R : Fin 8192) (j : Fin _),
    val_main_v35_2 (F := Ideal) x0 x1 x3 x4 x5 x6 x9 x10 (ix2 R j) = ((sg (ga p (q R) j) : ℝ) : EReal) := by
  intro R j
  unfold val_main_v35_2 val_main_call0_v4 val_main_call0_cst_0 val_main_call0_v3 val_main_call0_v2 val_main_call0_cst val_main_call0_v1 val_main_call0_v0
  pointwise
  simp only [r_v32 p q h, add_zero, zero_add, ← EReal.coe_mul, ← EReal.coe_add]
  exact sigmoid _

theorem r_v35_1 (h : Inputs p q x0 x1 x2 x3 x4 x5 x6 x7 x8 x9 x10 x11 x12) : ∀ (R : Fin 8192) (j : Fin _),
    val_main_v35_1 (F := Ideal) x0 x1 x3 x4 x5 x6 x9 x10 (ix2 R j) = ((sg (ga p (q R) j) * (1 - sg (ga p (q R) j)) : ℝ) : EReal) := by
  intro R j
  unfold val_main_v35_1 val_main_call0_v7 val_main_call0_v6 val_main_call0_cst_1
  pointwise
  simp only [r_v35_2 p q h, one_coe, add_zero, zero_add, ← EReal.coe_mul, ← EReal.coe_add, ← EReal.coe_sub]

theorem r_v35_0 (h : Inputs p q x0 x1 x2 x3 x4 x5 x6 x7 x8 x9 x10 x11 x12) : ∀ (R : Fin 8192) (j : Fin _),
    val_main_v35_0 (F := Ideal) x0 x1 x3 x4 x5 x6 x9 x10 (ix2 R j) = ((ga p (q R) j * sg (ga p (q R) j) : ℝ) : EReal) := by
  intro R j
  unfold val_main_v35_0
  pointwise
  simp only [r_v32 p q h, r_v35_2 p q h, add_zero, zero_add, ← EReal.coe_mul, ← EReal.coe_add]

theorem r_v36 (h : Inputs p q x0 x1 x2 x3 x4 x5 x6 x7 x8 x9 x10 x11 x12) : ∀ (R : Fin 8192) (j : Fin _),
    val_main_v36 (F := Ideal) x0 x1 x3 x4 x5 x6 x9 x10 x11 (ix2 R j) = ((act p (q R) j : ℝ) : EReal) := by
  intro R j
  unfold val_main_v36
  pointwise
  simp only [r_v35_0 p q h, r_v34 p q h, add_zero, zero_add, ← EReal.coe_mul, ← EReal.coe_add]
  rfl

theorem r_v38 (h : Inputs p q x0 x1 x2 x3 x4 x5 x6 x7 x8 x9 x10 x11 x12) : ∀ (R : Fin 8192) (j : Fin _),
    val_main_v38 (F := Ideal) x0 x1 x3 x4 x5 x6 x9 x10 x11 x12 (ix2 R j) = ((f p (q R) j : ℝ) : EReal) := by
  intro R j
  unfold val_main_v38 val_main_v37 val_main_v3 val_main_cst_2
  pointwise
  simp only [r_v36 p q h, h.h12 _ _, add_zero, zero_add, ← EReal.coe_mul, ← EReal.coe_add, sum_coe]
  rfl

theorem r_v41 (h : Inputs p q x0 x1 x2 x3 x4 x5 x6 x7 x8 x9 x10 x11 x12) : ∀ (R : Fin 8192) (j : Fin _),
    val_main_v41 (F := Ideal) x0 x1 x3 x4 x5 x6 x7 x9 x10 x11 x12 (ix2 R j) = ((Post.x2 p (q R) j : ℝ) : EReal) := by
  intro R j
  unfold val_main_v41 val_main_v40 val_main_v39
  pointwise
  simp only [r_v9 p q h, r_v38 p q h, h.h7 _ _, add_zero, zero_add, ← EReal.coe_mul, ← EReal.coe_add]
  rfl

theorem r_v48 (h : Inputs p q x0 x1 x2 x3 x4 x5 x6 x7 x8 x9 x10 x11 x12) : ∀ (R : Fin 8192) (u : Fin 1),
    val_main_v48 (F := Ideal) x0 x1 x3 x4 x5 x6 x7 x9 x10 x11 x12 (ix2 R u) = ((ms (Post.x2 p (q R)) : ℝ) : EReal) := by
  intro R u
  unfold val_main_v48 val_main_v47 val_main_cst_10 val_main_v46 val_main_v45 val_main_cst_9 val_main_v44 val_main_v43 val_main_cst_8 val_main_v42
  pointwise
  simp only [r_v41 p q h, c1024, div_real _ _ (by norm_num : (1024 : ℝ) ≠ 0), ceps, add_zero, zero_add, ← EReal.coe_mul, ← EReal.coe_add, sum_coe]
  rfl

theorem r_v49 (h : Inputs p q x0 x1 x2 x3 x4 x5 x6 x7 x8 x9 x10 x11 x12) : ∀ (R : Fin 8192) (u : Fin 1),
    val_main_v49 (F := Ideal) x0 x1 x3 x4 x5 x6 x7 x9 x10 x11 x12 (ix2 R u) = ((rr (Post.x2 p (q R)) : ℝ) : EReal) := by
  intro R u
  unfold val_main_v49
  pointwise
  simp only [r_v48 p q h, add_zero, zero_add, ← EReal.coe_mul, ← EReal.coe_add]
  exact rsqrt_ms _

theorem r_v52 (h : Inputs p q x0 x1 x2 x3 x4 x5 x6 x7 x8 x9 x10 x11 x12) : ∀ (R : Fin 8192) (u : Fin 1),
    val_main_v52 (F := Ideal) x0 x1 x3 x4 x5 x6 x7 x9 x10 x11 x12 (ix2 R u) = ((-(1 / 2) * (rr (Post.x2 p (q R)) / ms (Post.x2 p (q R))) : ℝ) : EReal) := by
  intro R u
  unfold val_main_v52 val_main_v51 val_main_cst_11 val_main_v50
  pointwise
  simp only [r_v49 p q h, r_v48 p q h, cneghalf, add_zero, zero_add, ← EReal.coe_mul, ← EReal.coe_add, div_real _ _ (ms_pos _).ne']

theorem r_v54 (h : Inputs p q x0 x1 x2 x3 x4 x5 x6 x7 x8 x9 x10 x11 x12) : ∀ (R : Fin 8192) (j : Fin _),
    val_main_v54 (F := Ideal) x0 x1 x3 x4 x5 x6 x7 x9 x10 x11 x12 (ix2 R j) = ((xn3 p (q R) j : ℝ) : EReal) := by
  intro R j
  unfold val_main_v54 val_main_v53
  pointwise
  simp only [r_v41 p q h, r_v49 p q h, add_zero, zero_add, ← EReal.coe_mul, ← EReal.coe_add]
  rfl

theorem r_v57 (h : Inputs p q x0 x1 x2 x3 x4 x5 x6 x7 x8 x9 x10 x11 x12) : ∀ (R : Fin 8192) (j : Fin _),
    val_main_v57 (F := Ideal) x0 x1 x2 x3 x4 x5 x6 x7 x8 x9 x10 x11 x12 (ix2 R j) = ((err p (q R) j : ℝ) : EReal) := by
  intro R j
  unfold val_main_v57 val_main_v56 val_main_v55
  pointwise
  simp only [r_v54 p q h, h.h2 _ _, h.h8 _ _, add_zero, zero_add, ← EReal.coe_mul, ← EReal.coe_add, ← EReal.coe_sub]
  rfl

end

end Cert.Post

end
-- ==== Proof.RefBwd.lean ====
/- What the reference's backward operations compute: each gradient array, at a token's row, is the real function of
   `Spec.lean` it is named after; the rows of sums are sums over the tokens. -/
module

public import proofs.«01_k».proof.Proof.RefFwd

@[expose] public section

set_option maxRecDepth 16384

noncomputable section

namespace Cert.Post

open Cert.ReferenceIdeal Cert.ReferenceIdeal.Read Idealize.ShloMosaic

/-- The factor of the row in its own norm's gradient, as the chain rule through the square sum writes it. -/
def pull (v g : Fin 1024 → ℝ) : ℝ := (∑ k, v k * g k) * (-(1 / 2) * (rr v / ms v)) / 1024

/-- The chain rule's three terms are the norm's gradient. -/
theorem normB_pull (v g : Fin 1024 → ℝ) (j : Fin 1024) :
    g j * rr v + v j * pull v g + pull v g * v j = normB (rr v) (fun k => v k * rr v) g j := by
  have e : ∑ k, g k * (v k * rr v) = rr v * ∑ k, v k * g k := by
    rw [Finset.mul_sum]
    exact Finset.sum_congr rfl fun k _ => by ring
  unfold normB pull
  rw [e, div_eq_mul_inv (rr v) (ms v), ← rr_sq v]
  ring

section
variable (p : Par) (q : Fin 8192 → Row)
variable {x0 x1 x2 : Arr 8192 1024} {x3 x4 x5 x6 x7 x8 : Arr 1 1024} {x9 : Arr 1024 1024} {x10 x11 : Arr 1024 2816}
  {x12 : Arr 2816 1024}

theorem r_v72 (h : Inputs p q x0 x1 x2 x3 x4 x5 x6 x7 x8 x9 x10 x11 x12) : ∀ (R : Fin 8192) (j : Fin _),
    val_main_v72 (F := Ideal) x0 x1 x2 x3 x4 x5 x6 x7 x8 x9 x10 x11 x12 (ix2 R j) = ((dout p (q R) j : ℝ) : EReal) := by
  intro R j
  unfold val_main_v72 val_main_v71 val_main_v70 val_main_cst_18 val_main_v69 val_main_v68 val_main_v67 val_main_cst_17 val_main_v66 val_main_cst_16 val_main_v60 val_main_v59 val_main_cst_12
  pointwise
  simp only [r_v57 p q h, chalf, ctwo, c1024th, one_coe, add_zero, zero_add, ← EReal.coe_mul, ← EReal.coe_add]
  refine congrArg _ ?_
  unfold dout
  ring

theorem r_v75 (h : Inputs p q x0 x1 x2 x3 x4 x5 x6 x7 x8 x9 x10 x11 x12) : ∀ (u : Fin 1) (j : Fin 1024),
    val_main_v75 (F := Ideal) x0 x1 x2 x3 x4 x5 x6 x7 x8 x9 x10 x11 x12 (ix2 u j) = ((∑ R, dout p (q R) j * xn3 p (q R) j : ℝ) : EReal) := by
  intro u j
  unfold val_main_v75 val_main_v74 val_main_cst_19 val_main_v73
  pointwise
  simp only [r_v54 p q h, r_v72 p q h, add_zero, zero_add, ← EReal.coe_mul, ← EReal.coe_add, sum_coe]
  exact congrArg _ (Finset.sum_congr rfl fun R _ => mul_comm _ _)

theorem r_v77 (h : Inputs p q x0 x1 x2 x3 x4 x5 x6 x7 x8 x9 x10 x11 x12) : ∀ (R : Fin 8192) (j : Fin _),
    val_main_v77 (F := Ideal) x0 x1 x2 x3 x4 x5 x6 x7 x8 x9 x10 x11 x12 (ix2 R j) = ((gg p (q R) j : ℝ) : EReal) := by
  intro R j
  unfold val_main_v77 val_main_v76
  pointwise
  simp only [r_v72 p q h, h.h8 _ _, add_zero, zero_add, ← EReal.coe_mul, ← EReal.coe_add]
  rfl

theorem r_v83 (h : Inputs p q x0 x1 x2 x3 x4 x5 x6 x7 x8 x9 x10 x11 x12) : ∀ (R : Fin 8192) (u : Fin 1),
    val_main_v83 (F := Ideal) x0 x1 x2 x3 x4 x5 x6 x7 x8 x9 x10 x11 x12 (ix2 R u) = (((∑ k, Post.x2 p (q R) k * gg p (q R) k) * (-(1 / 2) * (rr (Post.x2 p (q R)) / ms (Post.x2 p (q R)))) : ℝ) : EReal) := by
  intro R u
  unfold val_main_v83 val_main_v80 val_main_v79 val_main_cst_20 val_main_v78
  pointwise
  simp only [r_v52 p q h, r_v41 p q h, r_v77 p q h, add_zero, zero_add, ← EReal.coe_mul, ← EReal.coe_add, sum_coe]

theorem r_v86 (h : Inputs p q x0 x1 x2 x3 x4 x5 x6 x7 x8 x9 x10 x11 x12) : ∀ (R : Fin 8192),
    val_main_v86 (F := Ideal) x0 x1 x2 x3 x4 x5 x6 x7 x8 x9 x10 x11 x12 (ix1 R) = ((pull (Post.x2 p (q R)) (gg p (q R)) : ℝ) : EReal) := by
  intro R
  unfold val_main_v86 val_main_cst_22 val_main_v85 val_main_v84 val_main_cst_21
  pointwise
  simp only [r_v83 p q h, Finset.univ_unique, Finset.sum_singleton, c1024, div_real _ _ (by norm_num : (1024 : ℝ) ≠ 0), add_zero, zero_add, ← EReal.coe_mul, ← EReal.coe_add, sum_coe]
  rfl

theorem r_v91 (h : Inputs p q x0 x1 x2 x3 x4 x5 x6 x7 x8 x9 x10 x11 x12) : ∀ (R : Fin 8192) (j : Fin _),
    val_main_v91 (F := Ideal) x0 x1 x2 x3 x4 x5 x6 x7 x8 x9 x10 x11 x12 (ix2 R j) = ((dx2 p (q R) j : ℝ) : EReal) := by
  intro R j
  unfold val_main_v91 val_main_v90 val_main_v89 val_main_v88 val_main_v87 val_main_v82 val_main_v81
  pointwise
  simp only [r_v41 p q h, r_v86 p q h, r_v77 p q h, r_v49 p q h, add_zero, zero_add, ← EReal.coe_mul, ← EReal.coe_add]
  exact congrArg _ (normB_pull _ _ _)

theorem r_v93 (h : Inputs p q x0 x1 x2 x3 x4 x5 x6 x7 x8 x9 x10 x11 x12) : ∀ (R : Fin 8192) (j : Fin _),
    val_main_v93 (F := Ideal) x0 x1 x2 x3 x4 x5 x6 x7 x8 x9 x10 x11 x12 (ix2 R j) = ((df p (q R) j : ℝ) : EReal) := by
  intro R j
  unfold val_main_v93 val_main_v92
  pointwise
  simp only [r_v91 p q h, h.h7 _ _, add_zero, zero_add, ← EReal.coe_mul, ← EReal.coe_add]
  rfl

theorem r_v96 (h : Inputs p q x0 x1 x2 x3 x4 x5 x6 x7 x8 x9 x10 x11 x12) : ∀ (u : Fin 1) (j : Fin 1024),
    val_main_v96 (F := Ideal) x0 x1 x2 x3 x4 x5 x6 x7 x8 x9 x10 x11 x12 (ix2 u j) = ((∑ R, dx2 p (q R) j * f p (q R) j : ℝ) : EReal) := by
  intro u j
  unfold val_main_v96 val_main_v95 val_main_cst_23 val_main_v94
  pointwise
  simp only [r_v91 p q h, r_v38 p q h, add_zero, zero_add, ← EReal.coe_mul, ← EReal.coe_add, sum_coe]

theorem r_v97 (h : Inputs p q x0 x1 x2 x3 x4 x5 x6 x7 x8 x9 x10 x11 x12) : ∀ (R : Fin 8192) (j : Fin _),
    val_main_v97 (F := Ideal) x0 x1 x2 x3 x4 x5 x6 x7 x8 x9 x10 x11 x12 (ix2 R j) = ((dact p (q R) j : ℝ) : EReal) := by
  intro R j
  unfold val_main_v97
  pointwise
  simp only [r_v93 p q h, h.h12 _ _, add_zero, zero_add, ← EReal.coe_mul, ← EReal.coe_add, sum_coe]
  rfl

theorem r_v98 (h : Inputs p q x0 x1 x2 x3 x4 x5 x6 x7 x8 x9 x10 x11 x12) : ∀ (R : Fin 8192) (j : Fin _),
    val_main_v98 (F := Ideal) x0 x1 x2 x3 x4 x5 x6 x7 x8 x9 x10 x11 x12 (ix2 R j) = ((db p (q R) j : ℝ) : EReal) := by
  intro R j
  unfold val_main_v98
  pointwise
  simp only [r_v35_0 p q h, r_v97 p q h, add_zero, zero_add, ← EReal.coe_mul, ← EReal.coe_add]
  exact congrArg _ (mul_comm _ _)

theorem r_v99 (h : Inputs p q x0 x1 x2 x3 x4 x5 x6 x7 x8 x9 x10 x11 x12) : ∀ (R : Fin 8192) (j : Fin _),
    val_main_v99 (F := Ideal) x0 x1 x2 x3 x4 x5 x6 x7 x8 x9 x10 x11 x12 (ix2 R j) = ((dact p (q R) j * up p (q R) j : ℝ) : EReal) := by
  intro R j
  unfold val_main_v99
  pointwise
  simp only [r_v97 p q h, r_v34 p q h, add_zero, zero_add, ← EReal.coe_mul, ← EReal.coe_add]

theorem r_v100 (h : Inputs p q x0 x1 x2 x3 x4 x5 x6 x7 x8 x9 x10 x11 x12) : ∀ (R : Fin 8192) (j : Fin _),
    val_main_v100 (F := Ideal) x0 x1 x2 x3 x4 x5 x6 x7 x8 x9 x10 x11 x12 (ix2 R j) = ((da p (q R) j : ℝ) : EReal) := by
  intro R j
  unfold val_main_v100 val_main_call1_v2 val_main_call1_v1 val_main_call1_v0
  pointwise
  simp only [r_v35_1 p q h, r_v32 p q h, r_v99 p q h, r_v35_2 p q h, add_zero, zero_add, ← EReal.coe_mul, ← EReal.coe_add]
  refine congrArg _ ?_
  unfold da
  ring

theorem r_v103 (h : Inputs p q x0 x1 x2 x3 x4 x5 x6 x7 x8 x9 x10 x11 x12) : ∀ (R : Fin 8192) (j : Fin _),
    val_main_v103 (F := Ideal) x0 x1 x2 x3 x4 x5 x6 x7 x8 x9 x10 x11 x12 (ix2 R j) = ((dh2 p (q R) j : ℝ) : EReal) := by
  intro R j
  unfold val_main_v103 val_main_v102 val_main_v101
  pointwise
  simp only [r_v100 p q h, r_v98 p q h, h.h11 _ _, h.h10 _ _, add_zero, zero_add, ← EReal.coe_mul, ← EReal.coe_add, sum_coe]
  exact congrArg _ (add_comm _ _)

theorem r_v105 (h : Inputs p q x0 x1 x2 x3 x4 x5 x6 x7 x8 x9 x10 x11 x12) : ∀ (u : Fin 1) (j : Fin 1024),
    val_main_v105 (F := Ideal) x0 x1 x2 x3 x4 x5 x6 x7 x8 x9 x10 x11 x12 (ix2 u j) = ((∑ R, dh2 p (q R) j : ℝ) : EReal) := by
  intro u j
  unfold val_main_v105 val_main_v104 val_main_cst_24
  pointwise
  simp only [r_v103 p q h, add_zero, zero_add, ← EReal.coe_mul, ← EReal.coe_add, sum_coe]

theorem r_v108 (h : Inputs p q x0 x1 x2 x3 x4 x5 x6 x7 x8 x9 x10 x11 x12) : ∀ (u : Fin 1) (j : Fin 1024),
    val_main_v108 (F := Ideal) x0 x1 x2 x3 x4 x5 x6 x7 x8 x9 x10 x11 x12 (ix2 u j) = ((∑ R, dh2 p (q R) j * t2 p (q R) j : ℝ) : EReal) := by
  intro u j
  unfold val_main_v108 val_main_v107 val_main_cst_25 val_main_v106
  pointwise
  simp only [r_v24 p q h, r_v103 p q h, add_zero, zero_add, ← EReal.coe_mul, ← EReal.coe_add, sum_coe]
  exact congrArg _ (Finset.sum_congr rfl fun R _ => mul_comm _ _)

theorem r_v110 (h : Inputs p q x0 x1 x2 x3 x4 x5 x6 x7 x8 x9 x10 x11 x12) : ∀ (R : Fin 8192) (j : Fin _),
    val_main_v110 (F := Ideal) x0 x1 x2 x3 x4 x5 x6 x7 x8 x9 x10 x11 x12 (ix2 R j) = ((dh2 p (q R) j * (1 + p.sc j) : ℝ) : EReal) := by
  intro R j
  unfold val_main_v110 val_main_v109 val_main_v26 val_main_v25 val_main_cst_7
  pointwise
  simp only [r_v103 p q h, h.h6 _ _, one_coe, add_zero, zero_add, ← EReal.coe_mul, ← EReal.coe_add]

theorem r_v113 (h : Inputs p q x0 x1 x2 x3 x4 x5 x6 x7 x8 x9 x10 x11 x12) : ∀ (u : Fin 1) (j : Fin 1024),
    val_main_v113 (F := Ideal) x0 x1 x2 x3 x4 x5 x6 x7 x8 x9 x10 x11 x12 (ix2 u j) = ((∑ R, dh2 p (q R) j * xn2 p (q R) j * (1 + p.sc j) : ℝ) : EReal) := by
  intro u j
  unfold val_main_v113 val_main_v112 val_main_cst_26 val_main_v111
  pointwise
  simp only [r_v22 p q h, r_v110 p q h, add_zero, zero_add, ← EReal.coe_mul, ← EReal.coe_add, sum_coe]
  refine congrArg _ (Finset.sum_congr rfl fun R _ => ?_)
  ring

theorem r_v115 (h : Inputs p q x0 x1 x2 x3 x4 x5 x6 x7 x8 x9 x10 x11 x12) : ∀ (R : Fin 8192) (j : Fin _),
    val_main_v115 (F := Ideal) x0 x1 x2 x3 x4 x5 x6 x7 x8 x9 x10 x11 x12 (ix2 R j) = ((gx p (q R) j : ℝ) : EReal) := by
  intro R j
  unfold val_main_v115 val_main_v114
  pointwise
  simp only [r_v110 p q h, h.h4 _ _, add_zero, zero_add, ← EReal.coe_mul, ← EReal.coe_add]
  exact congrArg _ (mul_right_comm _ _ _)

theorem r_v118 (h : Inputs p q x0 x1 x2 x3 x4 x5 x6 x7 x8 x9 x10 x11 x12) : ∀ (R : Fin 8192) (u : Fin 1),
    val_main_v118 (F := Ideal) x0 x1 x2 x3 x4 x5 x6 x7 x8 x9 x10 x11 x12 (ix2 R u) = ((∑ k, Post.x1 p (q R) k * gx p (q R) k : ℝ) : EReal) := by
  intro R u
  unfold val_main_v118 val_main_v117 val_main_cst_27 val_main_v116
  pointwise
  simp only [r_v9 p q h, r_v115 p q h, add_zero, zero_add, ← EReal.coe_mul, ← EReal.coe_add, sum_coe]

theorem r_v125 (h : Inputs p q x0 x1 x2 x3 x4 x5 x6 x7 x8 x9 x10 x11 x12) : ∀ (R : Fin 8192),
    val_main_v125 (F := Ideal) x0 x1 x2 x3 x4 x5 x6 x7 x8 x9 x10 x11 x12 (ix1 R) = ((pull (Post.x1 p (q R)) (gx p (q R)) : ℝ) : EReal) := by
  intro R
  unfold val_main_v125 val_main_cst_29 val_main_v124 val_main_v123 val_main_cst_28 val_main_v122
  pointwise
  simp only [r_v118 p q h, r_v20 p q h, Finset.univ_unique, Finset.sum_singleton, c1024, div_real _ _ (by norm_num : (1024 : ℝ) ≠ 0), add_zero, zero_add, ← EReal.coe_mul, ← EReal.coe_add, sum_coe]
  rfl

theorem r_v130 (h : Inputs p q x0 x1 x2 x3 x4 x5 x6 x7 x8 x9 x10 x11 x12) : ∀ (R : Fin 8192) (j : Fin _),
    val_main_v130 (F := Ideal) x0 x1 x2 x3 x4 x5 x6 x7 x8 x9 x10 x11 x12 (ix2 R j) = ((dx1 p (q R) j : ℝ) : EReal) := by
  intro R j
  unfold val_main_v130 val_main_v129 val_main_v128 val_main_v127 val_main_v126 val_main_v121 val_main_v120 val_main_v119
  pointwise
  simp only [r_v9 p q h, r_v125 p q h, r_v91 p q h, r_v115 p q h, r_v17 p q h, add_zero, zero_add, ← EReal.coe_mul, ← EReal.coe_add]
  refine congrArg _ ?_
  unfold dx1
  rw [add_assoc, add_assoc, ← add_assoc (_ * rr _)]
  exact congrArg _ (normB_pull _ _ _)

theorem r_v132 (h : Inputs p q x0 x1 x2 x3 x4 x5 x6 x7 x8 x9 x10 x11 x12) : ∀ (R : Fin 8192) (j : Fin _),
    val_main_v132 (F := Ideal) x0 x1 x2 x3 x4 x5 x6 x7 x8 x9 x10 x11 x12 (ix2 R j) = ((dy p (q R) j : ℝ) : EReal) := by
  intro R j
  unfold val_main_v132 val_main_v131
  pointwise
  simp only [r_v130 p q h, h.h3 _ _, add_zero, zero_add, ← EReal.coe_mul, ← EReal.coe_add]
  rfl

theorem r_v135 (h : Inputs p q x0 x1 x2 x3 x4 x5 x6 x7 x8 x9 x10 x11 x12) : ∀ (u : Fin 1) (j : Fin 1024),
    val_main_v135 (F := Ideal) x0 x1 x2 x3 x4 x5 x6 x7 x8 x9 x10 x11 x12 (ix2 u j) = ((∑ R, dx1 p (q R) j * y p (q R) j : ℝ) : EReal) := by
  intro u j
  unfold val_main_v135 val_main_v134 val_main_cst_30 val_main_v133
  pointwise
  simp only [r_v130 p q h, r_v6 p q h, add_zero, zero_add, ← EReal.coe_mul, ← EReal.coe_add, sum_coe]

theorem r_v136 (h : Inputs p q x0 x1 x2 x3 x4 x5 x6 x7 x8 x9 x10 x11 x12) : ∀ (R : Fin 8192) (j : Fin _),
    val_main_v136 (F := Ideal) x0 x1 x2 x3 x4 x5 x6 x7 x8 x9 x10 x11 x12 (ix2 R j) = ((dyc p (q R) j : ℝ) : EReal) := by
  intro R j
  unfold val_main_v136
  pointwise
  simp only [r_v132 p q h, h.h9 _ _, add_zero, zero_add, ← EReal.coe_mul, ← EReal.coe_add, sum_coe]
  rfl

theorem r_v137 (h : Inputs p q x0 x1 x2 x3 x4 x5 x6 x7 x8 x9 x10 x11 x12) : ∀ (u : Fin 1) (j : Fin 1024),
    val_main_v137 (F := Ideal) x0 x1 x2 x3 x4 x5 x6 x7 x8 x9 x10 x11 x12 (ix2 u j) = ((∑ R, err p (q R) j * err p (q R) j * (1 / 2048) : ℝ) : EReal) := by
  intro u j
  unfold val_main_v137 val_main_v65 val_main_v64 val_main_cst_15 val_main_v63 val_main_cst_14 val_main_v62 val_main_v61 val_main_cst_13 val_main_v58
  pointwise
  simp only [r_v57 p q h, chalf, c1024th, add_zero, zero_add, ← EReal.coe_mul, ← EReal.coe_add, sum_coe]
  refine congrArg _ ?_
  rw [Finset.mul_sum]
  exact Finset.sum_congr rfl fun R _ => by ring

end

end Cert.Post

end
-- ==== Proof.Finite.lean ====
/- The precondition: every element of every argument is smaller in size than infinity, so every argument holds reals. -/
module

public import proofs.«01_k».proof.Proof.RefBwd
public import proofs.«01_k».proof.Proof.Gen.Pre_all_finite
public import Idealize.ShloMosaic.Lib.ReduceAll

@[expose] public section

set_option maxRecDepth 16384

noncomputable section

namespace Cert.Post

open Idealize.ShloMosaic

theorem cinf : Ideal.ofBits .f32 0x7F800000#32 = (⊤ : EReal) := by
  simp [Ideal.ofBits, Ideal.ieee]

/-- A conjunction of two bits that is one has both of them one. -/
theorem both {s : Shape} (x y : IVec s 1) (i : s.Idx) (h : andi x y i = 1#1) : x i = 1#1 ∧ y i = 1#1 := IntOp.andi_eq_one.1 h

/-- An array whose elements are all found below infinity in size is real. -/
theorem real_of_all {a b : ℕ} {t u z : Shape} [Subsingleton t.Idx] {axes : List (Fin 2)} (v : FVec Ideal ⟨2, ![a, b]⟩ .f32) (dims : Fin z.rank → Fin 2)
    (hb : z.BroadcastsInDim ⟨2, ![a, b]⟩ dims) (init : IVec u 1) (h : Shape.ReducesTo ⟨2, ![a, b]⟩ axes t) (hu : 0 < u.numel) (i : t.Idx)
    (e : Host.reduce IntOp.andi (cmpf .olt (Host.absf v) (broadcastInDim ⟨2, ![a, b]⟩ dims hb (constant z .f32 0x7F800000#32))) init h hu i = 1#1) :
    Real' (a := a) (b := b) v := by
  intro r j
  have e1 : Ideal.cmp .olt (max (v (ix2 r j)) (-(v (ix2 r j)))) (Ideal.ofBits .f32 0x7F800000#32) = 1#1 :=
    Host.reduce_andi_all _ _ _ _ _ e (ix2 r j)
  rw [cinf] at e1
  exact (coe_toReal_of_abs_lt ((Ideal.cmp_olt_eq_one _ _).1 e1)).symm

instance : Subsingleton Cert.Pre_all_finite.S_.Idx := ⟨fun a b => funext fun k => k.elim0⟩

/-- Arguments that meet the precondition are real. -/
theorem allReal (a0 a1 a2 : Arr 8192 1024) (a3 a4 a5 a6 a7 a8 : Arr 1 1024) (a9 : Arr 1024 1024) (a10 a11 : Arr 1024 2816)
    (a12 : Arr 2816 1024) (h : Cert.Pre_all_finite.fn (F := Ideal) a0 a1 a2 a3 a4 a5 a6 a7 a8 a9 a10 a11 a12 = fun _ => 1#1) :
    AllReal a0 a1 a2 a3 a4 a5 a6 a7 a8 a9 a10 a11 a12 := by
  have e := congrFun h (fun k => k.elim0)
  unfold Cert.Pre_all_finite.fn Cert.Pre_all_finite.fn_part1 Cert.Pre_all_finite.fn_part2 Cert.Pre_all_finite.fn_part3 at e
  dsimp only at e
  obtain ⟨e, e12⟩ := both _ _ _ e
  obtain ⟨e, e11⟩ := both _ _ _ e
  obtain ⟨e, e10⟩ := both _ _ _ e
  obtain ⟨e, e9⟩ := both _ _ _ e
  obtain ⟨e, e8⟩ := both _ _ _ e
  obtain ⟨e, e7⟩ := both _ _ _ e
  obtain ⟨e, e6⟩ := both _ _ _ e
  obtain ⟨e, e5⟩ := both _ _ _ e
  obtain ⟨e, e4⟩ := both _ _ _ e
  obtain ⟨e, e3⟩ := both _ _ _ e
  obtain ⟨e, e2⟩ := both _ _ _ e
  obtain ⟨e0, e1⟩ := both _ _ _ e
  exact ⟨real_of_all _ _ _ _ _ _ _ e0, real_of_all _ _ _ _ _ _ _ e1, real_of_all _ _ _ _ _ _ _ e2, real_of_all _ _ _ _ _ _ _ e3,
    real_of_all _ _ _ _ _ _ _ e4, real_of_all _ _ _ _ _ _ _ e5, real_of_all _ _ _ _ _ _ _ e6, real_of_all _ _ _ _ _ _ _ e7,
    real_of_all _ _ _ _ _ _ _ e8, real_of_all _ _ _ _ _ _ _ e9, real_of_all _ _ _ _ _ _ _ e10, real_of_all _ _ _ _ _ _ _ e11,
    real_of_all _ _ _ _ _ _ _ e12⟩

end Cert.Post

end
-- ==== Proof.RefOut.lean ====
/- The arrays the reference returns, each the array of a real function of `Spec.lean`. -/
module

public import proofs.«01_k».proof.Proof.Finite

@[expose] public section

set_option maxRecDepth 16384

noncomputable section

namespace Cert.Post

open Cert.ReferenceIdeal Cert.ReferenceIdeal.Read Idealize.ShloMosaic

theorem eq_arrOf {a b : ℕ} {v : Arr a b} {g : Fin a → Fin b → ℝ} (h : Holds v g) : v = arrOf g := by
  funext i
  have hi : i = ix2 (i 0) (i 1) := by
    funext k
    fin_cases k <;> rfl
  exact (congrArg v hi).trans (h (i 0) (i 1))

/-- Real arguments hold the parameters and tokens read off them. -/
theorem AllReal.inputs {x0 x1 x2 : Arr 8192 1024} {x3 x4 x5 x6 x7 x8 : Arr 1 1024} {x9 : Arr 1024 1024} {x10 x11 : Arr 1024 2816}
    {x12 : Arr 2816 1024} (h : AllReal x0 x1 x2 x3 x4 x5 x6 x7 x8 x9 x10 x11 x12) : Inputs (parOf x3 x4 x5 x6 x7 x8 x9 x10 x11 x12) (rowOf x0 x1 x2) x0 x1 x2 x3 x4 x5 x6 x7 x8 x9 x10 x11 x12 where
  h0 := h.h0
  h1 := h.h1
  h2 := h.h2
  h3 r j := by
    obtain rfl : r = 0 := Subsingleton.elim _ _
    exact h.h3 0 j
  h4 r j := by
    obtain rfl : r = 0 := Subsingleton.elim _ _
    exact h.h4 0 j
  h5 r j := by
    obtain rfl : r = 0 := Subsingleton.elim _ _
    exact h.h5 0 j
  h6 r j := by
    obtain rfl : r = 0 := Subsingleton.elim _ _
    exact h.h6 0 j
  h7 r j := by
    obtain rfl : r = 0 := Subsingleton.elim _ _
    exact h.h7 0 j
  h8 r j := by
    obtain rfl : r = 0 := Subsingleton.elim _ _
    exact h.h8 0 j
  h9 := h.h9
  h10 := h.h10
  h11 := h.h11
  h12 := h.h12

section
variable (p : Par) (q : Fin 8192 → Row)
variable {x0 x1 x2 : Arr 8192 1024} {x3 x4 x5 x6 x7 x8 : Arr 1 1024} {x9 : Arr 1024 1024} {x10 x11 : Arr 1024 2816}
  {x12 : Arr 2816 1024}

theorem o_v130 (h : Inputs p q x0 x1 x2 x3 x4 x5 x6 x7 x8 x9 x10 x11 x12) :
    val_main_v130 (F := Ideal) x0 x1 x2 x3 x4 x5 x6 x7 x8 x9 x10 x11 x12 = arrOf fun R => dx1 p (q R) :=
  eq_arrOf fun R j => r_v130 p q h R j

theorem o_v136 (h : Inputs p q x0 x1 x2 x3 x4 x5 x6 x7 x8 x9 x10 x11 x12) :
    val_main_v136 (F := Ideal) x0 x1 x2 x3 x4 x5 x6 x7 x8 x9 x10 x11 x12 = arrOf fun R => dyc p (q R) :=
  eq_arrOf fun R j => r_v136 p q h R j

theorem o_v140 (h : Inputs p q x0 x1 x2 x3 x4 x5 x6 x7 x8 x9 x10 x11 x12) :
    val_main_v140 (F := Ideal) x0 x1 x3 x4 x5 x6 x9 = arrOf fun R => h2 p (q R) :=
  eq_arrOf fun R j => r_v30 p q h R j

theorem o_v141 (h : Inputs p q x0 x1 x2 x3 x4 x5 x6 x7 x8 x9 x10 x11 x12) :
    val_main_v141 (F := Ideal) x0 x1 x2 x3 x4 x5 x6 x7 x8 x9 x10 x11 x12 = arrOf fun R => dy p (q R) :=
  eq_arrOf fun R j => r_v132 p q h R j

theorem o_v142 (h : Inputs p q x0 x1 x2 x3 x4 x5 x6 x7 x8 x9 x10 x11 x12) :
    val_main_v142 (F := Ideal) x0 x1 x2 x3 x4 x5 x6 x7 x8 x9 x10 x11 x12 = arrOf fun R => df p (q R) :=
  eq_arrOf fun R j => r_v93 p q h R j

theorem o_v143 (h : Inputs p q x0 x1 x2 x3 x4 x5 x6 x7 x8 x9 x10 x11 x12) :
    val_main_v143 (F := Ideal) x0 x1 x3 x4 x5 x6 x9 x10 x11 = arrOf fun R => act p (q R) :=
  eq_arrOf fun R j => r_v36 p q h R j

theorem o_v144 (h : Inputs p q x0 x1 x2 x3 x4 x5 x6 x7 x8 x9 x10 x11 x12) :
    val_main_v144 (F := Ideal) x0 x1 x2 x3 x4 x5 x6 x7 x8 x9 x10 x11 x12 = arrOf fun R => da p (q R) :=
  eq_arrOf fun R j => r_v100 p q h R j

theorem o_v145 (h : Inputs p q x0 x1 x2 x3 x4 x5 x6 x7 x8 x9 x10 x11 x12) :
    val_main_v145 (F := Ideal) x0 x1 x2 x3 x4 x5 x6 x7 x8 x9 x10 x11 x12 = arrOf fun R => db p (q R) :=
  eq_arrOf fun R j => r_v98 p q h R j

/-- A row that holds nothing of any token is zero. -/
theorem zeros (k : Fin 16) (j : Fin 1024) (h : ∀ R, part p (q R) k j = 0) : (0 : EReal) = ((∑ R, part p (q R) k j : ℝ) : EReal) := by
  rw [Finset.sum_eq_zero fun R _ => h R]
  exact EReal.coe_zero.symm

theorem o_v139 (h : Inputs p q x0 x1 x2 x3 x4 x5 x6 x7 x8 x9 x10 x11 x12) :
    val_main_v139 (F := Ideal) x0 x1 x2 x3 x4 x5 x6 x7 x8 x9 x10 x11 x12 = arrOf fun k j => ∑ R, part p (q R) k j := by
  refine eq_arrOf fun k j => ?_
  unfold val_main_v139 val_main_v138 val_main_cst_31
  pointwise
  fin_vals k with hk
  all_goals simp only [hk, Nat.reduceSub, Nat.reduceLT, ↓reduceDIte]
  · obtain rfl : k = 0 := Fin.ext hk
    exact r_v135 p q h 0 j
  · obtain rfl : k = 1 := Fin.ext hk
    exact r_v113 p q h 0 j
  · obtain rfl : k = 2 := Fin.ext hk
    exact r_v105 p q h 0 j
  · obtain rfl : k = 3 := Fin.ext hk
    exact r_v108 p q h 0 j
  · obtain rfl : k = 4 := Fin.ext hk
    exact r_v96 p q h 0 j
  · obtain rfl : k = 5 := Fin.ext hk
    exact r_v75 p q h 0 j
  · obtain rfl : k = 6 := Fin.ext hk
    exact r_v137 p q h 0 j
  · obtain rfl : k = 7 := Fin.ext hk
    exact zeros p q 7 j fun R => rfl
  · obtain rfl : k = 8 := Fin.ext hk
    exact zeros p q 8 j fun R => rfl
  · obtain rfl : k = 9 := Fin.ext hk
    exact zeros p q 9 j fun R => rfl
  · obtain rfl : k = 10 := Fin.ext hk
    exact zeros p q 10 j fun R => rfl
  · obtain rfl : k = 11 := Fin.ext hk
    exact zeros p q 11 j fun R => rfl
  · obtain rfl : k = 12 := Fin.ext hk
    exact zeros p q 12 j fun R => rfl
  · obtain rfl : k = 13 := Fin.ext hk
    exact zeros p q 13 j fun R => rfl
  · obtain rfl : k = 14 := Fin.ext hk
    exact zeros p q 14 j fun R => rfl
  · obtain rfl : k = 15 := Fin.ext hk
    exact zeros p q 15 j fun R => rfl

end

end Cert.Post

end
-- ==== Proof.TileSum.lean ====
/- A sum over 8192 tokens, taken 1024 at a time. -/
module

public import proofs.«01_k».proof.Proof.Args

@[expose] public section

noncomputable section

namespace Cert.Grad

open Idealize.ShloMosaic

/-- Blocks of `k` consecutive terms, one after the other, are all the terms. -/
theorem sum_blocks {β : Type*} [AddCommMonoid β] (k : ℕ) (f : ℕ → β) : ∀ n : ℕ,
    ∑ s ∈ Finset.range n, ∑ r : Fin k, f (k * s + r.val) = ∑ R ∈ Finset.range (k * n), f R
  | 0 => by simp
  | n + 1 => by
    rw [Finset.sum_range_succ, sum_blocks k f n, Nat.mul_succ, Finset.sum_range_add, Fin.sum_univ_eq_sum_range (fun r => f (k * n + r))]

/-- Row `R` of an array of 8192 rows. -/
def rowAt {b : ℕ} (X : Post.Arr 8192 b) (R : ℕ) (j : Fin b) : EReal := if h : R < 8192 then X (ix2 ⟨R, h⟩ j) else 0

theorem rowAt_of_lt {b : ℕ} (X : Post.Arr 8192 b) (R : Fin 8192) (j : Fin b) : rowAt X R.val j = X (ix2 R j) := dif_pos R.isLt

/-- The eight tiles' sums of products of two columns are the sum over all tokens. -/
theorem sum_tiles {a b : ℕ} (X : Post.Arr 8192 a) (Y : Post.Arr 8192 b) (i : Fin a) (j : Fin b) :
    ∑ s ∈ Finset.range 8, ∑ r : Fin 1024, rowAt X (1024 * (0 + s) + r.val) i * rowAt Y (1024 * (0 + s) + r.val) j
      = ∑ R : Fin 8192, X (ix2 R i) * Y (ix2 R j) := by
  simp only [Nat.zero_add]
  rw [sum_blocks 1024 (fun R => rowAt X R i * rowAt Y R j) 8, ← Fin.sum_univ_eq_sum_range (fun R => rowAt X R i * rowAt Y R j)]
  refine Finset.sum_congr rfl fun R _ => ?_
  rw [rowAt_of_lt, rowAt_of_lt]

end Cert.Grad

end
-- ==== Proof.Down.lean ====
/- The weight gradient of the down projection: the kernel adds, tile by tile, products of 1024 tokens, and the reference takes
   the product over all 8192 tokens at once. -/
module

public import proofs.«01_k».proof.Defs
public import proofs.«01_k».proof.Proof.TileSum
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Adequacy
public import Idealize.ShloMosaic.Init

@[expose] public section

set_option maxRecDepth 16384

noncomputable section

namespace Cert.Grad.Down

open Idealize.ShloMosaic Idealize.ShloMosaic.TcCoe Idealize.SL.Sem Idealize.ShloMosaic.Tactic
open Cert.Kernel2Ideal Cert.Kernel2Ideal.Gen

/-- A point's store: what the buffer held, with the tile's product added. -/
theorem pay (v3 : Vec Ideal S1024x2816 .bf16) (v5 : Vec Ideal S1024x1024 .bf16) (v6 : Vec Ideal S1x2816x1024 .f32)
    (a : Fin 2816) (b : Fin 1024) :
    k0_pay2 v3 v5 v6 (ix3 0 a b) = v6 (ix3 0 a b) + ∑ r : Fin 1024, v3 (ix2 r a) * v5 (ix2 r b) := by
  unfold k0_pay2
  pointwise

theorem pay0 (a : Fin 2816) (b : Fin 1024) : k0_pay1 (F := Ideal) (ix3 0 a b) = 0 := by
  unfold k0_pay1
  pointwise

variable (m : (ℓ : Loc nD τ sig) → Buf (Elt Ideal) ℓ) (c : Dev nD)

/-- The network's activations as launched. -/
abbrev X : Post.Arr 8192 2816 := m ((c : Thread nD τ).loc main_arg0)

/-- The gradient of the network's output as launched. -/
abbrev Y : Post.Arr 8192 1024 := m ((c : Thread nD τ).loc main_arg1)

theorem iblk0 (t : Fin cfg0.N) (r : Fin 1024) (j : Fin 2816) :
    iblk m c 0 t (ix2 r j) = rowAt (X m c) (1024 * t.val + r.val) j := by
  have hN : t.val < 8 := lt_of_lt_of_eq t.isLt (show cfg0.N = 8 from N_0)
  have hi : win0_0.index t 0 = t.val ∧ win0_0.index t 1 = 0 :=
    (by decide +kernel : ∀ t : Fin grid0.N, win0_0.index t 0 = t.val ∧ win0_0.index t 1 = 0) t
  have hr := r.isLt
  unfold iblk rowAt
  rw [View.read_apply, dif_pos (by omega)]
  show V m c main_arg0 _ = _
  rw [V_main_arg0]
  refine congrArg (X m c) (funext fun a => Fin.ext ?_)
  fin_cases a
  · show win0_0.index t 0 * 1024 + 1 * r.val = 1024 * t.val + r.val
    rw [hi.1]
    omega
  · show win0_0.index t 1 * 2816 + 1 * j.val = j.val
    rw [hi.2]
    omega

theorem iblk1 (t : Fin cfg0.N) (r : Fin 1024) (j : Fin 1024) :
    iblk m c 1 t (ix2 r j) = rowAt (Y m c) (1024 * t.val + r.val) j := by
  have hN : t.val < 8 := lt_of_lt_of_eq t.isLt (show cfg0.N = 8 from N_0)
  have hi : win0_1.index t 0 = t.val ∧ win0_1.index t 1 = 0 :=
    (by decide +kernel : ∀ t : Fin grid0.N, win0_1.index t 0 = t.val ∧ win0_1.index t 1 = 0) t
  have hr := r.isLt
  unfold iblk rowAt
  rw [View.read_apply, dif_pos (by omega)]
  show V m c main_arg1 _ = _
  rw [V_main_arg1]
  refine congrArg (Y m c) (funext fun a => Fin.ext ?_)
  fin_cases a
  · show win0_1.index t 0 * 1024 + 1 * r.val = 1024 * t.val + r.val
    rw [hi.1]
    omega
  · show win0_1.index t 1 * 1024 + 1 * j.val = j.val
    rw [hi.2]
    omega

/-- The gradient: for each pair of columns the sum over all tokens. -/
def grad : S1x2816x1024.Idx → EReal := fun i => ∑ R : Fin 8192, X m c (ix2 R (i 1)) * Y m c (ix2 R (i 2))

/-- An index of the result. -/
theorem eq_ix3 (i : S1x2816x1024.Idx) : i = ix3 0 (i 1) (i 2) := by
  funext a
  match a with
  | ⟨0, _⟩ => exact Subsingleton.elim (α := Fin 1) _ _
  | ⟨1, _⟩ => rfl
  | ⟨2, _⟩ => rfl

/-- After the last point the buffer holds the gradient. -/
theorem fold (h : 0 + 7 < cfg0.N) (i : S1x2816x1024.Idx) :
    Pipeline.accAt (Value.reset2 m c) (Value.step2 m c) 0 7 h i = grad m c i := by
  have e := Pipeline.accAt_add_apply (Value.reset2 m c) (Value.step2 m c) (fun _ => (0 : EReal))
    (fun n i => ∑ r : Fin 1024, rowAt (X m c) (1024 * n + r.val) (i 1) * rowAt (Y m c) (1024 * n + r.val) (i 2)) 0 7
    (fun h i => by
      rw [eq_ix3 i]
      refine (pay _ _ _ _ _).trans (congrArg₂ (· + ·) (pay0 _ _) (Finset.sum_congr rfl fun r _ => ?_))
      exact congrArg₂ (· * ·) (iblk0 m c _ _ _) (iblk1 m c _ _ _))
    (fun n h acc i _ _ => by
      rw [eq_ix3 i]
      refine (pay _ _ _ _ _).trans (congrArg₂ (· + ·) rfl (Finset.sum_congr rfl fun r _ => ?_))
      exact congrArg₂ (· * ·) (iblk0 m c _ _ _) (iblk1 m c _ _ _))
    7 le_rfl h i
  rw [e, zero_add]
  exact sum_tiles (X m c) (Y m c) (i 1) (i 2)

/-- The kernel's array after the run. -/
theorem final : Value.G2 m c = grad m c := by
  funext i
  have h0 : (i 0).val < 1 := (i 0).isLt
  have h1 : (i 1).val < 2816 := (i 1).isLt
  have h2 : (i 2).val < 1024 := (i 2).isLt
  have hr : Value.run2Of i = 0 := by
    show 1 * ((i 0).val / 1 - 0) + 1 * ((i 1).val / 2816 - 0) + 1 * ((i 2).val / 1024 - 0) = 0
    omega
  have hl : Value.loc2Of i = i := by
    funext a
    apply Fin.ext
    match a with
    | ⟨0, _⟩ => show (i 0).val % 1 = (i 0).val; omega
    | ⟨1, _⟩ => show (i 1).val % 2816 = (i 1).val; omega
    | ⟨2, _⟩ => show (i 2).val % 1024 = (i 2).val; omega
  have hN : cfg0.N = 8 := N_0
  have key : ∀ (b : ℕ) (h : 8 * b + 7 < cfg0.N), b = 0 →
      Pipeline.accAt (Value.reset2 m c) (Value.step2 m c) (8 * b) 7 h i = grad m c i := by
    rintro b h rfl
    exact fold m c h i
  unfold Value.G2
  rw [dif_pos (by rw [hr]; omega), hl]
  exact key _ _ hr

open Cert.Reference2Ideal.Read in
/-- The reference's array. -/
theorem ref (x0 : Post.Arr 8192 2816) (x1 : Post.Arr 8192 1024) (i : S1x2816x1024.Idx) :
    val_main_v6 (F := Ideal) x0 x1 i = ∑ R : Fin 8192, x0 (ix2 R (i 1)) * x1 (ix2 R (i 2)) := by
  rw [eq_ix3 i]
  unfold val_main_v6 val_main_v5 val_main_v4 val_main_v3 val_main_v1
  pointwise
  exact Finset.sum_congr rfl fun R _ => mul_comm _ _

/-- The reference runs and leaves its arguments. -/
theorem frameRef : Cert.quiescent_Reference2Ideal := fun m ρ _ =>
  (θ_run Cert.Reference2Ideal.defs _ _).mono (fun r h => And.intro (fun c => (h c).2)
      (Idealize.ShloMosaic.sem_eq_zero_of_no_sems (by decide) r.2))
    (Cert.Reference2Ideal.Value.run (F := Ideal) m ρ)

/-- Both programs leave the gradient. -/
theorem algebraic : Cert.algebraic_Kernel2Ideal_Reference2Ideal := by
  intro m g m' g' _ ha
  refine ⟨fun c => grad m c,
    (θ_run Cert.Kernel2Ideal.defs _ _).mono (fun _ h c => ?_) (Cert.Kernel2Ideal.Value.run (F := Ideal) m g),
    (θ_run Cert.Reference2Ideal.defs _ _).mono (fun _ h c => ?_) (Cert.Reference2Ideal.Value.run (F := Ideal) m' g')⟩
  · obtain ⟨h0, rest⟩ := h c
    exact ⟨h0.trans (final m c), rest⟩
  · obtain ⟨h0, rest⟩ := h c
    obtain ⟨e0, e1⟩ := ha c
    refine ⟨(h0.trans (Cert.Reference2Ideal.Read.val_main_v6_eq _ _)).trans ?_, rest⟩
    funext i
    refine (ref _ _ i).trans ?_
    rw [e0, e1]
    rfl

end Cert.Grad.Down

end
-- ==== Proof.Slab.lean ====
/- A buffer of four slabs into which whole slabs, or blocks of 128 columns of a slab, are stored one after the other. -/
module

public import proofs.«01_k».proof.Proof.TileSum
public import Idealize.ShloMosaic.Lib.WritesUnit
public import Idealize.ShloMosaic.Lib.Pipeline.FrameBody

@[expose] public section

set_option maxRecDepth 16384

noncomputable section

namespace Cert.Grad

open Idealize.ShloMosaic

/-- Four slabs of extended reals. -/
abbrev Slabs : Type := Fin 4 → Fin 1024 → Fin 896 → EReal

/-- The shape of the buffer. -/
abbrev S4 : Shape := ⟨3, ![4, 1024, 896]⟩

variable {sig : RefSig} {κ : Kind} {sp : Space}
variable (v : View sig κ sp S4 .f32) (f : v.ty.Contents (Elt Ideal))

/-- After the writes `L` the buffer holds `t`. -/
def SlabsAre (L : List (View.Piece (Elt Ideal) S4 .f32)) (t : Slabs) : Prop :=
  ∀ b i j, (v.read (Elt Ideal) (v.writes (Elt Ideal) f L) (ix3 b i j) : EReal) = t b i j

/-- A whole slab's store, read back. -/
theorem slab_of_mem (L : List (View.Piece (Elt Ideal) S4 .f32)) (k : Fin 4) {off : Fin 3 → ℕ} (hoff : off = ![k.val, 0, 0])
    {inb : ∀ a : Fin 3, off a + (![1, 1024, 896] : Fin 3 → ℕ) a ≤ (![4, 1024, 896] : Fin 3 → ℕ) a}
    (w : (⟨3, ![1, 1024, 896]⟩ : Shape).Idx → EReal) (i : Fin 1024) (j : Fin 896) :
    (v.read (Elt Ideal) (v.writes (Elt Ideal) f (⟨Rect.unit (s := S4) off ![1, 1024, 896] inb, w⟩ :: L)) (ix3 k i j) : EReal) = w (ix3 0 i j) := by
  subst hoff
  refine View.read_writes_cons_unit_of_mem v f (off' := ![k.val, 0, 0]) inb w L (ix3 k i j) (ix3 0 i j) rfl (fun a => ?_)
  match a with
  | ⟨0, _⟩ => show k.val = k.val + 0; omega
  | ⟨1, _⟩ => show i.val = 0 + i.val; omega
  | ⟨2, _⟩ => show j.val = 0 + j.val; omega

/-- A whole slab's store leaves the other slabs. -/
theorem slab_of_ne (L : List (View.Piece (Elt Ideal) S4 .f32)) (k b : Fin 4) (h : b ≠ k) {off : Fin 3 → ℕ} (hoff : off = ![k.val, 0, 0])
    {inb : ∀ a : Fin 3, off a + (![1, 1024, 896] : Fin 3 → ℕ) a ≤ (![4, 1024, 896] : Fin 3 → ℕ) a}
    (w : (⟨3, ![1, 1024, 896]⟩ : Shape).Idx → EReal) (i : Fin 1024) (j : Fin 896) :
    (v.read (Elt Ideal) (v.writes (Elt Ideal) f (⟨Rect.unit (s := S4) off ![1, 1024, 896] inb, w⟩ :: L)) (ix3 b i j) : EReal)
      = v.read (Elt Ideal) (v.writes (Elt Ideal) f L) (ix3 b i j) := by
  subst hoff
  refine View.read_writes_cons_unit_of_not_mem v f (off' := ![k.val, 0, 0]) inb w L (ix3 b i j) rfl ⟨0, by show 0 < 3; decide⟩ ?_
  have hk : b.val ≠ k.val := fun e => h (Fin.ext e)
  show b.val < k.val ∨ k.val + 1 ≤ b.val
  omega

/-- A load of a whole slab. -/
theorem ld_slab (X : S4.Idx → EReal) (k : Fin 4) {off : Fin 3 → ℕ} (hoff : off = ![k.val, 0, 0])
    {inb : ∀ a : Fin 3, off a + (![1, 1024, 896] : Fin 3 → ℕ) a ≤ (![4, 1024, 896] : Fin 3 → ℕ) a} (i : Fin 1024) (j : Fin 896) :
    X ((Rect.unit (s := S4) off ![1, 1024, 896] inb).idx (ix3 0 i j)) = X (ix3 k i j) := by
  subst hoff
  refine congrArg X (funext fun a => Fin.ext ?_)
  match a with
  | ⟨0, _⟩ => show k.val + 1 * 0 = k.val; omega
  | ⟨1, _⟩ => show 0 + 1 * i.val = i.val; omega
  | ⟨2, _⟩ => show 0 + 1 * j.val = j.val; omega

/-- Column `c` of an array of 1024 columns. -/
def colAt (X : Post.Arr 1024 1024) (i : Fin 1024) (c : ℕ) : EReal := if h : c < 1024 then X (ix2 i ⟨c, h⟩) else 0

/-- The first `n` blocks of 128 columns of `X` in their places, from column 1536 of the 3584 columns that the four slabs hold, and zero
    elsewhere. -/
def firstBlocks (X : Post.Arr 1024 1024) (n : ℕ) : Slabs := fun b i j =>
  if 1536 ≤ 896 * b.val + j.val ∧ 896 * b.val + j.val < 1536 + 128 * n then colAt X i (896 * b.val + j.val - 1536) else 0

/-- The store of the next block of columns. -/
theorem SlabsAre.block {L : List (View.Piece (Elt Ideal) S4 .f32)} (X : Post.Arr 1024 1024) (n : ℕ) (k : Fin 4) (o : ℕ)
    (hko : 896 * k.val + o = 1536 + 128 * n) (ho : o + 128 ≤ 896) {off : Fin 3 → ℕ} (hoff : off = ![k.val, 0, o])
    {inb : ∀ a : Fin 3, off a + (![1, 1024, 128] : Fin 3 → ℕ) a ≤ (![4, 1024, 896] : Fin 3 → ℕ) a}
    {w : (⟨3, ![1, 1024, 128]⟩ : Shape).Idx → EReal} (hw : ∀ i j, w (ix3 0 i j) = colAt X i (128 * n + j.val))
    (hL : SlabsAre v f L (firstBlocks X n)) :
    SlabsAre v f (⟨Rect.unit (s := S4) off ![1, 1024, 128] inb, w⟩ :: L) (firstBlocks X (n + 1)) := by
  subst hoff
  intro b i j
  have hj := j.isLt
  by_cases h : b = k ∧ o ≤ j.val ∧ j.val < o + 128
  · obtain ⟨rfl, h1, h2⟩ := h
    refine (View.read_writes_cons_unit_of_mem v f (off' := ![b.val, 0, o]) inb w L (ix3 b i j)
      (ix3 (0 : Fin 1) i (⟨j.val - o, by omega⟩ : Fin 128)) rfl (fun a => ?_)).trans ?_
    · match a with
      | ⟨0, _⟩ => show b.val = b.val + 0; omega
      | ⟨1, _⟩ => show i.val = 0 + i.val; omega
      | ⟨2, _⟩ => show j.val = o + (j.val - o); omega
    · refine (hw _ _).trans ?_
      unfold firstBlocks
      rw [if_pos (by omega)]
      refine congrArg (colAt X i) ?_
      show 128 * n + (j.val - o) = _
      omega
  · have e : firstBlocks X (n + 1) b i j = firstBlocks X n b i j := by
      have hc : ¬(896 * k.val + o ≤ 896 * b.val + j.val ∧ 896 * b.val + j.val < 896 * k.val + o + 128) := by
        rintro ⟨h1, h2⟩
        exact h ⟨Fin.ext (by omega), by omega, by omega⟩
      unfold firstBlocks
      by_cases hp : 1536 ≤ 896 * b.val + j.val ∧ 896 * b.val + j.val < 1536 + 128 * n
      · rw [if_pos hp, if_pos (by omega)]
      · rw [if_neg hp, if_neg (by omega)]
    rw [e]
    refine Eq.trans ?_ (hL b i j)
    by_cases hb : b = k
    · refine View.read_writes_cons_unit_of_not_mem v f (off' := ![k.val, 0, o]) inb w L (ix3 b i j) rfl ⟨2, by show 2 < 3; decide⟩ ?_
      show j.val < o ∨ o + 128 ≤ j.val
      by_contra hn
      exact h ⟨hb, by omega, by omega⟩
    · refine View.read_writes_cons_unit_of_not_mem v f (off' := ![k.val, 0, o]) inb w L (ix3 b i j) rfl ⟨0, by show 0 < 3; decide⟩ ?_
      have hk : b.val ≠ k.val := fun e => hb (Fin.ext e)
      show b.val < k.val ∨ k.val + 1 ≤ b.val
      omega

/-- The fill with zeros. -/
theorem SlabsAre.zeros {off : Fin 3 → ℕ} (hoff : off = ![0, 0, 0])
    {inb : ∀ a : Fin 3, off a + (![4, 1024, 896] : Fin 3 → ℕ) a ≤ (![4, 1024, 896] : Fin 3 → ℕ) a}
    {w : S4.Idx → EReal} (hw : ∀ b i j, w (ix3 b i j) = 0) (X : Post.Arr 1024 1024) (L : List (View.Piece (Elt Ideal) S4 .f32)) :
    SlabsAre v f (⟨Rect.unit (s := S4) off ![4, 1024, 896] inb, w⟩ :: L) (firstBlocks X 0) := by
  subst hoff
  intro b i j
  refine (View.read_writes_cons_unit_of_mem v f (off' := ![0, 0, 0]) inb w L (ix3 b i j) (ix3 b i j) rfl (fun a => ?_)).trans ?_
  · match a with
    | ⟨0, _⟩ => show b.val = 0 + b.val; omega
    | ⟨1, _⟩ => show i.val = 0 + i.val; omega
    | ⟨2, _⟩ => show j.val = 0 + j.val; omega
  · refine (hw b i j).trans ?_
    unfold firstBlocks
    rw [if_neg (by omega)]

end Cert.Grad

end
-- ==== Proof.WIn.lean ====
/- The weight gradient of the input projection: the kernel lays the key and value columns' part that came by another way into
   its four slabs and adds, tile by tile, products of 1024 tokens; the reference takes the product over all 8192 tokens at once. -/
module

public import proofs.«01_k».proof.Defs
public import proofs.«01_k».proof.Proof.Slab
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import Idealize.ShloMosaic.Init

@[expose] public section

set_option maxRecDepth 16384

noncomputable section

namespace Cert.Grad.WIn

open Idealize.ShloMosaic Idealize.ShloMosaic.TcCoe Idealize.SL.Sem Idealize.ShloMosaic.Tactic
open Cert.Kernel3Ideal Cert.Kernel3Ideal.Gen

/-! ## The stored values -/

/-- Column `c` of a tile of 3584 columns. -/
def col (Y : Vec Ideal S1024x3584 .bf16) (r : Fin 1024) (c : ℕ) : EReal := if h : c < 3584 then Y (ix2 r ⟨c, h⟩) else 0

/-- A tile's product for slab `b`. -/
def part (X : Vec Ideal S1024x1024 .bf16) (Y : Vec Ideal S1024x3584 .bf16) (b : Fin 4) (i : Fin 1024) (j : Fin 896) : EReal :=
  ∑ r : Fin 1024, X (ix2 r i) * col Y r (896 * b.val + j.val)

theorem ld_x (X : Vec Ideal S1024x1024 .bf16) {off : Fin 2 → ℕ} (hoff : off = ![0, 0])
    {inb : ∀ a : Fin 2, off a + (![1024, 1024] : Fin 2 → ℕ) a ≤ (![1024, 1024] : Fin 2 → ℕ) a} :
    View.ld X (Rect.unit (s := S1024x1024) off ![1024, 1024] inb) = X := by
  subst hoff
  funext y
  refine congrArg X (funext fun a => Fin.ext ?_)
  match a with
  | ⟨0, _⟩ => show 0 + 1 * (y 0).val = (y 0).val; omega
  | ⟨1, _⟩ => show 0 + 1 * (y 1).val = (y 1).val; omega

theorem ld_col (Y : Vec Ideal S1024x3584 .bf16) (b : Fin 4) {off : Fin 2 → ℕ} (hoff : off = ![0, 896 * b.val])
    {inb : ∀ a : Fin 2, off a + (![1024, 896] : Fin 2 → ℕ) a ≤ (![1024, 3584] : Fin 2 → ℕ) a} (r : Fin 1024) (j : Fin 896) :
    View.ld Y (Rect.unit (s := S1024x3584) off ![1024, 896] inb) (ix2 r j) = col Y r (896 * b.val + j.val) := by
  subst hoff
  have hb := b.isLt
  have hj := j.isLt
  unfold col
  rw [dif_pos (by omega)]
  refine congrArg Y (funext fun a => Fin.ext ?_)
  match a with
  | ⟨0, _⟩ => show 0 + 1 * r.val = r.val; omega
  | ⟨1, _⟩ => show 896 * b.val + 1 * j.val = 896 * b.val + j.val; omega

theorem ld_blk (X : Vec Ideal S1024x1024 .f32) (n : ℕ) (hn : n < 8) {off : Fin 2 → ℕ} (hoff : off = ![0, 128 * n])
    {inb : ∀ a : Fin 2, off a + (![1024, 128] : Fin 2 → ℕ) a ≤ (![1024, 1024] : Fin 2 → ℕ) a} (i : Fin 1024) (j : Fin 128) :
    View.ld X (Rect.unit (s := S1024x1024) off ![1024, 128] inb) (ix2 i j) = colAt X i (128 * n + j.val) := by
  subst hoff
  have hj := j.isLt
  unfold colAt
  rw [dif_pos (by omega)]
  refine congrArg X (funext fun a => Fin.ext ?_)
  match a with
  | ⟨0, _⟩ => show 0 + 1 * i.val = i.val; omega
  | ⟨1, _⟩ => show 128 * n + 1 * j.val = 128 * n + j.val; omega

theorem pay13 (v3 : Vec Ideal S1024x1024 .bf16) (v5 : Vec Ideal S1024x896 .bf16) (v6 : Vec Ideal S1x1024x896 .f32) (i : Fin 1024) (j : Fin 896) :
    k0_pay13 v3 v5 v6 (ix3 0 i j) = v6 (ix3 0 i j) + ∑ r : Fin 1024, v3 (ix2 r i) * v5 (ix2 r j) := by
  unfold k0_pay13 k0_pay12
  pointwise

theorem pay14 (v3 : Vec Ideal S1024x1024 .bf16) (v5 : Vec Ideal S1024x896 .bf16) (v6 : Vec Ideal S1x1024x896 .f32) (i : Fin 1024) (j : Fin 896) :
    k0_pay14 v3 v5 v6 (ix3 0 i j) = v6 (ix3 0 i j) + ∑ r : Fin 1024, v3 (ix2 r i) * v5 (ix2 r j) := by
  unfold k0_pay14 k0_pay12
  pointwise

theorem pay15 (v3 : Vec Ideal S1024x1024 .bf16) (v5 : Vec Ideal S1024x896 .bf16) (v6 : Vec Ideal S1x1024x896 .f32) (i : Fin 1024) (j : Fin 896) :
    k0_pay1 (k0_pay15 v3 v5 v6) (ix3 0 i j) = v6 (ix3 0 i j) + ∑ r : Fin 1024, v3 (ix2 r i) * v5 (ix2 r j) := by
  unfold k0_pay1 k0_pay15 k0_pay12
  pointwise

theorem pay2 (v3 : Vec Ideal S1024x1024 .bf16) (v5 : Vec Ideal S1024x896 .bf16) (v6 : Vec Ideal S1x1024x896 .f32) (i : Fin 1024) (j : Fin 896) :
    k0_pay2 (k0_pay12 v3) v5 v6 (ix3 0 i j) = v6 (ix3 0 i j) + ∑ r : Fin 1024, v3 (ix2 r i) * v5 (ix2 r j) := by
  unfold k0_pay2 k0_pay12
  pointwise

theorem pay3 (b : Fin 4) (i : Fin 1024) (j : Fin 896) : k0_pay3 (F := Ideal) (ix3 b i j) = 0 := by
  unfold k0_pay3
  pointwise

theorem pay4 (w : Vec Ideal S1024x128 .f32) (i : Fin 1024) (j : Fin 128) : k0_pay4 w (ix3 0 i j) = w (ix2 i j) := by
  unfold k0_pay4
  pointwise

/-- A slab's store: the slab as loaded with the tile's product added. -/
theorem adds {v3 : Vec Ideal S1024x1024 .bf16} {v5 : Vec Ideal S1024x896 .bf16} {v6 : Vec Ideal S1x1024x896 .f32} {X : Vec Ideal S1024x1024 .bf16}
    {Y : Vec Ideal S1024x3584 .bf16} {b : Fin 4} {i : Fin 1024} {j : Fin 896} {w t : EReal}
    (h : w = v6 (ix3 0 i j) + ∑ r : Fin 1024, v3 (ix2 r i) * v5 (ix2 r j)) (h3 : v3 = X) (h5 : ∀ r, v5 (ix2 r j) = col Y r (896 * b.val + j.val))
    (h6 : v6 (ix3 0 i j) = t) : w = t + part X Y b i j := by
  subst h3
  rw [h, h6]
  exact congrArg (t + ·) (Finset.sum_congr rfl fun r _ => congrArg (_ * ·) (h5 r))

/-! ## What a point leaves -/

/-- A later tile adds its product to what it found. -/
theorem outB (c : Dev nD) (i : grid0.Coords) (arg1 : Memref sig .tc .vmem S1024x1024 .bf16) (harg1 : arg1.IsWhole) (arg2 : Memref sig .tc .vmem S1024x3584 .bf16) (harg2 : arg2.IsWhole) (arg3 : Memref sig .tc .vmem S1024x1024 .f32) (harg3 : arg3.IsWhole) (arg4 : Memref sig .tc .vmem S4x1024x896 .f32) (harg4 : arg4.IsWhole) (hc0 : ¬cond0_0 i)
    (x0 : Vec Ideal S1024x1024 .bf16) (x1 : Vec Ideal S1024x3584 .bf16) (x2 : Vec Ideal S1024x1024 .f32) (xo3 : Vec Ideal S4x1024x896 .f32) (b : Fin 4) (k : Fin 1024) (j : Fin 896) :
    out0_B_3 c i arg1 harg1 arg2 harg2 arg3 harg3 arg4 harg4 hc0 x0 x1 x2 xo3 (ix3 b k j) = xo3 (ix3 b k j) + part x0 x1 b k j := by
  unfold out0_B_3
  unfold kernelRun0_B
  dsimp only
  sl_unfold_words
  simp only [View.readAt_eq_ld, harg1.read_unread, harg2.read_unread, harg3.read_unread, harg4.read_unread]
  match b with
  | 0 =>
    exact (slab_of_ne _ _ _ 3 0 (by decide) rfl _ k j).trans ((slab_of_ne _ _ _ 2 0 (by decide) rfl _ k j).trans
      ((slab_of_ne _ _ _ 1 0 (by decide) rfl _ k j).trans ((slab_of_mem _ _ _ 0 rfl _ k j).trans
      (adds (pay13 _ _ _ k j) (ld_x x0 rfl) (fun r => ld_col x1 0 rfl r j) (ld_slab xo3 0 rfl k j)))))
  | 1 =>
    exact (slab_of_ne _ _ _ 3 1 (by decide) rfl _ k j).trans ((slab_of_ne _ _ _ 2 1 (by decide) rfl _ k j).trans
      ((slab_of_mem _ _ _ 1 rfl _ k j).trans
      (adds (pay14 _ _ _ k j) (ld_x x0 rfl) (fun r => ld_col x1 1 rfl r j) (ld_slab xo3 1 rfl k j))))
  | 2 =>
    exact (slab_of_ne _ _ _ 3 2 (by decide) rfl _ k j).trans ((slab_of_mem _ _ _ 2 rfl _ k j).trans
      (adds (pay15 _ _ _ k j) (ld_x x0 rfl) (fun r => ld_col x1 2 rfl r j) (ld_slab xo3 2 rfl k j)))
  | 3 =>
    exact (slab_of_mem _ _ _ 3 rfl _ k j).trans
      (adds (pay2 _ _ _ k j) (ld_x x0 rfl) (fun r => ld_col x1 3 rfl r j) (ld_slab xo3 3 rfl k j))

/-- The first tile lays the key and value columns in their places and adds its product. -/
theorem outA (c : Dev nD) (i : grid0.Coords) (arg1 : Memref sig .tc .vmem S1024x1024 .bf16) (harg1 : arg1.IsWhole) (arg2 : Memref sig .tc .vmem S1024x3584 .bf16) (harg2 : arg2.IsWhole) (arg3 : Memref sig .tc .vmem S1024x1024 .f32) (harg3 : arg3.IsWhole) (arg4 : Memref sig .tc .vmem S4x1024x896 .f32) (harg4 : arg4.IsWhole) (hc0 : cond0_0 i)
    (x0 : Vec Ideal S1024x1024 .bf16) (x1 : Vec Ideal S1024x3584 .bf16) (x2 : Vec Ideal S1024x1024 .f32) (b : Fin 4) (k : Fin 1024) (j : Fin 896) :
    out0_A_3 c i arg1 harg1 arg2 harg2 arg3 harg3 arg4 harg4 hc0 x0 x1 x2 (ix3 b k j) = firstBlocks x2 8 b k j + part x0 x1 b k j := by
  unfold out0_A_3
  unfold kernelRun0_A
  dsimp only
  sl_unfold_words
  simp only [View.readAt_eq_ld, harg1.read_unread, harg2.read_unread, harg3.read_unread]
  have P : SlabsAre arg4.view (arg4.view.junk (Val := Elt Ideal)) _ (firstBlocks x2 8) :=
    SlabsAre.block _ _ x2 7 2 640 rfl (by decide) rfl (inb := inb_S4x1024x896_S1x1024x128_2_0_640) (fun i' j' => (pay4 _ i' j').trans (ld_blk x2 7 (by decide) rfl (inb := inb_S1024x1024_S1024x128_0_896) i' j'))
    (SlabsAre.block _ _ x2 6 2 512 rfl (by decide) rfl (inb := inb_S4x1024x896_S1x1024x128_2_0_512) (fun i' j' => (pay4 _ i' j').trans (ld_blk x2 6 (by decide) rfl (inb := inb_S1024x1024_S1024x128_0_768) i' j'))
    (SlabsAre.block _ _ x2 5 2 384 rfl (by decide) rfl (inb := inb_S4x1024x896_S1x1024x128_2_0_384) (fun i' j' => (pay4 _ i' j').trans (ld_blk x2 5 (by decide) rfl (inb := inb_S1024x1024_S1024x128_0_640) i' j'))
    (SlabsAre.block _ _ x2 4 2 256 rfl (by decide) rfl (inb := inb_S4x1024x896_S1x1024x128_2_0_256) (fun i' j' => (pay4 _ i' j').trans (ld_blk x2 4 (by decide) rfl (inb := inb_S1024x1024_S1024x128_0_512) i' j'))
    (SlabsAre.block _ _ x2 3 2 128 rfl (by decide) rfl (inb := inb_S4x1024x896_S1x1024x128_2_0_128) (fun i' j' => (pay4 _ i' j').trans (ld_blk x2 3 (by decide) rfl (inb := inb_S1024x1024_S1024x128_0_384) i' j'))
    (SlabsAre.block _ _ x2 2 2 0 rfl (by decide) rfl (inb := inb_S4x1024x896_S1x1024x128_2_0_0) (fun i' j' => (pay4 _ i' j').trans (ld_blk x2 2 (by decide) rfl (inb := inb_S1024x1024_S1024x128_0_256) i' j'))
    (SlabsAre.block _ _ x2 1 1 768 rfl (by decide) rfl (inb := inb_S4x1024x896_S1x1024x128_1_0_768) (fun i' j' => (pay4 _ i' j').trans (ld_blk x2 1 (by decide) rfl (inb := inb_S1024x1024_S1024x128_0_128) i' j'))
    (SlabsAre.block _ _ x2 0 1 640 rfl (by decide) rfl (inb := inb_S4x1024x896_S1x1024x128_1_0_640) (fun i' j' => (pay4 _ i' j').trans (ld_blk x2 0 (by decide) rfl (inb := inb_S1024x1024_S1024x128_0_0) i' j'))
    (SlabsAre.zeros _ _ rfl (inb := inb_S4x1024x896_S4x1024x896_0_0_0) pay3 x2 []))))))))
  match b with
  | 0 =>
    exact (slab_of_ne _ _ _ 3 0 (by decide) rfl _ k j).trans ((slab_of_ne _ _ _ 2 0 (by decide) rfl _ k j).trans
      ((slab_of_ne _ _ _ 1 0 (by decide) rfl _ k j).trans ((slab_of_mem _ _ _ 0 rfl _ k j).trans
      (adds (pay13 _ _ _ k j) (ld_x x0 rfl) (fun r => ld_col x1 0 rfl r j) ((ld_slab _ 0 rfl k j).trans (P 0 k j))))))
  | 1 =>
    exact (slab_of_ne _ _ _ 3 1 (by decide) rfl _ k j).trans ((slab_of_ne _ _ _ 2 1 (by decide) rfl _ k j).trans
      ((slab_of_mem _ _ _ 1 rfl _ k j).trans
      (adds (pay14 _ _ _ k j) (ld_x x0 rfl) (fun r => ld_col x1 1 rfl r j)
        ((ld_slab _ 1 rfl k j).trans ((slab_of_ne _ _ _ 0 1 (by decide) rfl _ k j).trans (P 1 k j))))))
  | 2 =>
    exact (slab_of_ne _ _ _ 3 2 (by decide) rfl _ k j).trans ((slab_of_mem _ _ _ 2 rfl _ k j).trans
      (adds (pay15 _ _ _ k j) (ld_x x0 rfl) (fun r => ld_col x1 2 rfl r j)
        ((ld_slab _ 2 rfl k j).trans ((slab_of_ne _ _ _ 1 2 (by decide) rfl _ k j).trans
          ((slab_of_ne _ _ _ 0 2 (by decide) rfl _ k j).trans (P 2 k j))))))
  | 3 =>
    exact (slab_of_mem _ _ _ 3 rfl _ k j).trans
      (adds (pay2 _ _ _ k j) (ld_x x0 rfl) (fun r => ld_col x1 3 rfl r j)
        ((ld_slab _ 3 rfl k j).trans ((slab_of_ne _ _ _ 2 3 (by decide) rfl _ k j).trans ((slab_of_ne _ _ _ 1 3 (by decide) rfl _ k j).trans
          ((slab_of_ne _ _ _ 0 3 (by decide) rfl _ k j).trans (P 3 k j))))))

/-- Column `j` of slab `b` among the 3584 columns. -/
def slabCol (b : Fin 4) (j : Fin 896) : Fin 3584 := ⟨896 * b.val + j.val, by have := b.isLt; have := j.isLt; omega⟩

/-! ## The kernel's array -/

variable (m : (ℓ : Loc nD τ sig) → Buf (Elt Ideal) ℓ) (c : Dev nD)

/-- The projection's input as launched. -/
abbrev X : Post.Arr 8192 1024 := m ((c : Thread nD τ).loc main_arg0)

/-- The gradient of the projection's output as launched. -/
abbrev Y : Post.Arr 8192 3584 := m ((c : Thread nD τ).loc main_arg1)

/-- The key and value columns' other part as launched. -/
abbrev W : Post.Arr 1024 1024 := m ((c : Thread nD τ).loc main_arg2)

theorem iblk0 (t : Fin cfg0.N) (r : Fin 1024) (j : Fin 1024) :
    iblk m c 0 t (ix2 r j) = rowAt (X m c) (1024 * t.val + r.val) j := by
  have hN : t.val < 8 := lt_of_lt_of_eq t.isLt (show cfg0.N = 8 from N_0)
  have hi : win0_0.index t 0 = t.val ∧ win0_0.index t 1 = 0 :=
    (by decide +kernel : ∀ t : Fin grid0.N, win0_0.index t 0 = t.val ∧ win0_0.index t 1 = 0) t
  have hr := r.isLt
  unfold iblk rowAt
  rw [View.read_apply, dif_pos (by omega)]
  show V m c main_arg0 _ = _
  rw [V_main_arg0]
  refine congrArg (X m c) (funext fun a => Fin.ext ?_)
  fin_cases a
  · show win0_0.index t 0 * 1024 + 1 * r.val = 1024 * t.val + r.val
    rw [hi.1]
    omega
  · show win0_0.index t 1 * 1024 + 1 * j.val = j.val
    rw [hi.2]
    omega

theorem iblk1 (t : Fin cfg0.N) (r : Fin 1024) (j : Fin 3584) :
    iblk m c 1 t (ix2 r j) = rowAt (Y m c) (1024 * t.val + r.val) j := by
  have hN : t.val < 8 := lt_of_lt_of_eq t.isLt (show cfg0.N = 8 from N_0)
  have hi : win0_1.index t 0 = t.val ∧ win0_1.index t 1 = 0 :=
    (by decide +kernel : ∀ t : Fin grid0.N, win0_1.index t 0 = t.val ∧ win0_1.index t 1 = 0) t
  have hr := r.isLt
  unfold iblk rowAt
  rw [View.read_apply, dif_pos (by omega)]
  show V m c main_arg1 _ = _
  rw [V_main_arg1]
  refine congrArg (Y m c) (funext fun a => Fin.ext ?_)
  fin_cases a
  · show win0_1.index t 0 * 1024 + 1 * r.val = 1024 * t.val + r.val
    rw [hi.1]
    omega
  · show win0_1.index t 1 * 3584 + 1 * j.val = j.val
    rw [hi.2]
    omega

theorem iblk2 (t : Fin cfg0.N) : iblk m c 2 t = W m c := by
  have hi : win0_2.index t 0 = 0 ∧ win0_2.index t 1 = 0 :=
    (by decide +kernel : ∀ t : Fin grid0.N, win0_2.index t 0 = 0 ∧ win0_2.index t 1 = 0) t
  funext y
  unfold iblk
  rw [View.read_apply]
  show V m c main_arg2 _ = _
  rw [V_main_arg2]
  refine congrArg (W m c) (funext fun a => Fin.ext ?_)
  fin_cases a
  · show win0_2.index t 0 * 1024 + 1 * (y 0).val = (y 0).val
    rw [hi.1]
    omega
  · show win0_2.index t 1 * 1024 + 1 * (y 1).val = (y 1).val
    rw [hi.2]
    omega

/-- Tile `n`'s product. -/
def tilePart (b : Fin 4) (i : Fin 1024) (j : Fin 896) (n : ℕ) : EReal :=
  ∑ r : Fin 1024, rowAt (X m c) (1024 * n + r.val) i * rowAt (Y m c) (1024 * n + r.val) (slabCol b j)

theorem part_iblk (t : Fin cfg0.N) (b : Fin 4) (i : Fin 1024) (j : Fin 896) :
    part (iblk m c 0 t) (iblk m c 1 t) b i j = tilePart m c b i j t.val := by
  have hb := b.isLt
  have hj := j.isLt
  unfold part tilePart
  refine Finset.sum_congr rfl fun r _ => congrArg₂ (· * ·) (iblk0 m c t r i) ?_
  unfold col
  rw [dif_pos (by omega)]
  exact iblk1 m c t r (slabCol b j)

/-- After tile `n` the buffer holds the laid columns and the products of the tiles up to `n`. -/
theorem outs : ∀ (n : ℕ) (hn : n < cfg0.N) (b : Fin 4) (i : Fin 1024) (j : Fin 896),
    outsAt0 m c n hn (ix3 b i j) = firstBlocks (W m c) 8 b i j + ∑ s ∈ Finset.range (n + 1), tilePart m c b i j s
  | 0, hn, b, i, j => by
    have e := congrFun (outsAt0_A m c ⟨0, hn⟩ rfl) (ix3 b i j)
    refine e.trans ((outA c _ _ _ _ _ _ _ _ _ _ _ _ _ b i j).trans ?_)
    rw [part_iblk, iblk2, Finset.sum_range_succ, Finset.sum_range_zero, zero_add]
  | n + 1, hn, b, i, j => by
    have hN : cfg0.N = 8 := N_0
    have h0 : ¬(⟨n + 1, hn⟩ : Fin cfg0.N).val % 8 = 0 := by
      dsimp only
      omega
    have e := congrFun (outsAt0_B m c ⟨n + 1, hn⟩ h0) (ix3 b i j)
    refine e.trans ((outB c _ _ _ _ _ _ _ _ _ _ _ _ _ _ b i j).trans ?_)
    rw [part_iblk]
    refine (congrArg (· + _) (outs n _ b i j)).trans ?_
    rw [Finset.sum_range_succ _ (n + 1), ← add_assoc]

/-- The gradient: the laid columns and for each pair of columns the sum over all tokens. -/
def grad : S4x1024x896.Idx → EReal := fun y =>
  firstBlocks (W m c) 8 (y 0) (y 1) (y 2) + ∑ R : Fin 8192, X m c (ix2 R (y 1)) * Y m c (ix2 R (slabCol (y 0) (y 2)))

theorem flushed (t : Fin cfg0.N) (hf : (cfg0.win 3).flush t = true) :
    (dats m 0 c).flushed 3 t = ((cfg0.win 3).blk t).view.read (Elt Ideal) (grad m c) := by
  have hN : cfg0.N = 8 := N_0
  have h7 : t.val = 7 := by
    have := (flush0_3 t).mp hf
    have := t.isLt
    omega
  have hi : win0_3.index t 0 = 0 ∧ win0_3.index t 1 = 0 ∧ win0_3.index t 2 = 0 :=
    (by decide +kernel : ∀ t : Fin grid0.N, win0_3.index t 0 = 0 ∧ win0_3.index t 1 = 0 ∧ win0_3.index t 2 = 0) t
  rw [Value.flushed3]
  funext y
  rw [View.read_apply]
  have hy : y = ix3 (y 0) (y 1) (y 2) := by
    funext a
    fin_cases a <;> rfl
  have he : ((cfg0.win 3).blk t).view.emb y = y := by
    refine funext fun a => Fin.ext ?_
    match a with
    | ⟨0, _⟩ =>
      show win0_3.index t 0 * 4 + 1 * (y 0).val = (y 0).val
      rw [hi.1]
      omega
    | ⟨1, _⟩ =>
      show win0_3.index t 1 * 1024 + 1 * (y 1).val = (y 1).val
      rw [hi.2.1]
      omega
    | ⟨2, _⟩ =>
      show win0_3.index t 2 * 896 + 1 * (y 2).val = (y 2).val
      rw [hi.2.2]
      omega
  refine ((congrArg (outsAt0 m c t.val t.isLt) hy).trans (outs m c t.val t.isLt (y 0) (y 1) (y 2))).trans ?_
  refine Eq.trans ?_ (congrArg (grad m c) he.symm)
  refine congrArg (fun z : EReal => firstBlocks (W m c) 8 (y 0) (y 1) (y 2) + z) ?_
  refine (congrArg (fun n => ∑ s ∈ Finset.range (n + 1), tilePart m c (y 0) (y 1) (y 2) s) h7).trans ?_
  refine Eq.trans ?_ (sum_tiles (X m c) (Y m c) (y 1) (slabCol (y 0) (y 2)))
  refine Finset.sum_congr rfl fun s _ => ?_
  rw [Nat.zero_add]
  rfl

/-- The kernel's array after the run. -/
theorem final : (dats m 0 c).arrAt 3 cfg0.N = grad m c :=
  (dats m 0 c).arrAt_eq_of_cover 3 _ (flushed m c) fun i => by
    have hN : cfg0.N = 8 := N_0
    have b0 : (i 0 : ℕ) < 4 := (i 0).isLt
    have b1 : (i 1 : ℕ) < 1024 := (i 1).isLt
    have b2 : (i 2 : ℕ) < 896 := (i 2).isLt
    refine ⟨⟨7, by omega⟩, (flush0_3 _).mpr rfl, ?_⟩
    generalize (⟨7, by omega⟩ : Fin cfg0.N) = t
    have hi : win0_3.index t 0 = 0 ∧ win0_3.index t 1 = 0 ∧ win0_3.index t 2 = 0 :=
      (by decide +kernel : ∀ t : Fin grid0.N, win0_3.index t 0 = 0 ∧ win0_3.index t 1 = 0 ∧ win0_3.index t 2 = 0) t
    show i ∈ ((View.whole main_v0).slice (win0_3.rect t)).set
    rw [View.set_slice_whole, Rect.mem_set_unit]
    intro a
    match a with
    | ⟨0, _⟩ =>
      show win0_3.index t 0 * 4 ≤ (i 0 : ℕ) ∧ (i 0 : ℕ) < win0_3.index t 0 * 4 + 4
      rw [hi.1]
      omega
    | ⟨1, _⟩ =>
      show win0_3.index t 1 * 1024 ≤ (i 1 : ℕ) ∧ (i 1 : ℕ) < win0_3.index t 1 * 1024 + 1024
      rw [hi.2.1]
      omega
    | ⟨2, _⟩ =>
      show win0_3.index t 2 * 896 ≤ (i 2 : ℕ) ∧ (i 2 : ℕ) < win0_3.index t 2 * 896 + 896
      rw [hi.2.2]
      omega

/-! ## The reference -/

open Cert.Reference3Ideal.Read in
/-- The reference's array. -/
theorem ref (x0 : Post.Arr 8192 1024) (x1 : Post.Arr 8192 3584) (x2 : Post.Arr 1024 1024) (b : Fin 4) (i : Fin 1024) (j : Fin 896) :
    val_main_v10 (F := Ideal) x0 x1 x2 (ix3 b i j)
      = firstBlocks x2 8 b i j + ∑ R : Fin 8192, x0 (ix2 R i) * x1 (ix2 R (slabCol b j)) := by
  have e : b.val * 896 + j.val = 896 * b.val + j.val := by omega
  unfold val_main_v10 val_main_v9 val_main_v8 val_main_v7 val_main_v6 val_main_v5 val_main_v4 val_main_v1 val_main_cst_0
  pointwise
  refine congrArg₂ (· + ·) ?_ (Finset.sum_congr rfl fun R _ => ?_)
  · unfold firstBlocks colAt
    by_cases h : 1536 ≤ 896 * b.val + j.val ∧ 896 * b.val + j.val < 1536 + 128 * 8
    · rw [dif_pos (by omega), if_pos h, dif_pos (by omega)]
      exact congrArg (fun z => x2 (ix2 i z)) (Fin.ext (congrArg (· - 1536) e))
    · rw [dif_neg (by omega), if_neg h]
  · refine (mul_comm _ _).trans (congrArg (x0 (ix2 R i) * ·) ?_)
    exact congrArg (fun z => x1 (ix2 R z)) (Fin.ext e)

/-- The reference runs and leaves its arguments. -/
theorem frameRef : Cert.quiescent_Reference3Ideal := fun m ρ _ =>
  (θ_run Cert.Reference3Ideal.defs _ _).mono (fun r h => And.intro (fun c => (h c).2)
      (Idealize.ShloMosaic.sem_eq_zero_of_no_sems (by decide) r.2))
    (Cert.Reference3Ideal.Value.run (F := Ideal) m ρ)

/-- Both programs leave the gradient. -/
theorem algebraic : Cert.algebraic_Kernel3Ideal_Reference3Ideal := by
  intro m g m' g' _ ha
  refine ⟨fun c => grad m c,
    (θ_run Cert.Kernel3Ideal.defs _ _).mono (fun _ h c => ?_) (Cert.Kernel3Ideal.Value.run_blocks (F := Ideal) m g),
    (θ_run Cert.Reference3Ideal.defs _ _).mono (fun _ h c => ?_) (Cert.Reference3Ideal.Value.run (F := Ideal) m' g')⟩
  · obtain ⟨h0, rest⟩ := h c
    exact ⟨h0.trans (final m c), rest⟩
  · obtain ⟨h0, rest⟩ := h c
    obtain ⟨e0, e1, e2⟩ := ha c
    refine ⟨(h0.trans (Cert.Reference3Ideal.Read.val_main_v10_eq _ _ _)).trans ?_, rest⟩
    funext y
    have hy : y = ix3 (y 0) (y 1) (y 2) := by
      funext a
      fin_cases a <;> rfl
    rw [hy]
    refine (ref _ _ _ _ _ _).trans ?_
    rw [e0, e1, e2]
    rfl

end Cert.Grad.WIn

end
-- ==== Proof.AdamMod.lean ====
/- The optimiser's step on the modulation's weight: what the kernel leaves, tile by tile, is the reference's step on the whole
   array. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.IdealHost
public import Idealize.ShloMosaic.Adequacy
public import Idealize.ShloMosaic.Init

@[expose] public section

set_option maxRecDepth 16384

noncomputable section

namespace Cert.Adam.Mod

open Idealize.ShloMosaic Idealize.ShloMosaic.TcCoe Idealize.SL.Sem Idealize.ShloMosaic.Tactic
open Cert.Kernel4Ideal Cert.Kernel4Ideal.Gen

theorem eq_ix2 (i : S1024x1536.Idx) : i = ix2 (i 0) (i 1) := by
  funext a
  match a with
  | ⟨0, _⟩ => rfl
  | ⟨1, _⟩ => rfl

open Cert.Reference4Ideal.Read

theorem moment1 (x1 x2 : Vec Ideal S1024x1536 .f32) : Value.G5 (F := Ideal) x1 x2 = val_main_v4 (F := Ideal) x1 x2 := by
  funext i
  rw [eq_ix2 i]
  unfold Value.G5 val_main_v4 val_main_v3 val_main_v2 val_main_v1 val_main_v0 val_main_cst_0 val_main_cst
  pointwise

theorem moment2 (x1 x3 : Vec Ideal S1024x1536 .f32) : Value.G6 (F := Ideal) x1 x3 = val_main_v10 (F := Ideal) x1 x3 := by
  funext i
  rw [eq_ix2 i]
  unfold Value.G6 val_main_v10 val_main_v9 val_main_v8 val_main_v7 val_main_v6 val_main_v5 val_main_cst_2 val_main_cst_1
  pointwise

theorem delta (x0 x1 x2 x3 : Vec Ideal S1024x1536 .f32) :
    Value.G4 (F := Ideal) x0 x1 x2 x3 = val_main_v23 (F := Ideal) x0 x1 x2 x3 := by
  funext i
  rw [eq_ix2 i]
  unfold Value.G4 val_main_v23 val_main_v22 val_main_v21 val_main_v20 val_main_v19 val_main_v18 val_main_v17 val_main_v16
    val_main_v15 val_main_v14 val_main_v13 val_main_v12 val_main_v11 val_main_v10 val_main_v9 val_main_v8 val_main_v7
    val_main_v6 val_main_v5 val_main_v4 val_main_v3 val_main_v2 val_main_v1 val_main_v0 val_main_cst_7 val_main_cst_6
    val_main_cst_5 val_main_cst_4 val_main_cst_3 val_main_cst_2 val_main_cst_1 val_main_cst_0 val_main_cst
  pointwise

/-- The reference runs and leaves its arguments. -/
theorem frameRef : Cert.quiescent_Reference4Ideal := fun m ρ _ =>
  (θ_run Cert.Reference4Ideal.defs _ _).mono (fun r h => And.intro (fun c => (h c).2.2.2)
      (Idealize.ShloMosaic.sem_eq_zero_of_no_sems (by decide) r.2))
    (Cert.Reference4Ideal.Value.run (F := Ideal) m ρ)

/-- Both programs leave the step, and the two moments. -/
theorem algebraic : Cert.algebraic_Kernel4Ideal_Reference4Ideal := by
  intro m g m' g' _ ha
  refine ⟨_, _, _,
    (θ_run Cert.Kernel4Ideal.defs _ _).mono (fun _ h c => h c) (Cert.Kernel4Ideal.Value.run (F := Ideal) m g),
    (θ_run Cert.Reference4Ideal.defs _ _).mono (fun _ h c => ?_) (Cert.Reference4Ideal.Value.run (F := Ideal) m' g')⟩
  obtain ⟨h0, h1, h2, rest⟩ := h c
  obtain ⟨e0, e1, e2, e3⟩ := ha c
  refine ⟨(h0.trans (val_main_v23_eq _ _ _ _)).trans ?_, (h1.trans (val_main_v4_eq _ _)).trans ?_,
    (h2.trans (val_main_v10_eq _ _)).trans ?_, rest⟩
  · rw [delta, e0, e1, e2, e3]
  · rw [moment1, e1, e2]
  · rw [moment2, e1, e3]

end Cert.Adam.Mod

end
-- ==== Proof.Adam.lean ====
/- One element of the optimiser's step, and a gradient put together from its two halves. -/
module

public import proofs.«01_k».proof.Proof.Args
public import Idealize.ShloMosaic.Lib.WritesUnit

@[expose] public section

noncomputable section

namespace Cert.Adam

open Idealize.ShloMosaic

/-- The new first moment. -/
def mom1 (g m : EReal) : EReal := Ideal.ofBits .f32 0x3F666666#32 * m + Ideal.ofBits .f32 0x3DCCCCCD#32 * g

/-- The new second moment. -/
def mom2 (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 *
    (Ideal.div (Ideal.div (mom1 g m) (Ideal.ofBits .f32 0x3F26BD02#32))
        (Ideal.sqrt (Ideal.div (mom2 g v) (Ideal.ofBits .f32 0x3C231ACC#32)) + Ideal.ofBits .f32 0x322BCC77#32)
      + Ideal.ofBits .f32 0x3C23D70A#32 * w)

/-- A selection by the equality of two words. -/
theorem select_eq {α : Type} (a b : BitVec 32) (x y : α) : Scalar.select (IntOp.cmpi .eq a b) x y = if a = b then x else y := by
  by_cases h : a = b
  · subst h
    rw [if_pos rfl]
    simp [Scalar.select, IntOp.cmpi]
  · rw [if_neg h]
    have hb : (a == b) = false := beq_false_of_ne h
    simp [Scalar.select, IntOp.cmpi, hb]

/-- One store of a whole rank-2 buffer, read back. -/
theorem read_store {sig : RefSig} {κ : Kind} {sp : Space} {a b : ℕ} (v : View sig κ sp ⟨2, ![a, b]⟩ .f32) (f : v.ty.Contents (Elt Ideal))
    (inb : ∀ x : Fin 2, (![0, 0] : Fin 2 → ℕ) x + (![a, b] : Fin 2 → ℕ) x ≤ (![a, b] : Fin 2 → ℕ) x) (w : Post.Arr a b) :
    v.read (Elt Ideal) (v.writes (Elt Ideal) f [⟨Rect.unit (s := ⟨2, ![a, b]⟩) ![0, 0] ![a, b] inb, w⟩]) = w := by
  funext y
  refine View.read_writes_cons_unit_of_mem v f (off' := ![0, 0]) inb w [] y y rfl fun x => ?_
  match x with
  | ⟨0, _⟩ => show (y 0).val = 0 + (y 0).val; omega
  | ⟨1, _⟩ => show (y 1).val = 0 + (y 1).val; omega

theorem eq_ix2 {R n : ℕ} (z : (⟨2, ![R, n]⟩ : Shape).Idx) : z = ix2 (z 0) (z 1) := by
  funext a
  match a with
  | ⟨0, _⟩ => rfl
  | ⟨1, _⟩ => rfl

/-- Where an element of tile `q` of `T` rows lies in the array. -/
def place {R T n : ℕ} (q : ℕ) (hq : T * q + T ≤ R) (y : (⟨2, ![T, n]⟩ : Shape).Idx) : (⟨2, ![R, n]⟩ : Shape).Idx :=
  ix2 ⟨T * q + (y 0).val, by have : (y 0).val < T := (y 0).isLt; omega⟩ (y 1)

/-- A block's element is its place's. -/
theorem place_of {R T n : ℕ} (q : ℕ) (hq : T * q + T ≤ R) (y : (⟨2, ![T, n]⟩ : Shape).Idx) (z : (⟨2, ![R, n]⟩ : Shape).Idx) (a b : ℕ)
    (ha : a = q) (hb : b = 0) (h0 : (z 0).val = a * T + 1 * (y 0).val) (h1 : (z 1).val = b * n + 1 * (y 1).val) : z = place q hq y := by
  subst ha hb
  refine funext fun x => Fin.ext ?_
  match x with
  | ⟨0, _⟩ =>
    show (z 0).val = T * a + (y 0).val
    rw [h0, Nat.mul_comm a T, Nat.one_mul]
  | ⟨1, _⟩ =>
    show (z 1).val = (y 1).val
    omega

variable {h n : ℕ} [NeZero h]

/-- Row `i` of the array whose half number `k` is `own` and whose other half is `oth`. -/
def joined (k : BitVec 32) (own oth : Post.Arr h n) (i : ℕ) (j : Fin n) : EReal :=
  if k = BitVec.ofNat 32 (i / h) then own (ix2 (Fin.ofNat h i) j) else oth (ix2 (Fin.ofNat h i) j)

/-- A row `r` of half number `q`. -/
theorem joined_of (k : BitVec 32) (own oth : Post.Arr h n) (q : ℕ) (r : Fin h) (i : ℕ) (hi : i = h * q + r.val) (j : Fin n) :
    joined k own oth i j = if k = BitVec.ofNat 32 q then own (ix2 r j) else oth (ix2 r j) := by
  have hp : 0 < h := Nat.pos_of_ne_zero (NeZero.ne h)
  have e1 : i / h = q := by
    rw [hi, Nat.mul_add_div hp, Nat.div_eq_of_lt r.isLt, Nat.add_zero]
  have e2 : Fin.ofNat h i = r := by
    apply Fin.ext
    show i % h = r.val
    rw [hi, Nat.mul_add_mod, Nat.mod_eq_of_lt r.isLt]
  unfold joined
  rw [e1, e2]

end Cert.Adam

end
-- ==== Proof.AdamWIn.lean ====
/- The optimiser's step on w_in: the gradient is put together from its two halves, and what the kernel leaves, tile by tile, is the
   reference's step on the whole array. -/
module

public import proofs.«01_k».proof.Defs
public import proofs.«01_k».proof.Proof.Adam
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Adam.WIn

open Idealize.ShloMosaic Idealize.ShloMosaic.TcCoe Idealize.SL.Sem Idealize.ShloMosaic.Tactic
open Cert.Kernel5Ideal Cert.Kernel5Ideal.Gen

/-! ## The reference -/

section
open Cert.Reference5Ideal.Read

variable (x0 : S1.Idx → BitVec 32) (x2 x3 : S512x896.Idx → EReal) (x1 x4 x5 : S1024x896.Idx → EReal) (i : Fin 1024) (j : Fin 896)

theorem refG : (val_main_v6 (F := Ideal) x0 x2 x3 (ix2 i j) : EReal) = joined (h := 512) (x0 (ix1 0)) x2 x3 i.val j := by
  have hi := i.isLt
  unfold val_main_v6 val_main_v5 val_main_v4 val_main_v3 val_main_v2 val_main_v1 val_main_v0 val_main_c_0 val_main_c
  pointwise
  simp only [select_eq]
  by_cases h : i.val < 512
  · rw [dif_pos h]
    exact (joined_of _ x2 x3 0 ⟨i.val, h⟩ _ (by dsimp only; omega) j).symm
  · rw [dif_neg h]
    exact (joined_of _ x2 x3 1 ⟨i.val - 512, by omega⟩ _ (by dsimp only; omega) j).symm

theorem refM : (val_main_v11 (F := Ideal) x0 x2 x3 x4 (ix2 i j) : EReal)
    = mom1 (val_main_v6 (F := Ideal) x0 x2 x3 (ix2 i j)) (x4 (ix2 i j)) := by
  unfold val_main_v11 val_main_v10 val_main_v9 val_main_v8 val_main_v7 val_main_cst_1 val_main_cst
  pointwise
  rfl

theorem refV : (val_main_v17 (F := Ideal) x0 x2 x3 x5 (ix2 i j) : EReal)
    = mom2 (val_main_v6 (F := Ideal) x0 x2 x3 (ix2 i j)) (x5 (ix2 i j)) := by
  unfold val_main_v17 val_main_v16 val_main_v15 val_main_v14 val_main_v13 val_main_v12 val_main_cst_3 val_main_cst_2
  pointwise
  rfl

theorem refD : (val_main_v30 (F := Ideal) x0 x1 x2 x3 x4 x5 (ix2 i j) : EReal)
    = delta (x1 (ix2 i j)) (val_main_v6 (F := Ideal) x0 x2 x3 (ix2 i j)) (x4 (ix2 i j)) (x5 (ix2 i j)) := by
  unfold val_main_v30 val_main_v29 val_main_v28 val_main_v27 val_main_v26 val_main_v25 val_main_v24 val_main_v23 val_main_v22
    val_main_v21 val_main_v20 val_main_v19 val_main_v18 val_main_cst_8 val_main_cst_7 val_main_cst_6 val_main_cst_5 val_main_cst_4
  pointwise
  rw [refM, refV]
  rfl

/-- The reference's gradient. -/
def joint : Post.Arr 1024 896 := fun z => joined (h := 512) (x0 (ix1 0)) x2 x3 (z 0).val (z 1)

theorem arrG : val_main_v6 (F := Ideal) x0 x2 x3 = joint x0 x2 x3 := by
  funext z
  rw [eq_ix2 z]
  exact refG x0 x2 x3 _ _

theorem arrM : val_main_v11 (F := Ideal) x0 x2 x3 x4 = fun z => mom1 (joint x0 x2 x3 z) (x4 z) := by
  funext z
  rw [eq_ix2 z, ← arrG]
  exact refM x0 x2 x3 x4 _ _

theorem arrV : val_main_v17 (F := Ideal) x0 x2 x3 x5 = fun z => mom2 (joint x0 x2 x3 z) (x5 z) := by
  funext z
  rw [eq_ix2 z, ← arrG]
  exact refV x0 x2 x3 x5 _ _

theorem arrD : val_main_v30 (F := Ideal) x0 x1 x2 x3 x4 x5 = fun z => delta (x1 z) (joint x0 x2 x3 z) (x4 z) (x5 z) := by
  funext z
  rw [eq_ix2 z, ← arrG]
  exact refD x0 x2 x3 x1 x4 x5 _ _

end

/-! ## A tile -/

theorem hz : (![0, 0] : Fin 2 → ℕ) = fun _ => 0 := funext fun a => by fin_cases a <;> rfl

/-- The half tile `t` lies in is the one chosen. -/
theorem pay3 (t : Fin grid0.N) (k : BitVec 32) (own oth : Vec Ideal S256x896 .f32) (y : S256x896.Idx) :
    k0_pay3 (F := Ideal) (grid0.coords t) k own oth y = if k = BitVec.ofNat 32 (t.val / 2) then own y else oth y := by
  have e : ∀ b : BitVec 32, Scalar.select (IntOp.cmpi .eq b k) own oth y = if k = b then own y else oth y := fun b => by
    rw [select_eq]
    by_cases h : b = k
    · rw [if_pos h, if_pos h.symm]
    · rw [if_neg h, if_neg fun h' => h h'.symm]
  rcases fin_N0 t with rfl | rfl | rfl | rfl
  · exact e 0#32
  · exact e 0#32
  · exact e 1#32
  · exact e 1#32

/-! ## The body's stores -/

section

variable (c : Dev nD) (i : grid0.Coords)
  (arg2 : Memref sig .tc .vmem S256x896 .f32) (harg2 : arg2.IsWhole)
  (arg3 : Memref sig .tc .vmem S256x896 .f32) (harg3 : arg3.IsWhole)
  (arg4 : Memref sig .tc .vmem S256x896 .f32) (harg4 : arg4.IsWhole)
  (arg5 : Memref sig .tc .vmem S256x896 .f32) (harg5 : arg5.IsWhole)
  (arg6 : Memref sig .tc .vmem S256x896 .f32) (harg6 : arg6.IsWhole)
  (arg7 : Memref sig .tc .vmem S256x896 .f32) (harg7 : arg7.IsWhole)
  (arg8 : Memref sig .tc .vmem S256x896 .f32) (harg8 : arg8.IsWhole)
  (arg9 : Memref sig .tc .vmem S256x896 .f32) (harg9 : arg9.IsWhole)
  (arg10 : Memref sig .tc .vmem S256x896 .f32) (harg10 : arg10.IsWhole)
  (x0 x1 x2 x3 x4 : Vec Ideal S256x896 .f32) (xt : TbBuf0 (F := Ideal) c tbM0_0)

/-- The table's word. -/
def word : BitVec 32 := (xt : S1.Idx → BitVec 32) (ix1 0)

theorem word_eq (h : 0 < (Rect.unit (s := S1) ![0] ![1] inb_S1_S1_0).shape.numel) :
    View.ld (View.read (Elt Ideal) (View.whole main_arg0) xt) (Rect.unit ![0] ![1] inb_S1_S1_0) (Shape.Idx.first h) = word c xt := by
  refine congrArg (xt : S1.Idx → BitVec 32) (funext fun a => Fin.ext ?_)
  fin_cases a
  rfl

theorem store5 : out0_A_5 c i arg2 harg2 arg3 harg3 arg4 harg4 arg5 harg5 arg6 harg6 arg7 harg7 arg8 harg8 arg9 harg9 arg10 harg10 x0 x1 x2 x3 x4 xt
    = k0_pay3 (F := Ideal) i (word c xt) x1 x2 := by
  unfold out0_A_5 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S256x896) hz, word_eq]

theorem store6 : out0_A_6 c i arg2 harg2 arg3 harg3 arg4 harg4 arg5 harg5 arg6 harg6 arg7 harg7 arg8 harg8 arg9 harg9 arg10 harg10 x0 x1 x2 x3 x4 xt
    = k0_pay2 (F := Ideal) x0 (k0_pay4 (F := Ideal) i (word c xt) x1 x2 x3) (k0_pay5 (F := Ideal) x4) (k0_pay6 (F := Ideal) i (word c xt) x1 x2) (FloatOps.ofBits .f32 981668463#32) := by
  unfold out0_A_6 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S256x896) hz, word_eq]

theorem store7 : out0_A_7 c i arg2 harg2 arg3 harg3 arg4 harg4 arg5 harg5 arg6 harg6 arg7 harg7 arg8 harg8 arg9 harg9 arg10 harg10 x0 x1 x2 x3 x4 xt
    = k0_pay4 (F := Ideal) i (word c xt) x1 x2 x3 := by
  unfold out0_A_7 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S256x896) hz, word_eq]

theorem store8 : out0_A_8 c i arg2 harg2 arg3 harg3 arg4 harg4 arg5 harg5 arg6 harg6 arg7 harg7 arg8 harg8 arg9 harg9 arg10 harg10 x0 x1 x2 x3 x4 xt
    = k0_pay1 (F := Ideal) (k0_pay5 (F := Ideal) x4) (k0_pay6 (F := Ideal) i (word c xt) x1 x2) (FloatOps.ofBits .f32 981668463#32) := by
  unfold out0_A_8 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S256x896) hz, word_eq]

theorem stores : (out0_A_5 c i arg2 harg2 arg3 harg3 arg4 harg4 arg5 harg5 arg6 harg6 arg7 harg7 arg8 harg8 arg9 harg9 arg10 harg10 x0 x1 x2 x3 x4 xt,
      out0_A_6 c i arg2 harg2 arg3 harg3 arg4 harg4 arg5 harg5 arg6 harg6 arg7 harg7 arg8 harg8 arg9 harg9 arg10 harg10 x0 x1 x2 x3 x4 xt,
      out0_A_7 c i arg2 harg2 arg3 harg3 arg4 harg4 arg5 harg5 arg6 harg6 arg7 harg7 arg8 harg8 arg9 harg9 arg10 harg10 x0 x1 x2 x3 x4 xt,
      out0_A_8 c i arg2 harg2 arg3 harg3 arg4 harg4 arg5 harg5 arg6 harg6 arg7 harg7 arg8 harg8 arg9 harg9 arg10 harg10 x0 x1 x2 x3 x4 xt)
    = (k0_pay3 (F := Ideal) i (word c xt) x1 x2,
      k0_pay2 (F := Ideal) x0 (k0_pay4 (F := Ideal) i (word c xt) x1 x2 x3) (k0_pay5 (F := Ideal) x4) (k0_pay6 (F := Ideal) i (word c xt) x1 x2) (FloatOps.ofBits .f32 981668463#32),
      k0_pay4 (F := Ideal) i (word c xt) x1 x2 x3,
      k0_pay1 (F := Ideal) (k0_pay5 (F := Ideal) x4) (k0_pay6 (F := Ideal) i (word c xt) x1 x2) (FloatOps.ofBits .f32 981668463#32)) := by
  rw [store5, store6, store7, store8]

end

variable (m : (ℓ : Loc nD τ sig) → Buf (Elt Ideal) ℓ) (hO : Ok m) (c : Dev nD)

/-- The chosen half's number. -/
abbrev K : BitVec 32 := m ((c : Thread nD τ).loc main_arg0) (ix1 0)

/-- The weight as launched. -/
abbrev W : Post.Arr 1024 896 := m ((c : Thread nD τ).loc main_arg1)

/-- The chosen half of the gradient as launched. -/
abbrev Own : Post.Arr 512 896 := m ((c : Thread nD τ).loc main_arg2)

/-- The other half of the gradient as launched. -/
abbrev Oth : Post.Arr 512 896 := m ((c : Thread nD τ).loc main_arg3)

/-- The first moment as launched. -/
abbrev M1 : Post.Arr 1024 896 := m ((c : Thread nD τ).loc main_arg4)

/-- The second moment as launched. -/
abbrev M2 : Post.Arr 1024 896 := m ((c : Thread nD τ).loc main_arg5)

/-- The gradient. -/
def grad : Post.Arr 1024 896 := joint (m ((c : Thread nD τ).loc main_arg0)) (Own m c) (Oth m c)

theorem words : ∀ t : Fin grid0.N,
    (cc0_transform_0 (grid0.coords t) 0 = t.val ∧ cc0_transform_0 (grid0.coords t) 1 = 0)
    ∧ (cc0_transform_1 (grid0.coords t) 0 = t.val % 2 ∧ cc0_transform_1 (grid0.coords t) 1 = 0)
    ∧ (cc0_transform_2 (grid0.coords t) 0 = t.val % 2 ∧ cc0_transform_2 (grid0.coords t) 1 = 0)
    ∧ (cc0_transform_3 (grid0.coords t) 0 = t.val ∧ cc0_transform_3 (grid0.coords t) 1 = 0)
    ∧ (cc0_transform_4 (grid0.coords t) 0 = t.val ∧ cc0_transform_4 (grid0.coords t) 1 = 0)
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) :=
  by decide +kernel

theorem lt4 (t : Fin grid0.N) : t.val < 4 := lt_of_lt_of_eq t.isLt N_0

theorem hR (t : Fin grid0.N) : 256 * t.val + 256 ≤ 1024 := by have := lt4 t; omega

theorem hH (t : Fin grid0.N) : 256 * (t.val % 2) + 256 ≤ 512 := by omega

/-- Input 0's block at point `t`. -/
def b0 (t : Fin grid0.N) : Vec Ideal S256x896 .f32 := iblk m hO c 0 t

/-- Input 1's block at point `t`. -/
def b1 (t : Fin grid0.N) : Vec Ideal S256x896 .f32 := iblk m hO c 1 t

/-- Input 2's block at point `t`. -/
def b2 (t : Fin grid0.N) : Vec Ideal S256x896 .f32 := iblk m hO c 2 t

/-- Input 3's block at point `t`. -/
def b3 (t : Fin grid0.N) : Vec Ideal S256x896 .f32 := iblk m hO c 3 t

/-- Input 4's block at point `t`. -/
def b4 (t : Fin grid0.N) : Vec Ideal S256x896 .f32 := iblk m hO c 4 t

theorem b0_apply (t : Fin grid0.N) (y : S256x896.Idx) : b0 m hO c t y = W m c (place t.val (hR t) y) := by
  unfold b0 iblk
  show W m c ((((cfgM m hO).win 0).blk t).view.emb y) = _
  exact congrArg (W m c) (place_of _ _ _ _ _ _ (words t).1.1 (words t).1.2 rfl rfl)

theorem b1_apply (t : Fin grid0.N) (y : S256x896.Idx) : b1 m hO c t y = Own m c (place (t.val % 2) (hH t) y) := by
  unfold b1 iblk
  show Own m c ((((cfgM m hO).win 1).blk t).view.emb y) = _
  exact congrArg (Own m c) (place_of _ _ _ _ _ _ (words t).2.1.1 (words t).2.1.2 rfl rfl)

theorem b2_apply (t : Fin grid0.N) (y : S256x896.Idx) : b2 m hO c t y = Oth m c (place (t.val % 2) (hH t) y) := by
  unfold b2 iblk
  show Oth m c ((((cfgM m hO).win 2).blk t).view.emb y) = _
  exact congrArg (Oth m c) (place_of _ _ _ _ _ _ (words t).2.2.1.1 (words t).2.2.1.2 rfl rfl)

theorem b3_apply (t : Fin grid0.N) (y : S256x896.Idx) : b3 m hO c t y = M1 m c (place t.val (hR t) y) := by
  unfold b3 iblk
  show M1 m c ((((cfgM m hO).win 3).blk t).view.emb y) = _
  exact congrArg (M1 m c) (place_of _ _ _ _ _ _ (words t).2.2.2.1.1 (words t).2.2.2.1.2 rfl rfl)

theorem b4_apply (t : Fin grid0.N) (y : S256x896.Idx) : b4 m hO c t y = M2 m c (place t.val (hR t) y) := by
  unfold b4 iblk
  show M2 m c ((((cfgM m hO).win 4).blk t).view.emb y) = _
  exact congrArg (M2 m c) (place_of _ _ _ _ _ _ (words t).2.2.2.2.1.1 (words t).2.2.2.2.1.2 rfl rfl)

/-- The table's word is the chosen half's number. -/
theorem word_tbl : word c (tbl m 0) = K m c := by
  obtain rfl : c = 0 := Subsingleton.elim _ _
  rfl

/-- The gradient's tile. -/
theorem gradTile (t : Fin grid0.N) (y : S256x896.Idx) :
    k0_pay3 (F := Ideal) (grid0.coords t) (word c (tbl m 0)) (b1 m hO c t) (b2 m hO c t) y = grad m c (place t.val (hR t) y) := by
  have h4 := lt4 t
  have hy : (y 0).val < 256 := (y 0).isLt
  rw [pay3, b1_apply, b2_apply, word_tbl]
  exact (joined_of _ (Own m c) (Oth m c) (t.val / 2) ⟨256 * (t.val % 2) + (y 0).val, by omega⟩ _
    (by show 256 * t.val + (y 0).val = 512 * (t.val / 2) + (256 * (t.val % 2) + (y 0).val); omega) (y 1)).symm

theorem moment1 (i : grid0.Coords) (k : BitVec 32) (x1 x2 x3 : Vec Ideal S256x896 .f32) (y : S256x896.Idx) :
    (k0_pay4 (F := Ideal) i k x1 x2 x3 y : EReal) = mom1 (k0_pay3 (F := Ideal) i k x1 x2 y) (x3 y) := rfl

theorem moment2 (i : grid0.Coords) (k : BitVec 32) (x1 x2 x4 : Vec Ideal S256x896 .f32) (y : S256x896.Idx) :
    (k0_pay1 (F := Ideal) (k0_pay5 (F := Ideal) x4) (k0_pay6 (F := Ideal) i k x1 x2) (FloatOps.ofBits .f32 981668463#32) y : EReal)
      = mom2 (k0_pay3 (F := Ideal) i k x1 x2 y) (x4 y) := rfl

theorem step (i : grid0.Coords) (k : BitVec 32) (x0 x1 x2 x3 x4 : Vec Ideal S256x896 .f32) (y : S256x896.Idx) :
    (k0_pay2 (F := Ideal) x0 (k0_pay4 (F := Ideal) i k x1 x2 x3) (k0_pay5 (F := Ideal) x4) (k0_pay6 (F := Ideal) i k x1 x2)
        (FloatOps.ofBits .f32 981668463#32) y : EReal)
      = delta (x0 y) (k0_pay3 (F := Ideal) i k x1 x2 y) (x3 y) (x4 y) := rfl

/-! ## The kernel's arrays -/

/-- The change of the weight. -/
def newD : Post.Arr 1024 896 := fun z => delta (W m c z) (grad m c z) (M1 m c z) (M2 m c z)

/-- The new first moment. -/
def newM : Post.Arr 1024 896 := fun z => mom1 (grad m c z) (M1 m c z)

/-- The new second moment. -/
def newV : Post.Arr 1024 896 := fun z => mom2 (grad m c z) (M2 m c z)

/-- What the body leaves at a point. -/
theorem outs (t : Fin grid0.N) : outsAt0 m hO c t
    = (k0_pay3 (F := Ideal) (grid0.coords t) (word c (tbl m 0)) (b1 m hO c t) (b2 m hO c t),
       k0_pay2 (F := Ideal) (b0 m hO c t) (k0_pay4 (F := Ideal) (grid0.coords t) (word c (tbl m 0)) (b1 m hO c t) (b2 m hO c t) (b3 m hO c t))
         (k0_pay5 (F := Ideal) (b4 m hO c t)) (k0_pay6 (F := Ideal) (grid0.coords t) (word c (tbl m 0)) (b1 m hO c t) (b2 m hO c t))
         (FloatOps.ofBits .f32 981668463#32),
       k0_pay4 (F := Ideal) (grid0.coords t) (word c (tbl m 0)) (b1 m hO c t) (b2 m hO c t) (b3 m hO c t),
       k0_pay1 (F := Ideal) (k0_pay5 (F := Ideal) (b4 m hO c t)) (k0_pay6 (F := Ideal) (grid0.coords t) (word c (tbl m 0)) (b1 m hO c t) (b2 m hO c t))
         (FloatOps.ofBits .f32 981668463#32)) :=
  stores c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out5 (t : Fin grid0.N) (y : S256x896.Idx) : (outsAt0 m hO c t).1 y = grad m c (place t.val (hR t) y) := by
  rw [outs]
  exact gradTile m hO c t y

theorem out6 (t : Fin grid0.N) (y : S256x896.Idx) : (outsAt0 m hO c t).2.1 y = newD m c (place t.val (hR t) y) := by
  rw [outs]
  refine (step _ _ (b0 m hO c t) (b1 m hO c t) (b2 m hO c t) (b3 m hO c t) (b4 m hO c t) y).trans ?_
  rw [gradTile, b0_apply, b3_apply, b4_apply]
  rfl

theorem out7 (t : Fin grid0.N) (y : S256x896.Idx) : (outsAt0 m hO c t).2.2.1 y = newM m c (place t.val (hR t) y) := by
  rw [outs]
  refine (moment1 _ _ (b1 m hO c t) (b2 m hO c t) (b3 m hO c t) y).trans ?_
  rw [gradTile, b3_apply]
  rfl

theorem out8 (t : Fin grid0.N) (y : S256x896.Idx) : (outsAt0 m hO c t).2.2.2 y = newV m c (place t.val (hR t) y) := by
  rw [outs]
  refine (moment2 _ _ (b1 m hO c t) (b2 m hO c t) (b4 m hO c t) y).trans ?_
  rw [gradTile, b4_apply]
  rfl

/-- Every element lies in a tile. -/
theorem tile (z : S1024x896.Idx) : ∃ (t : Fin grid0.N) (y : S256x896.Idx), place t.val (hR t) y = z := by
  have h0 : (z 0).val < 1024 := (z 0).isLt
  have hN : grid0.N = 4 := N_0
  refine ⟨⟨(z 0).val / 256, by omega⟩, ix2 ⟨(z 0).val % 256, by omega⟩ (z 1), funext fun x => Fin.ext ?_⟩
  match x with
  | ⟨0, _⟩ =>
    show 256 * ((z 0).val / 256) + (z 0).val % 256 = (z 0).val
    omega
  | ⟨1, _⟩ => rfl

theorem emb5 (t : Fin grid0.N) (y : S256x896.Idx) : (((cfgM m hO).win 5).blk t).view.emb y = place t.val (hR t) y :=
  place_of _ _ _ _ _ _ (words t).2.2.2.2.2.1.1 (words t).2.2.2.2.2.1.2 rfl rfl

theorem final5 : (dats m hO 0 c).arrAt 5 (cfgM m hO).N = grad m c := by
  refine (dats m hO 0 c).arrAt_eq_of_cover 5 _ (fun t _ => ?_) fun z => ?_
  · show ((cfgM m hO).win 5).cut (grid0.coords t) ((dats m hO 0 c).after 5 t) = _
    rw [after0_5]
    funext y
    exact (out5 m hO c t y).trans (congrArg (grad m c) (emb5 m hO t y).symm)
  · obtain ⟨t, y, h⟩ := tile z
    refine ⟨t, flush0_5 (adm m hO) t, ?_⟩
    rw [← h, ← emb5 m hO t y]
    exact View.emb_mem_set _ _

theorem emb6 (t : Fin grid0.N) (y : S256x896.Idx) : (((cfgM m hO).win 6).blk t).view.emb y = place t.val (hR t) y :=
  place_of _ _ _ _ _ _ (words t).2.2.2.2.2.2.1.1 (words t).2.2.2.2.2.2.1.2 rfl rfl

theorem final6 : (dats m hO 0 c).arrAt 6 (cfgM m hO).N = newD m c := by
  refine (dats m hO 0 c).arrAt_eq_of_cover 6 _ (fun t _ => ?_) fun z => ?_
  · show ((cfgM m hO).win 6).cut (grid0.coords t) ((dats m hO 0 c).after 6 t) = _
    rw [after0_6]
    funext y
    exact (out6 m hO c t y).trans (congrArg (newD m c) (emb6 m hO t y).symm)
  · obtain ⟨t, y, h⟩ := tile z
    refine ⟨t, flush0_6 (adm m hO) t, ?_⟩
    rw [← h, ← emb6 m hO t y]
    exact View.emb_mem_set _ _

theorem emb7 (t : Fin grid0.N) (y : S256x896.Idx) : (((cfgM m hO).win 7).blk t).view.emb y = place t.val (hR t) y :=
  place_of _ _ _ _ _ _ (words t).2.2.2.2.2.2.2.1.1 (words t).2.2.2.2.2.2.2.1.2 rfl rfl

theorem final7 : (dats m hO 0 c).arrAt 7 (cfgM m hO).N = newM m c := by
  refine (dats m hO 0 c).arrAt_eq_of_cover 7 _ (fun t _ => ?_) fun z => ?_
  · show ((cfgM m hO).win 7).cut (grid0.coords t) ((dats m hO 0 c).after 7 t) = _
    rw [after0_7]
    funext y
    exact (out7 m hO c t y).trans (congrArg (newM m c) (emb7 m hO t y).symm)
  · obtain ⟨t, y, h⟩ := tile z
    refine ⟨t, flush0_7 (adm m hO) t, ?_⟩
    rw [← h, ← emb7 m hO t y]
    exact View.emb_mem_set _ _

theorem emb8 (t : Fin grid0.N) (y : S256x896.Idx) : (((cfgM m hO).win 8).blk t).view.emb y = place t.val (hR t) y :=
  place_of _ _ _ _ _ _ (words t).2.2.2.2.2.2.2.2.1 (words t).2.2.2.2.2.2.2.2.2 rfl rfl

theorem final8 : (dats m hO 0 c).arrAt 8 (cfgM m hO).N = newV m c := by
  refine (dats m hO 0 c).arrAt_eq_of_cover 8 _ (fun t _ => ?_) fun z => ?_
  · show ((cfgM m hO).win 8).cut (grid0.coords t) ((dats m hO 0 c).after 8 t) = _
    rw [after0_8]
    funext y
    exact (out8 m hO c t y).trans (congrArg (newV m c) (emb8 m hO t y).symm)
  · obtain ⟨t, y, h⟩ := tile z
    refine ⟨t, flush0_8 (adm m hO) t, ?_⟩
    rw [← h, ← emb8 m hO t y]
    exact View.emb_mem_set _ _

/-- The kernel's run, each array named. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = newD m c
      ∧ r.2.mem ((c : Thread nD τ).loc main_v0_2) = newM m c
      ∧ r.2.mem ((c : Thread nD τ).loc main_v0_3) = newV m c :=
  (θ_run defs _ _).mono (fun _ h c => ⟨((h c).1 5).trans (final5 m trivial c), ((h c).1 6).trans (final6 m trivial c),
    ((h c).1 7).trans (final7 m trivial c), ((h c).1 8).trans (final8 m trivial c)⟩) (run_main m ρ trivial)

/-- The reference runs and leaves its arguments. -/
theorem frameRef : Cert.quiescent_Reference5Ideal := fun m ρ _ =>
  (θ_run Cert.Reference5Ideal.defs _ _).mono (fun r h => And.intro (fun c => (h c).2.2.2.2)
      (Idealize.ShloMosaic.sem_eq_zero_of_no_sems (by decide) r.2))
    (Cert.Reference5Ideal.Value.run (F := Ideal) m ρ)

/-- Both programs leave the gradient, the step, and the two moments. -/
theorem algebraic : Cert.algebraic_Kernel5Ideal_Reference5Ideal := by
  intro m g m' g' _ ha
  refine ⟨fun c => grad m c, fun c => newD m c, fun c => newM m c, fun c => newV m c,
    (θ_run Cert.Kernel5Ideal.defs _ _).mono (fun _ h c => ?_) (θ_run_and (run m g) (unchanged m g trivial)),
    (θ_run Cert.Reference5Ideal.defs _ _).mono (fun _ h c => ?_) (Cert.Reference5Ideal.Value.run (F := Ideal) m' g')⟩
  · obtain ⟨h0, h1, h2, h3⟩ := h.1 c
    exact ⟨h0, h1, h2, h3, h.2 c⟩
  · obtain ⟨h0, h1, h2, h3, rest⟩ := h c
    obtain ⟨e0, e1, e2, e3, e4, e5⟩ := ha c
    refine ⟨(h0.trans (Cert.Reference5Ideal.Read.val_main_v6_eq _ _ _)).trans ?_,
      (h1.trans (Cert.Reference5Ideal.Read.val_main_v30_eq _ _ _ _ _ _)).trans ?_,
      (h2.trans (Cert.Reference5Ideal.Read.val_main_v11_eq _ _ _ _)).trans ?_,
      (h3.trans (Cert.Reference5Ideal.Read.val_main_v17_eq _ _ _ _)).trans ?_, rest⟩
    · rw [e0, e2, e3]
      exact arrG _ _ _
    · rw [e0, e1, e2, e3, e4, e5]
      exact arrD _ _ _ _ _ _
    · rw [e0, e2, e3, e4]
      exact arrM _ _ _ _
    · rw [e0, e2, e3, e5]
      exact arrV _ _ _ _

end Cert.Adam.WIn

end
-- ==== Proof.AdamWOut.lean ====
/- The optimiser's step on w_out: the gradient is put together from its two halves, and what the kernel leaves, tile by tile, is the
   reference's step on the whole array. -/
module

public import proofs.«01_k».proof.Defs
public import proofs.«01_k».proof.Proof.Adam
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Adam.WOut

open Idealize.ShloMosaic Idealize.ShloMosaic.TcCoe Idealize.SL.Sem Idealize.ShloMosaic.Tactic
open Cert.Kernel6Ideal Cert.Kernel6Ideal.Gen

/-! ## The reference -/

section
open Cert.Reference6Ideal.Read

variable (x0 : S1.Idx → BitVec 32) (x2 x3 : S128x1024.Idx → EReal) (x1 x4 x5 : S256x1024.Idx → EReal) (i : Fin 256) (j : Fin 1024)

theorem refG : (val_main_v6 (F := Ideal) x0 x2 x3 (ix2 i j) : EReal) = joined (h := 128) (x0 (ix1 0)) x2 x3 i.val j := by
  have hi := i.isLt
  unfold val_main_v6 val_main_v5 val_main_v4 val_main_v3 val_main_v2 val_main_v1 val_main_v0 val_main_c_0 val_main_c
  pointwise
  simp only [select_eq]
  by_cases h : i.val < 128
  · rw [dif_pos h]
    exact (joined_of _ x2 x3 0 ⟨i.val, h⟩ _ (by dsimp only; omega) j).symm
  · rw [dif_neg h]
    exact (joined_of _ x2 x3 1 ⟨i.val - 128, by omega⟩ _ (by dsimp only; omega) j).symm

theorem refM : (val_main_v11 (F := Ideal) x0 x2 x3 x4 (ix2 i j) : EReal)
    = mom1 (val_main_v6 (F := Ideal) x0 x2 x3 (ix2 i j)) (x4 (ix2 i j)) := by
  unfold val_main_v11 val_main_v10 val_main_v9 val_main_v8 val_main_v7 val_main_cst_1 val_main_cst
  pointwise
  rfl

theorem refV : (val_main_v17 (F := Ideal) x0 x2 x3 x5 (ix2 i j) : EReal)
    = mom2 (val_main_v6 (F := Ideal) x0 x2 x3 (ix2 i j)) (x5 (ix2 i j)) := by
  unfold val_main_v17 val_main_v16 val_main_v15 val_main_v14 val_main_v13 val_main_v12 val_main_cst_3 val_main_cst_2
  pointwise
  rfl

theorem refD : (val_main_v30 (F := Ideal) x0 x1 x2 x3 x4 x5 (ix2 i j) : EReal)
    = delta (x1 (ix2 i j)) (val_main_v6 (F := Ideal) x0 x2 x3 (ix2 i j)) (x4 (ix2 i j)) (x5 (ix2 i j)) := by
  unfold val_main_v30 val_main_v29 val_main_v28 val_main_v27 val_main_v26 val_main_v25 val_main_v24 val_main_v23 val_main_v22
    val_main_v21 val_main_v20 val_main_v19 val_main_v18 val_main_cst_8 val_main_cst_7 val_main_cst_6 val_main_cst_5 val_main_cst_4
  pointwise
  rw [refM, refV]
  rfl

/-- The reference's gradient. -/
def joint : Post.Arr 256 1024 := fun z => joined (h := 128) (x0 (ix1 0)) x2 x3 (z 0).val (z 1)

theorem arrG : val_main_v6 (F := Ideal) x0 x2 x3 = joint x0 x2 x3 := by
  funext z
  rw [eq_ix2 z]
  exact refG x0 x2 x3 _ _

theorem arrM : val_main_v11 (F := Ideal) x0 x2 x3 x4 = fun z => mom1 (joint x0 x2 x3 z) (x4 z) := by
  funext z
  rw [eq_ix2 z, ← arrG]
  exact refM x0 x2 x3 x4 _ _

theorem arrV : val_main_v17 (F := Ideal) x0 x2 x3 x5 = fun z => mom2 (joint x0 x2 x3 z) (x5 z) := by
  funext z
  rw [eq_ix2 z, ← arrG]
  exact refV x0 x2 x3 x5 _ _

theorem arrD : val_main_v30 (F := Ideal) x0 x1 x2 x3 x4 x5 = fun z => delta (x1 z) (joint x0 x2 x3 z) (x4 z) (x5 z) := by
  funext z
  rw [eq_ix2 z, ← arrG]
  exact refD x0 x2 x3 x1 x4 x5 _ _

end

/-! ## A tile -/

theorem hz : (![0, 0] : Fin 2 → ℕ) = fun _ => 0 := funext fun a => by fin_cases a <;> rfl

/-- The half tile `t` lies in is the one chosen. -/
theorem pay3 (t : Fin grid0.N) (k : BitVec 32) (own oth : Vec Ideal S128x1024 .f32) (y : S128x1024.Idx) :
    k0_pay3 (F := Ideal) (grid0.coords t) k own oth y = if k = BitVec.ofNat 32 (t.val / 1) then own y else oth y := by
  have e : ∀ b : BitVec 32, Scalar.select (IntOp.cmpi .eq b k) own oth y = if k = b then own y else oth y := fun b => by
    rw [select_eq]
    by_cases h : b = k
    · rw [if_pos h, if_pos h.symm]
    · rw [if_neg h, if_neg fun h' => h h'.symm]
  rcases fin_N0 t with rfl | rfl
  · exact e 0#32
  · exact e 1#32

/-! ## The body's stores -/

section

variable (c : Dev nD) (i : grid0.Coords)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S128x1024 .f32) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S128x1024 .f32) (harg10 : arg10.IsWhole)
  (x0 x1 x2 x3 x4 : Vec Ideal S128x1024 .f32) (xt : TbBuf0 (F := Ideal) c tbM0_0)

/-- The table's word. -/
def word : BitVec 32 := (xt : S1.Idx → BitVec 32) (ix1 0)

theorem word_eq (h : 0 < (Rect.unit (s := S1) ![0] ![1] inb_S1_S1_0).shape.numel) :
    View.ld (View.read (Elt Ideal) (View.whole main_arg0) xt) (Rect.unit ![0] ![1] inb_S1_S1_0) (Shape.Idx.first h) = word c xt := by
  refine congrArg (xt : S1.Idx → BitVec 32) (funext fun a => Fin.ext ?_)
  fin_cases a
  rfl

theorem store5 : out0_A_5 c i arg2 harg2 arg3 harg3 arg4 harg4 arg5 harg5 arg6 harg6 arg7 harg7 arg8 harg8 arg9 harg9 arg10 harg10 x0 x1 x2 x3 x4 xt
    = k0_pay3 (F := Ideal) i (word c xt) x1 x2 := by
  unfold out0_A_5 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S128x1024) hz, word_eq]

theorem store6 : out0_A_6 c i arg2 harg2 arg3 harg3 arg4 harg4 arg5 harg5 arg6 harg6 arg7 harg7 arg8 harg8 arg9 harg9 arg10 harg10 x0 x1 x2 x3 x4 xt
    = k0_pay2 (F := Ideal) x0 (k0_pay4 (F := Ideal) i (word c xt) x1 x2 x3) (k0_pay5 (F := Ideal) x4) (k0_pay6 (F := Ideal) i (word c xt) x1 x2) (FloatOps.ofBits .f32 981668463#32) := by
  unfold out0_A_6 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S128x1024) hz, word_eq]

theorem store7 : out0_A_7 c i arg2 harg2 arg3 harg3 arg4 harg4 arg5 harg5 arg6 harg6 arg7 harg7 arg8 harg8 arg9 harg9 arg10 harg10 x0 x1 x2 x3 x4 xt
    = k0_pay4 (F := Ideal) i (word c xt) x1 x2 x3 := by
  unfold out0_A_7 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S128x1024) hz, word_eq]

theorem store8 : out0_A_8 c i arg2 harg2 arg3 harg3 arg4 harg4 arg5 harg5 arg6 harg6 arg7 harg7 arg8 harg8 arg9 harg9 arg10 harg10 x0 x1 x2 x3 x4 xt
    = k0_pay1 (F := Ideal) (k0_pay5 (F := Ideal) x4) (k0_pay6 (F := Ideal) i (word c xt) x1 x2) (FloatOps.ofBits .f32 981668463#32) := by
  unfold out0_A_8 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S128x1024) hz, word_eq]

theorem stores : (out0_A_5 c i arg2 harg2 arg3 harg3 arg4 harg4 arg5 harg5 arg6 harg6 arg7 harg7 arg8 harg8 arg9 harg9 arg10 harg10 x0 x1 x2 x3 x4 xt,
      out0_A_6 c i arg2 harg2 arg3 harg3 arg4 harg4 arg5 harg5 arg6 harg6 arg7 harg7 arg8 harg8 arg9 harg9 arg10 harg10 x0 x1 x2 x3 x4 xt,
      out0_A_7 c i arg2 harg2 arg3 harg3 arg4 harg4 arg5 harg5 arg6 harg6 arg7 harg7 arg8 harg8 arg9 harg9 arg10 harg10 x0 x1 x2 x3 x4 xt,
      out0_A_8 c i arg2 harg2 arg3 harg3 arg4 harg4 arg5 harg5 arg6 harg6 arg7 harg7 arg8 harg8 arg9 harg9 arg10 harg10 x0 x1 x2 x3 x4 xt)
    = (k0_pay3 (F := Ideal) i (word c xt) x1 x2,
      k0_pay2 (F := Ideal) x0 (k0_pay4 (F := Ideal) i (word c xt) x1 x2 x3) (k0_pay5 (F := Ideal) x4) (k0_pay6 (F := Ideal) i (word c xt) x1 x2) (FloatOps.ofBits .f32 981668463#32),
      k0_pay4 (F := Ideal) i (word c xt) x1 x2 x3,
      k0_pay1 (F := Ideal) (k0_pay5 (F := Ideal) x4) (k0_pay6 (F := Ideal) i (word c xt) x1 x2) (FloatOps.ofBits .f32 981668463#32)) := by
  rw [store5, store6, store7, store8]

end

variable (m : (ℓ : Loc nD τ sig) → Buf (Elt Ideal) ℓ) (hO : Ok m) (c : Dev nD)

/-- The chosen half's number. -/
abbrev K : BitVec 32 := m ((c : Thread nD τ).loc main_arg0) (ix1 0)

/-- The weight as launched. -/
abbrev W : Post.Arr 256 1024 := m ((c : Thread nD τ).loc main_arg1)

/-- The chosen half of the gradient as launched. -/
abbrev Own : Post.Arr 128 1024 := m ((c : Thread nD τ).loc main_arg2)

/-- The other half of the gradient as launched. -/
abbrev Oth : Post.Arr 128 1024 := m ((c : Thread nD τ).loc main_arg3)

/-- The first moment as launched. -/
abbrev M1 : Post.Arr 256 1024 := m ((c : Thread nD τ).loc main_arg4)

/-- The second moment as launched. -/
abbrev M2 : Post.Arr 256 1024 := m ((c : Thread nD τ).loc main_arg5)

/-- The gradient. -/
def grad : Post.Arr 256 1024 := joint (m ((c : Thread nD τ).loc main_arg0)) (Own m c) (Oth m c)

theorem words : ∀ t : Fin grid0.N,
    (cc0_transform_0 (grid0.coords t) 0 = t.val ∧ cc0_transform_0 (grid0.coords t) 1 = 0)
    ∧ (cc0_transform_1 (grid0.coords t) 0 = t.val % 1 ∧ cc0_transform_1 (grid0.coords t) 1 = 0)
    ∧ (cc0_transform_2 (grid0.coords t) 0 = t.val % 1 ∧ cc0_transform_2 (grid0.coords t) 1 = 0)
    ∧ (cc0_transform_3 (grid0.coords t) 0 = t.val ∧ cc0_transform_3 (grid0.coords t) 1 = 0)
    ∧ (cc0_transform_4 (grid0.coords t) 0 = t.val ∧ cc0_transform_4 (grid0.coords t) 1 = 0)
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) :=
  by decide +kernel

theorem lt4 (t : Fin grid0.N) : t.val < 2 := lt_of_lt_of_eq t.isLt N_0

theorem hR (t : Fin grid0.N) : 128 * t.val + 128 ≤ 256 := by have := lt4 t; omega

theorem hH (t : Fin grid0.N) : 128 * (t.val % 1) + 128 ≤ 128 := by omega

/-- Input 0's block at point `t`. -/
def b0 (t : Fin grid0.N) : Vec Ideal S128x1024 .f32 := iblk m hO c 0 t

/-- Input 1's block at point `t`. -/
def b1 (t : Fin grid0.N) : Vec Ideal S128x1024 .f32 := iblk m hO c 1 t

/-- Input 2's block at point `t`. -/
def b2 (t : Fin grid0.N) : Vec Ideal S128x1024 .f32 := iblk m hO c 2 t

/-- Input 3's block at point `t`. -/
def b3 (t : Fin grid0.N) : Vec Ideal S128x1024 .f32 := iblk m hO c 3 t

/-- Input 4's block at point `t`. -/
def b4 (t : Fin grid0.N) : Vec Ideal S128x1024 .f32 := iblk m hO c 4 t

theorem b0_apply (t : Fin grid0.N) (y : S128x1024.Idx) : b0 m hO c t y = W m c (place t.val (hR t) y) := by
  unfold b0 iblk
  show W m c ((((cfgM m hO).win 0).blk t).view.emb y) = _
  exact congrArg (W m c) (place_of _ _ _ _ _ _ (words t).1.1 (words t).1.2 rfl rfl)

theorem b1_apply (t : Fin grid0.N) (y : S128x1024.Idx) : b1 m hO c t y = Own m c (place (t.val % 1) (hH t) y) := by
  unfold b1 iblk
  show Own m c ((((cfgM m hO).win 1).blk t).view.emb y) = _
  exact congrArg (Own m c) (place_of _ _ _ _ _ _ (words t).2.1.1 (words t).2.1.2 rfl rfl)

theorem b2_apply (t : Fin grid0.N) (y : S128x1024.Idx) : b2 m hO c t y = Oth m c (place (t.val % 1) (hH t) y) := by
  unfold b2 iblk
  show Oth m c ((((cfgM m hO).win 2).blk t).view.emb y) = _
  exact congrArg (Oth m c) (place_of _ _ _ _ _ _ (words t).2.2.1.1 (words t).2.2.1.2 rfl rfl)

theorem b3_apply (t : Fin grid0.N) (y : S128x1024.Idx) : b3 m hO c t y = M1 m c (place t.val (hR t) y) := by
  unfold b3 iblk
  show M1 m c ((((cfgM m hO).win 3).blk t).view.emb y) = _
  exact congrArg (M1 m c) (place_of _ _ _ _ _ _ (words t).2.2.2.1.1 (words t).2.2.2.1.2 rfl rfl)

theorem b4_apply (t : Fin grid0.N) (y : S128x1024.Idx) : b4 m hO c t y = M2 m c (place t.val (hR t) y) := by
  unfold b4 iblk
  show M2 m c ((((cfgM m hO).win 4).blk t).view.emb y) = _
  exact congrArg (M2 m c) (place_of _ _ _ _ _ _ (words t).2.2.2.2.1.1 (words t).2.2.2.2.1.2 rfl rfl)

/-- The table's word is the chosen half's number. -/
theorem word_tbl : word c (tbl m 0) = K m c := by
  obtain rfl : c = 0 := Subsingleton.elim _ _
  rfl

/-- The gradient's tile. -/
theorem gradTile (t : Fin grid0.N) (y : S128x1024.Idx) :
    k0_pay3 (F := Ideal) (grid0.coords t) (word c (tbl m 0)) (b1 m hO c t) (b2 m hO c t) y = grad m c (place t.val (hR t) y) := by
  have h4 := lt4 t
  have hy : (y 0).val < 128 := (y 0).isLt
  rw [pay3, b1_apply, b2_apply, word_tbl]
  exact (joined_of _ (Own m c) (Oth m c) (t.val / 1) ⟨128 * (t.val % 1) + (y 0).val, by omega⟩ _
    (by show 128 * t.val + (y 0).val = 128 * (t.val / 1) + (128 * (t.val % 1) + (y 0).val); omega) (y 1)).symm

theorem moment1 (i : grid0.Coords) (k : BitVec 32) (x1 x2 x3 : Vec Ideal S128x1024 .f32) (y : S128x1024.Idx) :
    (k0_pay4 (F := Ideal) i k x1 x2 x3 y : EReal) = mom1 (k0_pay3 (F := Ideal) i k x1 x2 y) (x3 y) := rfl

theorem moment2 (i : grid0.Coords) (k : BitVec 32) (x1 x2 x4 : Vec Ideal S128x1024 .f32) (y : S128x1024.Idx) :
    (k0_pay1 (F := Ideal) (k0_pay5 (F := Ideal) x4) (k0_pay6 (F := Ideal) i k x1 x2) (FloatOps.ofBits .f32 981668463#32) y : EReal)
      = mom2 (k0_pay3 (F := Ideal) i k x1 x2 y) (x4 y) := rfl

theorem step (i : grid0.Coords) (k : BitVec 32) (x0 x1 x2 x3 x4 : Vec Ideal S128x1024 .f32) (y : S128x1024.Idx) :
    (k0_pay2 (F := Ideal) x0 (k0_pay4 (F := Ideal) i k x1 x2 x3) (k0_pay5 (F := Ideal) x4) (k0_pay6 (F := Ideal) i k x1 x2)
        (FloatOps.ofBits .f32 981668463#32) y : EReal)
      = delta (x0 y) (k0_pay3 (F := Ideal) i k x1 x2 y) (x3 y) (x4 y) := rfl

/-! ## The kernel's arrays -/

/-- The change of the weight. -/
def newD : Post.Arr 256 1024 := fun z => delta (W m c z) (grad m c z) (M1 m c z) (M2 m c z)

/-- The new first moment. -/
def newM : Post.Arr 256 1024 := fun z => mom1 (grad m c z) (M1 m c z)

/-- The new second moment. -/
def newV : Post.Arr 256 1024 := fun z => mom2 (grad m c z) (M2 m c z)

/-- What the body leaves at a point. -/
theorem outs (t : Fin grid0.N) : outsAt0 m hO c t
    = (k0_pay3 (F := Ideal) (grid0.coords t) (word c (tbl m 0)) (b1 m hO c t) (b2 m hO c t),
       k0_pay2 (F := Ideal) (b0 m hO c t) (k0_pay4 (F := Ideal) (grid0.coords t) (word c (tbl m 0)) (b1 m hO c t) (b2 m hO c t) (b3 m hO c t))
         (k0_pay5 (F := Ideal) (b4 m hO c t)) (k0_pay6 (F := Ideal) (grid0.coords t) (word c (tbl m 0)) (b1 m hO c t) (b2 m hO c t))
         (FloatOps.ofBits .f32 981668463#32),
       k0_pay4 (F := Ideal) (grid0.coords t) (word c (tbl m 0)) (b1 m hO c t) (b2 m hO c t) (b3 m hO c t),
       k0_pay1 (F := Ideal) (k0_pay5 (F := Ideal) (b4 m hO c t)) (k0_pay6 (F := Ideal) (grid0.coords t) (word c (tbl m 0)) (b1 m hO c t) (b2 m hO c t))
         (FloatOps.ofBits .f32 981668463#32)) :=
  stores c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out5 (t : Fin grid0.N) (y : S128x1024.Idx) : (outsAt0 m hO c t).1 y = grad m c (place t.val (hR t) y) := by
  rw [outs]
  exact gradTile m hO c t y

theorem out6 (t : Fin grid0.N) (y : S128x1024.Idx) : (outsAt0 m hO c t).2.1 y = newD m c (place t.val (hR t) y) := by
  rw [outs]
  refine (step _ _ (b0 m hO c t) (b1 m hO c t) (b2 m hO c t) (b3 m hO c t) (b4 m hO c t) y).trans ?_
  rw [gradTile, b0_apply, b3_apply, b4_apply]
  rfl

theorem out7 (t : Fin grid0.N) (y : S128x1024.Idx) : (outsAt0 m hO c t).2.2.1 y = newM m c (place t.val (hR t) y) := by
  rw [outs]
  refine (moment1 _ _ (b1 m hO c t) (b2 m hO c t) (b3 m hO c t) y).trans ?_
  rw [gradTile, b3_apply]
  rfl

theorem out8 (t : Fin grid0.N) (y : S128x1024.Idx) : (outsAt0 m hO c t).2.2.2 y = newV m c (place t.val (hR t) y) := by
  rw [outs]
  refine (moment2 _ _ (b1 m hO c t) (b2 m hO c t) (b4 m hO c t) y).trans ?_
  rw [gradTile, b4_apply]
  rfl

/-- Every element lies in a tile. -/
theorem tile (z : S256x1024.Idx) : ∃ (t : Fin grid0.N) (y : S128x1024.Idx), place t.val (hR t) y = z := by
  have h0 : (z 0).val < 256 := (z 0).isLt
  have hN : grid0.N = 2 := N_0
  refine ⟨⟨(z 0).val / 128, by omega⟩, ix2 ⟨(z 0).val % 128, by omega⟩ (z 1), funext fun x => Fin.ext ?_⟩
  match x with
  | ⟨0, _⟩ =>
    show 128 * ((z 0).val / 128) + (z 0).val % 128 = (z 0).val
    omega
  | ⟨1, _⟩ => rfl

theorem emb5 (t : Fin grid0.N) (y : S128x1024.Idx) : (((cfgM m hO).win 5).blk t).view.emb y = place t.val (hR t) y :=
  place_of _ _ _ _ _ _ (words t).2.2.2.2.2.1.1 (words t).2.2.2.2.2.1.2 rfl rfl

theorem final5 : (dats m hO 0 c).arrAt 5 (cfgM m hO).N = grad m c := by
  refine (dats m hO 0 c).arrAt_eq_of_cover 5 _ (fun t _ => ?_) fun z => ?_
  · show ((cfgM m hO).win 5).cut (grid0.coords t) ((dats m hO 0 c).after 5 t) = _
    rw [after0_5]
    funext y
    exact (out5 m hO c t y).trans (congrArg (grad m c) (emb5 m hO t y).symm)
  · obtain ⟨t, y, h⟩ := tile z
    refine ⟨t, flush0_5 (adm m hO) t, ?_⟩
    rw [← h, ← emb5 m hO t y]
    exact View.emb_mem_set _ _

theorem emb6 (t : Fin grid0.N) (y : S128x1024.Idx) : (((cfgM m hO).win 6).blk t).view.emb y = place t.val (hR t) y :=
  place_of _ _ _ _ _ _ (words t).2.2.2.2.2.2.1.1 (words t).2.2.2.2.2.2.1.2 rfl rfl

theorem final6 : (dats m hO 0 c).arrAt 6 (cfgM m hO).N = newD m c := by
  refine (dats m hO 0 c).arrAt_eq_of_cover 6 _ (fun t _ => ?_) fun z => ?_
  · show ((cfgM m hO).win 6).cut (grid0.coords t) ((dats m hO 0 c).after 6 t) = _
    rw [after0_6]
    funext y
    exact (out6 m hO c t y).trans (congrArg (newD m c) (emb6 m hO t y).symm)
  · obtain ⟨t, y, h⟩ := tile z
    refine ⟨t, flush0_6 (adm m hO) t, ?_⟩
    rw [← h, ← emb6 m hO t y]
    exact View.emb_mem_set _ _

theorem emb7 (t : Fin grid0.N) (y : S128x1024.Idx) : (((cfgM m hO).win 7).blk t).view.emb y = place t.val (hR t) y :=
  place_of _ _ _ _ _ _ (words t).2.2.2.2.2.2.2.1.1 (words t).2.2.2.2.2.2.2.1.2 rfl rfl

theorem final7 : (dats m hO 0 c).arrAt 7 (cfgM m hO).N = newM m c := by
  refine (dats m hO 0 c).arrAt_eq_of_cover 7 _ (fun t _ => ?_) fun z => ?_
  · show ((cfgM m hO).win 7).cut (grid0.coords t) ((dats m hO 0 c).after 7 t) = _
    rw [after0_7]
    funext y
    exact (out7 m hO c t y).trans (congrArg (newM m c) (emb7 m hO t y).symm)
  · obtain ⟨t, y, h⟩ := tile z
    refine ⟨t, flush0_7 (adm m hO) t, ?_⟩
    rw [← h, ← emb7 m hO t y]
    exact View.emb_mem_set _ _

theorem emb8 (t : Fin grid0.N) (y : S128x1024.Idx) : (((cfgM m hO).win 8).blk t).view.emb y = place t.val (hR t) y :=
  place_of _ _ _ _ _ _ (words t).2.2.2.2.2.2.2.2.1 (words t).2.2.2.2.2.2.2.2.2 rfl rfl

theorem final8 : (dats m hO 0 c).arrAt 8 (cfgM m hO).N = newV m c := by
  refine (dats m hO 0 c).arrAt_eq_of_cover 8 _ (fun t _ => ?_) fun z => ?_
  · show ((cfgM m hO).win 8).cut (grid0.coords t) ((dats m hO 0 c).after 8 t) = _
    rw [after0_8]
    funext y
    exact (out8 m hO c t y).trans (congrArg (newV m c) (emb8 m hO t y).symm)
  · obtain ⟨t, y, h⟩ := tile z
    refine ⟨t, flush0_8 (adm m hO) t, ?_⟩
    rw [← h, ← emb8 m hO t y]
    exact View.emb_mem_set _ _

/-- The kernel's run, each array named. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = newD m c
      ∧ r.2.mem ((c : Thread nD τ).loc main_v0_2) = newM m c
      ∧ r.2.mem ((c : Thread nD τ).loc main_v0_3) = newV m c :=
  (θ_run defs _ _).mono (fun _ h c => ⟨((h c).1 5).trans (final5 m trivial c), ((h c).1 6).trans (final6 m trivial c),
    ((h c).1 7).trans (final7 m trivial c), ((h c).1 8).trans (final8 m trivial c)⟩) (run_main m ρ trivial)

/-- The reference runs and leaves its arguments. -/
theorem frameRef : Cert.quiescent_Reference6Ideal := fun m ρ _ =>
  (θ_run Cert.Reference6Ideal.defs _ _).mono (fun r h => And.intro (fun c => (h c).2.2.2.2)
      (Idealize.ShloMosaic.sem_eq_zero_of_no_sems (by decide) r.2))
    (Cert.Reference6Ideal.Value.run (F := Ideal) m ρ)

/-- Both programs leave the gradient, the step, and the two moments. -/
theorem algebraic : Cert.algebraic_Kernel6Ideal_Reference6Ideal := by
  intro m g m' g' _ ha
  refine ⟨fun c => grad m c, fun c => newD m c, fun c => newM m c, fun c => newV m c,
    (θ_run Cert.Kernel6Ideal.defs _ _).mono (fun _ h c => ?_) (θ_run_and (run m g) (unchanged m g trivial)),
    (θ_run Cert.Reference6Ideal.defs _ _).mono (fun _ h c => ?_) (Cert.Reference6Ideal.Value.run (F := Ideal) m' g')⟩
  · obtain ⟨h0, h1, h2, h3⟩ := h.1 c
    exact ⟨h0, h1, h2, h3, h.2 c⟩
  · obtain ⟨h0, h1, h2, h3, rest⟩ := h c
    obtain ⟨e0, e1, e2, e3, e4, e5⟩ := ha c
    refine ⟨(h0.trans (Cert.Reference6Ideal.Read.val_main_v6_eq _ _ _)).trans ?_,
      (h1.trans (Cert.Reference6Ideal.Read.val_main_v30_eq _ _ _ _ _ _)).trans ?_,
      (h2.trans (Cert.Reference6Ideal.Read.val_main_v11_eq _ _ _ _)).trans ?_,
      (h3.trans (Cert.Reference6Ideal.Read.val_main_v17_eq _ _ _ _)).trans ?_, rest⟩
    · rw [e0, e2, e3]
      exact arrG _ _ _
    · rw [e0, e1, e2, e3, e4, e5]
      exact arrD _ _ _ _ _ _
    · rw [e0, e2, e3, e4]
      exact arrM _ _ _ _
    · rw [e0, e2, e3, e5]
      exact arrV _ _ _ _

end Cert.Adam.WOut

end
-- ==== Proof.AdamWDown.lean ====
/- The optimiser's step on w_down, w_gate and w_up, whose shapes are the same (w_gate and w_up are updated transposed): the
   gradient is put together from its two halves, and what the kernel leaves, tile by tile, is the reference's step on the whole
   array. -/
module

public import proofs.«01_k».proof.Defs
public import proofs.«01_k».proof.Proof.Adam
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Adam.WDown

open Idealize.ShloMosaic Idealize.ShloMosaic.TcCoe Idealize.SL.Sem Idealize.ShloMosaic.Tactic
open Cert.Kernel7Ideal Cert.Kernel7Ideal.Gen

/-! ## The reference -/

section
open Cert.Reference7Ideal.Read

variable (x0 : S1.Idx → BitVec 32) (x2 x3 : S352x1024.Idx → EReal) (x1 x4 x5 : S704x1024.Idx → EReal) (i : Fin 704) (j : Fin 1024)

theorem refG : (val_main_v6 (F := Ideal) x0 x2 x3 (ix2 i j) : EReal) = joined (h := 352) (x0 (ix1 0)) x2 x3 i.val j := by
  have hi := i.isLt
  unfold val_main_v6 val_main_v5 val_main_v4 val_main_v3 val_main_v2 val_main_v1 val_main_v0 val_main_c_0 val_main_c
  pointwise
  simp only [select_eq]
  by_cases h : i.val < 352
  · rw [dif_pos h]
    exact (joined_of _ x2 x3 0 ⟨i.val, h⟩ _ (by dsimp only; omega) j).symm
  · rw [dif_neg h]
    exact (joined_of _ x2 x3 1 ⟨i.val - 352, by omega⟩ _ (by dsimp only; omega) j).symm

theorem refM : (val_main_v11 (F := Ideal) x0 x2 x3 x4 (ix2 i j) : EReal)
    = mom1 (val_main_v6 (F := Ideal) x0 x2 x3 (ix2 i j)) (x4 (ix2 i j)) := by
  unfold val_main_v11 val_main_v10 val_main_v9 val_main_v8 val_main_v7 val_main_cst_1 val_main_cst
  pointwise
  rfl

theorem refV : (val_main_v17 (F := Ideal) x0 x2 x3 x5 (ix2 i j) : EReal)
    = mom2 (val_main_v6 (F := Ideal) x0 x2 x3 (ix2 i j)) (x5 (ix2 i j)) := by
  unfold val_main_v17 val_main_v16 val_main_v15 val_main_v14 val_main_v13 val_main_v12 val_main_cst_3 val_main_cst_2
  pointwise
  rfl

theorem refD : (val_main_v30 (F := Ideal) x0 x1 x2 x3 x4 x5 (ix2 i j) : EReal)
    = delta (x1 (ix2 i j)) (val_main_v6 (F := Ideal) x0 x2 x3 (ix2 i j)) (x4 (ix2 i j)) (x5 (ix2 i j)) := by
  unfold val_main_v30 val_main_v29 val_main_v28 val_main_v27 val_main_v26 val_main_v25 val_main_v24 val_main_v23 val_main_v22
    val_main_v21 val_main_v20 val_main_v19 val_main_v18 val_main_cst_8 val_main_cst_7 val_main_cst_6 val_main_cst_5 val_main_cst_4
  pointwise
  rw [refM, refV]
  rfl

/-- The reference's gradient. -/
def joint : Post.Arr 704 1024 := fun z => joined (h := 352) (x0 (ix1 0)) x2 x3 (z 0).val (z 1)

theorem arrG : val_main_v6 (F := Ideal) x0 x2 x3 = joint x0 x2 x3 := by
  funext z
  rw [eq_ix2 z]
  exact refG x0 x2 x3 _ _

theorem arrM : val_main_v11 (F := Ideal) x0 x2 x3 x4 = fun z => mom1 (joint x0 x2 x3 z) (x4 z) := by
  funext z
  rw [eq_ix2 z, ← arrG]
  exact refM x0 x2 x3 x4 _ _

theorem arrV : val_main_v17 (F := Ideal) x0 x2 x3 x5 = fun z => mom2 (joint x0 x2 x3 z) (x5 z) := by
  funext z
  rw [eq_ix2 z, ← arrG]
  exact refV x0 x2 x3 x5 _ _

theorem arrD : val_main_v30 (F := Ideal) x0 x1 x2 x3 x4 x5 = fun z => delta (x1 z) (joint x0 x2 x3 z) (x4 z) (x5 z) := by
  funext z
  rw [eq_ix2 z, ← arrG]
  exact refD x0 x2 x3 x1 x4 x5 _ _

end

/-! ## A tile -/

theorem hz : (![0, 0] : Fin 2 → ℕ) = fun _ => 0 := funext fun a => by fin_cases a <;> rfl

/-- The half tile `t` lies in is the one chosen. -/
theorem pay3 (t : Fin grid0.N) (k : BitVec 32) (own oth : Vec Ideal S176x1024 .f32) (y : S176x1024.Idx) :
    k0_pay3 (F := Ideal) (grid0.coords t) k own oth y = if k = BitVec.ofNat 32 (t.val / 2) then own y else oth y := by
  have e : ∀ b : BitVec 32, Scalar.select (IntOp.cmpi .eq b k) own oth y = if k = b then own y else oth y := fun b => by
    rw [select_eq]
    by_cases h : b = k
    · rw [if_pos h, if_pos h.symm]
    · rw [if_neg h, if_neg fun h' => h h'.symm]
  rcases fin_N0 t with rfl | rfl | rfl | rfl
  · exact e 0#32
  · exact e 0#32
  · exact e 1#32
  · exact e 1#32

/-! ## The body's stores -/

section

variable (c : Dev nD) (i : grid0.Coords)
  (arg2 : Memref sig .tc .vmem S176x1024 .f32) (harg2 : arg2.IsWhole)
  (arg3 : Memref sig .tc .vmem S176x1024 .f32) (harg3 : arg3.IsWhole)
  (arg4 : Memref sig .tc .vmem S176x1024 .f32) (harg4 : arg4.IsWhole)
  (arg5 : Memref sig .tc .vmem S176x1024 .f32) (harg5 : arg5.IsWhole)
  (arg6 : Memref sig .tc .vmem S176x1024 .f32) (harg6 : arg6.IsWhole)
  (arg7 : Memref sig .tc .vmem S176x1024 .f32) (harg7 : arg7.IsWhole)
  (arg8 : Memref sig .tc .vmem S176x1024 .f32) (harg8 : arg8.IsWhole)
  (arg9 : Memref sig .tc .vmem S176x1024 .f32) (harg9 : arg9.IsWhole)
  (arg10 : Memref sig .tc .vmem S176x1024 .f32) (harg10 : arg10.IsWhole)
  (x0 x1 x2 x3 x4 : Vec Ideal S176x1024 .f32) (xt : TbBuf0 (F := Ideal) c tbM0_0)

/-- The table's word. -/
def word : BitVec 32 := (xt : S1.Idx → BitVec 32) (ix1 0)

theorem word_eq (h : 0 < (Rect.unit (s := S1) ![0] ![1] inb_S1_S1_0).shape.numel) :
    View.ld (View.read (Elt Ideal) (View.whole main_arg0) xt) (Rect.unit ![0] ![1] inb_S1_S1_0) (Shape.Idx.first h) = word c xt := by
  refine congrArg (xt : S1.Idx → BitVec 32) (funext fun a => Fin.ext ?_)
  fin_cases a
  rfl

theorem store5 : out0_A_5 c i arg2 harg2 arg3 harg3 arg4 harg4 arg5 harg5 arg6 harg6 arg7 harg7 arg8 harg8 arg9 harg9 arg10 harg10 x0 x1 x2 x3 x4 xt
    = k0_pay3 (F := Ideal) i (word c xt) x1 x2 := by
  unfold out0_A_5 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S176x1024) hz, word_eq]

theorem store6 : out0_A_6 c i arg2 harg2 arg3 harg3 arg4 harg4 arg5 harg5 arg6 harg6 arg7 harg7 arg8 harg8 arg9 harg9 arg10 harg10 x0 x1 x2 x3 x4 xt
    = k0_pay2 (F := Ideal) x0 (k0_pay4 (F := Ideal) i (word c xt) x1 x2 x3) (k0_pay5 (F := Ideal) x4) (k0_pay6 (F := Ideal) i (word c xt) x1 x2) (FloatOps.ofBits .f32 981668463#32) := by
  unfold out0_A_6 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S176x1024) hz, word_eq]

theorem store7 : out0_A_7 c i arg2 harg2 arg3 harg3 arg4 harg4 arg5 harg5 arg6 harg6 arg7 harg7 arg8 harg8 arg9 harg9 arg10 harg10 x0 x1 x2 x3 x4 xt
    = k0_pay4 (F := Ideal) i (word c xt) x1 x2 x3 := by
  unfold out0_A_7 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S176x1024) hz, word_eq]

theorem store8 : out0_A_8 c i arg2 harg2 arg3 harg3 arg4 harg4 arg5 harg5 arg6 harg6 arg7 harg7 arg8 harg8 arg9 harg9 arg10 harg10 x0 x1 x2 x3 x4 xt
    = k0_pay1 (F := Ideal) (k0_pay5 (F := Ideal) x4) (k0_pay6 (F := Ideal) i (word c xt) x1 x2) (FloatOps.ofBits .f32 981668463#32) := by
  unfold out0_A_8 kernelRun0_A
  dsimp only
  sl_unfold_words
  simp only [View.readAt_eq_ld, harg2.read_unread, harg3.read_unread, harg4.read_unread, harg5.read_unread, harg6.read_unread]
  refine (read_store _ _ _ _).trans ?_
  simp only [View.ld_unit_zero (S := S176x1024) hz, word_eq]

theorem stores : (out0_A_5 c i arg2 harg2 arg3 harg3 arg4 harg4 arg5 harg5 arg6 harg6 arg7 harg7 arg8 harg8 arg9 harg9 arg10 harg10 x0 x1 x2 x3 x4 xt,
      out0_A_6 c i arg2 harg2 arg3 harg3 arg4 harg4 arg5 harg5 arg6 harg6 arg7 harg7 arg8 harg8 arg9 harg9 arg10 harg10 x0 x1 x2 x3 x4 xt,
      out0_A_7 c i arg2 harg2 arg3 harg3 arg4 harg4 arg5 harg5 arg6 harg6 arg7 harg7 arg8 harg8 arg9 harg9 arg10 harg10 x0 x1 x2 x3 x4 xt,
      out0_A_8 c i arg2 harg2 arg3 harg3 arg4 harg4 arg5 harg5 arg6 harg6 arg7 harg7 arg8 harg8 arg9 harg9 arg10 harg10 x0 x1 x2 x3 x4 xt)
    = (k0_pay3 (F := Ideal) i (word c xt) x1 x2,
      k0_pay2 (F := Ideal) x0 (k0_pay4 (F := Ideal) i (word c xt) x1 x2 x3) (k0_pay5 (F := Ideal) x4) (k0_pay6 (F := Ideal) i (word c xt) x1 x2) (FloatOps.ofBits .f32 981668463#32),
      k0_pay4 (F := Ideal) i (word c xt) x1 x2 x3,
      k0_pay1 (F := Ideal) (k0_pay5 (F := Ideal) x4) (k0_pay6 (F := Ideal) i (word c xt) x1 x2) (FloatOps.ofBits .f32 981668463#32)) := by
  rw [store5, store6, store7, store8]

end

variable (m : (ℓ : Loc nD τ sig) → Buf (Elt Ideal) ℓ) (hO : Ok m) (c : Dev nD)

/-- The chosen half's number. -/
abbrev K : BitVec 32 := m ((c : Thread nD τ).loc main_arg0) (ix1 0)

/-- The weight as launched. -/
abbrev W : Post.Arr 704 1024 := m ((c : Thread nD τ).loc main_arg1)

/-- The chosen half of the gradient as launched. -/
abbrev Own : Post.Arr 352 1024 := m ((c : Thread nD τ).loc main_arg2)

/-- The other half of the gradient as launched. -/
abbrev Oth : Post.Arr 352 1024 := m ((c : Thread nD τ).loc main_arg3)

/-- The first moment as launched. -/
abbrev M1 : Post.Arr 704 1024 := m ((c : Thread nD τ).loc main_arg4)

/-- The second moment as launched. -/
abbrev M2 : Post.Arr 704 1024 := m ((c : Thread nD τ).loc main_arg5)

/-- The gradient. -/
def grad : Post.Arr 704 1024 := joint (m ((c : Thread nD τ).loc main_arg0)) (Own m c) (Oth m c)

theorem words : ∀ t : Fin grid0.N,
    (cc0_transform_0 (grid0.coords t) 0 = t.val ∧ cc0_transform_0 (grid0.coords t) 1 = 0)
    ∧ (cc0_transform_1 (grid0.coords t) 0 = t.val % 2 ∧ cc0_transform_1 (grid0.coords t) 1 = 0)
    ∧ (cc0_transform_2 (grid0.coords t) 0 = t.val % 2 ∧ cc0_transform_2 (grid0.coords t) 1 = 0)
    ∧ (cc0_transform_3 (grid0.coords t) 0 = t.val ∧ cc0_transform_3 (grid0.coords t) 1 = 0)
    ∧ (cc0_transform_4 (grid0.coords t) 0 = t.val ∧ cc0_transform_4 (grid0.coords t) 1 = 0)
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) :=
  by decide +kernel

theorem lt4 (t : Fin grid0.N) : t.val < 4 := lt_of_lt_of_eq t.isLt N_0

theorem hR (t : Fin grid0.N) : 176 * t.val + 176 ≤ 704 := by have := lt4 t; omega

theorem hH (t : Fin grid0.N) : 176 * (t.val % 2) + 176 ≤ 352 := by omega

/-- Input 0's block at point `t`. -/
def b0 (t : Fin grid0.N) : Vec Ideal S176x1024 .f32 := iblk m hO c 0 t

/-- Input 1's block at point `t`. -/
def b1 (t : Fin grid0.N) : Vec Ideal S176x1024 .f32 := iblk m hO c 1 t

/-- Input 2's block at point `t`. -/
def b2 (t : Fin grid0.N) : Vec Ideal S176x1024 .f32 := iblk m hO c 2 t

/-- Input 3's block at point `t`. -/
def b3 (t : Fin grid0.N) : Vec Ideal S176x1024 .f32 := iblk m hO c 3 t

/-- Input 4's block at point `t`. -/
def b4 (t : Fin grid0.N) : Vec Ideal S176x1024 .f32 := iblk m hO c 4 t

theorem b0_apply (t : Fin grid0.N) (y : S176x1024.Idx) : b0 m hO c t y = W m c (place t.val (hR t) y) := by
  unfold b0 iblk
  show W m c ((((cfgM m hO).win 0).blk t).view.emb y) = _
  exact congrArg (W m c) (place_of _ _ _ _ _ _ (words t).1.1 (words t).1.2 rfl rfl)

theorem b1_apply (t : Fin grid0.N) (y : S176x1024.Idx) : b1 m hO c t y = Own m c (place (t.val % 2) (hH t) y) := by
  unfold b1 iblk
  show Own m c ((((cfgM m hO).win 1).blk t).view.emb y) = _
  exact congrArg (Own m c) (place_of _ _ _ _ _ _ (words t).2.1.1 (words t).2.1.2 rfl rfl)

theorem b2_apply (t : Fin grid0.N) (y : S176x1024.Idx) : b2 m hO c t y = Oth m c (place (t.val % 2) (hH t) y) := by
  unfold b2 iblk
  show Oth m c ((((cfgM m hO).win 2).blk t).view.emb y) = _
  exact congrArg (Oth m c) (place_of _ _ _ _ _ _ (words t).2.2.1.1 (words t).2.2.1.2 rfl rfl)

theorem b3_apply (t : Fin grid0.N) (y : S176x1024.Idx) : b3 m hO c t y = M1 m c (place t.val (hR t) y) := by
  unfold b3 iblk
  show M1 m c ((((cfgM m hO).win 3).blk t).view.emb y) = _
  exact congrArg (M1 m c) (place_of _ _ _ _ _ _ (words t).2.2.2.1.1 (words t).2.2.2.1.2 rfl rfl)

theorem b4_apply (t : Fin grid0.N) (y : S176x1024.Idx) : b4 m hO c t y = M2 m c (place t.val (hR t) y) := by
  unfold b4 iblk
  show M2 m c ((((cfgM m hO).win 4).blk t).view.emb y) = _
  exact congrArg (M2 m c) (place_of _ _ _ _ _ _ (words t).2.2.2.2.1.1 (words t).2.2.2.2.1.2 rfl rfl)

/-- The table's word is the chosen half's number. -/
theorem word_tbl : word c (tbl m 0) = K m c := by
  obtain rfl : c = 0 := Subsingleton.elim _ _
  rfl

/-- The gradient's tile. -/
theorem gradTile (t : Fin grid0.N) (y : S176x1024.Idx) :
    k0_pay3 (F := Ideal) (grid0.coords t) (word c (tbl m 0)) (b1 m hO c t) (b2 m hO c t) y = grad m c (place t.val (hR t) y) := by
  have h4 := lt4 t
  have hy : (y 0).val < 176 := (y 0).isLt
  rw [pay3, b1_apply, b2_apply, word_tbl]
  exact (joined_of _ (Own m c) (Oth m c) (t.val / 2) ⟨176 * (t.val % 2) + (y 0).val, by omega⟩ _
    (by show 176 * t.val + (y 0).val = 352 * (t.val / 2) + (176 * (t.val % 2) + (y 0).val); omega) (y 1)).symm

theorem moment1 (i : grid0.Coords) (k : BitVec 32) (x1 x2 x3 : Vec Ideal S176x1024 .f32) (y : S176x1024.Idx) :
    (k0_pay4 (F := Ideal) i k x1 x2 x3 y : EReal) = mom1 (k0_pay3 (F := Ideal) i k x1 x2 y) (x3 y) := rfl

theorem moment2 (i : grid0.Coords) (k : BitVec 32) (x1 x2 x4 : Vec Ideal S176x1024 .f32) (y : S176x1024.Idx) :
    (k0_pay1 (F := Ideal) (k0_pay5 (F := Ideal) x4) (k0_pay6 (F := Ideal) i k x1 x2) (FloatOps.ofBits .f32 981668463#32) y : EReal)
      = mom2 (k0_pay3 (F := Ideal) i k x1 x2 y) (x4 y) := rfl

theorem step (i : grid0.Coords) (k : BitVec 32) (x0 x1 x2 x3 x4 : Vec Ideal S176x1024 .f32) (y : S176x1024.Idx) :
    (k0_pay2 (F := Ideal) x0 (k0_pay4 (F := Ideal) i k x1 x2 x3) (k0_pay5 (F := Ideal) x4) (k0_pay6 (F := Ideal) i k x1 x2)
        (FloatOps.ofBits .f32 981668463#32) y : EReal)
      = delta (x0 y) (k0_pay3 (F := Ideal) i k x1 x2 y) (x3 y) (x4 y) := rfl

/-! ## The kernel's arrays -/

/-- The change of the weight. -/
def newD : Post.Arr 704 1024 := fun z => delta (W m c z) (grad m c z) (M1 m c z) (M2 m c z)

/-- The new first moment. -/
def newM : Post.Arr 704 1024 := fun z => mom1 (grad m c z) (M1 m c z)

/-- The new second moment. -/
def newV : Post.Arr 704 1024 := fun z => mom2 (grad m c z) (M2 m c z)

/-- What the body leaves at a point. -/
theorem outs (t : Fin grid0.N) : outsAt0 m hO c t
    = (k0_pay3 (F := Ideal) (grid0.coords t) (word c (tbl m 0)) (b1 m hO c t) (b2 m hO c t),
       k0_pay2 (F := Ideal) (b0 m hO c t) (k0_pay4 (F := Ideal) (grid0.coords t) (word c (tbl m 0)) (b1 m hO c t) (b2 m hO c t) (b3 m hO c t))
         (k0_pay5 (F := Ideal) (b4 m hO c t)) (k0_pay6 (F := Ideal) (grid0.coords t) (word c (tbl m 0)) (b1 m hO c t) (b2 m hO c t))
         (FloatOps.ofBits .f32 981668463#32),
       k0_pay4 (F := Ideal) (grid0.coords t) (word c (tbl m 0)) (b1 m hO c t) (b2 m hO c t) (b3 m hO c t),
       k0_pay1 (F := Ideal) (k0_pay5 (F := Ideal) (b4 m hO c t)) (k0_pay6 (F := Ideal) (grid0.coords t) (word c (tbl m 0)) (b1 m hO c t) (b2 m hO c t))
         (FloatOps.ofBits .f32 981668463#32)) :=
  stores c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out5 (t : Fin grid0.N) (y : S176x1024.Idx) : (outsAt0 m hO c t).1 y = grad m c (place t.val (hR t) y) := by
  rw [outs]
  exact gradTile m hO c t y

theorem out6 (t : Fin grid0.N) (y : S176x1024.Idx) : (outsAt0 m hO c t).2.1 y = newD m c (place t.val (hR t) y) := by
  rw [outs]
  refine (step _ _ (b0 m hO c t) (b1 m hO c t) (b2 m hO c t) (b3 m hO c t) (b4 m hO c t) y).trans ?_
  rw [gradTile, b0_apply, b3_apply, b4_apply]
  rfl

theorem out7 (t : Fin grid0.N) (y : S176x1024.Idx) : (outsAt0 m hO c t).2.2.1 y = newM m c (place t.val (hR t) y) := by
  rw [outs]
  refine (moment1 _ _ (b1 m hO c t) (b2 m hO c t) (b3 m hO c t) y).trans ?_
  rw [gradTile, b3_apply]
  rfl

theorem out8 (t : Fin grid0.N) (y : S176x1024.Idx) : (outsAt0 m hO c t).2.2.2 y = newV m c (place t.val (hR t) y) := by
  rw [outs]
  refine (moment2 _ _ (b1 m hO c t) (b2 m hO c t) (b4 m hO c t) y).trans ?_
  rw [gradTile, b4_apply]
  rfl

/-- Every element lies in a tile. -/
theorem tile (z : S704x1024.Idx) : ∃ (t : Fin grid0.N) (y : S176x1024.Idx), place t.val (hR t) y = z := by
  have h0 : (z 0).val < 704 := (z 0).isLt
  have hN : grid0.N = 4 := N_0
  refine ⟨⟨(z 0).val / 176, by omega⟩, ix2 ⟨(z 0).val % 176, by omega⟩ (z 1), funext fun x => Fin.ext ?_⟩
  match x with
  | ⟨0, _⟩ =>
    show 176 * ((z 0).val / 176) + (z 0).val % 176 = (z 0).val
    omega
  | ⟨1, _⟩ => rfl

theorem emb5 (t : Fin grid0.N) (y : S176x1024.Idx) : (((cfgM m hO).win 5).blk t).view.emb y = place t.val (hR t) y :=
  place_of _ _ _ _ _ _ (words t).2.2.2.2.2.1.1 (words t).2.2.2.2.2.1.2 rfl rfl

theorem final5 : (dats m hO 0 c).arrAt 5 (cfgM m hO).N = grad m c := by
  refine (dats m hO 0 c).arrAt_eq_of_cover 5 _ (fun t _ => ?_) fun z => ?_
  · show ((cfgM m hO).win 5).cut (grid0.coords t) ((dats m hO 0 c).after 5 t) = _
    rw [after0_5]
    funext y
    exact (out5 m hO c t y).trans (congrArg (grad m c) (emb5 m hO t y).symm)
  · obtain ⟨t, y, h⟩ := tile z
    refine ⟨t, flush0_5 (adm m hO) t, ?_⟩
    rw [← h, ← emb5 m hO t y]
    exact View.emb_mem_set _ _

theorem emb6 (t : Fin grid0.N) (y : S176x1024.Idx) : (((cfgM m hO).win 6).blk t).view.emb y = place t.val (hR t) y :=
  place_of _ _ _ _ _ _ (words t).2.2.2.2.2.2.1.1 (words t).2.2.2.2.2.2.1.2 rfl rfl

theorem final6 : (dats m hO 0 c).arrAt 6 (cfgM m hO).N = newD m c := by
  refine (dats m hO 0 c).arrAt_eq_of_cover 6 _ (fun t _ => ?_) fun z => ?_
  · show ((cfgM m hO).win 6).cut (grid0.coords t) ((dats m hO 0 c).after 6 t) = _
    rw [after0_6]
    funext y
    exact (out6 m hO c t y).trans (congrArg (newD m c) (emb6 m hO t y).symm)
  · obtain ⟨t, y, h⟩ := tile z
    refine ⟨t, flush0_6 (adm m hO) t, ?_⟩
    rw [← h, ← emb6 m hO t y]
    exact View.emb_mem_set _ _

theorem emb7 (t : Fin grid0.N) (y : S176x1024.Idx) : (((cfgM m hO).win 7).blk t).view.emb y = place t.val (hR t) y :=
  place_of _ _ _ _ _ _ (words t).2.2.2.2.2.2.2.1.1 (words t).2.2.2.2.2.2.2.1.2 rfl rfl

theorem final7 : (dats m hO 0 c).arrAt 7 (cfgM m hO).N = newM m c := by
  refine (dats m hO 0 c).arrAt_eq_of_cover 7 _ (fun t _ => ?_) fun z => ?_
  · show ((cfgM m hO).win 7).cut (grid0.coords t) ((dats m hO 0 c).after 7 t) = _
    rw [after0_7]
    funext y
    exact (out7 m hO c t y).trans (congrArg (newM m c) (emb7 m hO t y).symm)
  · obtain ⟨t, y, h⟩ := tile z
    refine ⟨t, flush0_7 (adm m hO) t, ?_⟩
    rw [← h, ← emb7 m hO t y]
    exact View.emb_mem_set _ _

theorem emb8 (t : Fin grid0.N) (y : S176x1024.Idx) : (((cfgM m hO).win 8).blk t).view.emb y = place t.val (hR t) y :=
  place_of _ _ _ _ _ _ (words t).2.2.2.2.2.2.2.2.1 (words t).2.2.2.2.2.2.2.2.2 rfl rfl

theorem final8 : (dats m hO 0 c).arrAt 8 (cfgM m hO).N = newV m c := by
  refine (dats m hO 0 c).arrAt_eq_of_cover 8 _ (fun t _ => ?_) fun z => ?_
  · show ((cfgM m hO).win 8).cut (grid0.coords t) ((dats m hO 0 c).after 8 t) = _
    rw [after0_8]
    funext y
    exact (out8 m hO c t y).trans (congrArg (newV m c) (emb8 m hO t y).symm)
  · obtain ⟨t, y, h⟩ := tile z
    refine ⟨t, flush0_8 (adm m hO) t, ?_⟩
    rw [← h, ← emb8 m hO t y]
    exact View.emb_mem_set _ _

/-- The kernel's run, each array named. -/
theorem run (ρ : Dev nD → PrngReg) : θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = newD m c
      ∧ r.2.mem ((c : Thread nD τ).loc main_v0_2) = newM m c
      ∧ r.2.mem ((c : Thread nD τ).loc main_v0_3) = newV m c :=
  (θ_run defs _ _).mono (fun _ h c => ⟨((h c).1 5).trans (final5 m trivial c), ((h c).1 6).trans (final6 m trivial c),
    ((h c).1 7).trans (final7 m trivial c), ((h c).1 8).trans (final8 m trivial c)⟩) (run_main m ρ trivial)

/-- The reference runs and leaves its arguments. -/
theorem frameRef : Cert.quiescent_Reference7Ideal := fun m ρ _ =>
  (θ_run Cert.Reference7Ideal.defs _ _).mono (fun r h => And.intro (fun c => (h c).2.2.2.2)
      (Idealize.ShloMosaic.sem_eq_zero_of_no_sems (by decide) r.2))
    (Cert.Reference7Ideal.Value.run (F := Ideal) m ρ)

/-- Both programs leave the gradient, the step, and the two moments. -/
theorem algebraic : Cert.algebraic_Kernel7Ideal_Reference7Ideal := by
  intro m g m' g' _ ha
  refine ⟨fun c => grad m c, fun c => newD m c, fun c => newM m c, fun c => newV m c,
    (θ_run Cert.Kernel7Ideal.defs _ _).mono (fun _ h c => ?_) (θ_run_and (run m g) (unchanged m g trivial)),
    (θ_run Cert.Reference7Ideal.defs _ _).mono (fun _ h c => ?_) (Cert.Reference7Ideal.Value.run (F := Ideal) m' g')⟩
  · obtain ⟨h0, h1, h2, h3⟩ := h.1 c
    exact ⟨h0, h1, h2, h3, h.2 c⟩
  · obtain ⟨h0, h1, h2, h3, rest⟩ := h c
    obtain ⟨e0, e1, e2, e3, e4, e5⟩ := ha c
    refine ⟨(h0.trans (Cert.Reference7Ideal.Read.val_main_v6_eq _ _ _)).trans ?_,
      (h1.trans (Cert.Reference7Ideal.Read.val_main_v30_eq _ _ _ _ _ _)).trans ?_,
      (h2.trans (Cert.Reference7Ideal.Read.val_main_v11_eq _ _ _ _)).trans ?_,
      (h3.trans (Cert.Reference7Ideal.Read.val_main_v17_eq _ _ _ _)).trans ?_, rest⟩
    · rw [e0, e2, e3]
      exact arrG _ _ _
    · rw [e0, e1, e2, e3, e4, e5]
      exact arrD _ _ _ _ _ _
    · rw [e0, e2, e3, e4]
      exact arrM _ _ _ _
    · rw [e0, e2, e3, e5]
      exact arrV _ _ _ _

end Cert.Adam.WDown

end
-- ==== Proof.Small.lean ====
/- The step on the small parameters: their packed gradients are summed over the eight devices, put in the parameters' order, and
   the optimiser's step is taken on the packed rows. -/
module

public import proofs.«01_k».proof.Defs
public import proofs.«01_k».proof.Proof.Adam
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.IdealHost
public import Idealize.ShloMosaic.Lib.WritesUnit
public import Idealize.ShloMosaic.Lib.Pipeline.Value
public import Idealize.ShloMosaic.Adequacy
public import Idealize.ShloMosaic.Init

@[expose] public section

set_option maxRecDepth 16384

noncomputable section

namespace Cert.Adam.Small

open Idealize.ShloMosaic Idealize.ShloMosaic.TcCoe Idealize.SL.Sem Idealize.ShloMosaic.Tactic
open Cert.Kernel8Ideal Cert.Kernel8Ideal.Gen

/-! ## The mathematics -/

/-- The devices' packed gradients summed. -/
def tots (x0 : S8x664x128.Idx → EReal) : Post.Arr 664 128 := fun z => ∑ d : Fin 8, x0 (ix3 d (z 0) (z 1))

/-- Four blocks of rows, one under the other. -/
def packed (a : Post.Arr 48 128) (b : Post.Arr 536 128) (d : Post.Arr 8 128) (e : Post.Arr 16 128) (i : Fin 608) (j : Fin 128) : EReal :=
  if h : i.val < 48 then a (ix2 ⟨i.val, h⟩ j)
  else if h : i.val - 48 < 536 then b (ix2 ⟨i.val - 48, h⟩ j)
  else if h : i.val - 48 - 536 < 8 then d (ix2 ⟨i.val - 48 - 536, h⟩ j)
  else e (ix2 ⟨i.val - 48 - 536 - 8, by omega⟩ j)

/-- The modulation's bias: the tokens' part and the context's. -/
def bias (t : Post.Arr 664 128) : Post.Arr 48 128 := fun z =>
  t (ix2 ⟨48 + (z 0).val, by have : (z 0).val < 48 := (z 0).isLt; omega⟩ (z 1))
    + t (ix2 ⟨(z 0).val, by have : (z 0).val < 48 := (z 0).isLt; omega⟩ (z 1))

/-- The rows that need nothing more. -/
def first (t : Post.Arr 664 128) : Post.Arr 536 128 := fun z =>
  t (ix2 ⟨96 + (z 0).val, by have : (z 0).val < 536 := (z 0).isLt; omega⟩ (z 1))

/-- The decays' parameters: a row's sum, times the derivative of the logarithm of the sigmoid. -/
def decays (t : Post.Arr 664 128) (w : Post.Arr 608 128) : Post.Arr 8 128 := fun z =>
  (∑ k : Fin 128, t (ix2 ⟨632 + (z 0).val, by have : (z 0).val < 8 := (z 0).isLt; omega⟩ k))
    * Ideal.logistic (-w (ix2 ⟨584 + (z 0).val, by have : (z 0).val < 8 := (z 0).isLt; omega⟩ (z 1)))

/-- The last rows. -/
def last (t : Post.Arr 664 128) : Post.Arr 16 128 := fun z =>
  t (ix2 ⟨640 + (z 0).val, by have : (z 0).val < 16 := (z 0).isLt; omega⟩ (z 1))

/-- The packed gradient. -/
def grads (x0 : S8x664x128.Idx → EReal) (x1 : Post.Arr 608 128) : Post.Arr 608 128 := fun z =>
  packed (bias (tots x0)) (first (tots x0)) (decays (tots x0) x1) (last (tots x0)) (z 0) (z 1)

/-- The summed squared error, in every place. -/
def errs (x0 : S8x664x128.Idx → EReal) : Post.Arr 8 128 := fun _ =>
  ∑ r : Fin 8, ∑ k : Fin 128, tots x0 (ix2 ⟨656 + r.val, by omega⟩ k)

/-! ## The reference -/

section
open Cert.Reference8Ideal.Read

variable (x0 : S8x664x128.Idx → EReal) (x1 x2 x3 : S608x128.Idx → EReal) (i : Fin 608) (j : Fin 128)

theorem refG : (val_main_v20 (F := Ideal) x0 x1 (ix2 i j) : EReal) = grads x0 x1 (ix2 i j) := by
  unfold val_main_v20 val_main_v19 val_main_v18 val_main_v17 val_main_v16 val_main_v15 val_main_v14 val_main_v13 val_main_v12
    val_main_v11 val_main_v10 val_main_v9 val_main_v8 val_main_v7 val_main_v5 val_main_v4 val_main_v3 val_main_v2 val_main_v1
    val_main_v0 val_main_cst_2 val_main_cst_1 val_main_cst_0 val_main_cst
  pointwise
  rfl

theorem refM : (val_main_v25 (F := Ideal) x0 x1 x2 (ix2 i j) : EReal)
    = mom1 (val_main_v20 (F := Ideal) x0 x1 (ix2 i j)) (x2 (ix2 i j)) := by
  unfold val_main_v25 val_main_v24 val_main_v23 val_main_v22 val_main_v21 val_main_cst_4 val_main_cst_3
  pointwise
  rfl

theorem refV : (val_main_v31 (F := Ideal) x0 x1 x3 (ix2 i j) : EReal)
    = mom2 (val_main_v20 (F := Ideal) x0 x1 (ix2 i j)) (x3 (ix2 i j)) := by
  unfold val_main_v31 val_main_v30 val_main_v29 val_main_v28 val_main_v27 val_main_v26 val_main_cst_6 val_main_cst_5
  pointwise
  rfl

theorem refD : (val_main_v44 (F := Ideal) x0 x1 x2 x3 (ix2 i j) : EReal)
    = delta (x1 (ix2 i j)) (val_main_v20 (F := Ideal) x0 x1 (ix2 i j)) (x2 (ix2 i j)) (x3 (ix2 i j)) := by
  unfold val_main_v44 val_main_v43 val_main_v42 val_main_v41 val_main_v40 val_main_v39 val_main_v38 val_main_v37 val_main_v36
    val_main_v35 val_main_v34 val_main_v33 val_main_v32 val_main_cst_11 val_main_cst_10 val_main_cst_9 val_main_cst_8 val_main_cst_7
  pointwise
  rw [refM, refV]
  rfl

theorem refL (i : Fin 8) : (val_main_v46 (F := Ideal) x0 (ix2 i j) : EReal) = errs x0 (ix2 i j) := by
  unfold val_main_v46 val_main_v45 val_main_v6 val_main_v0 val_main_cst_12 val_main_cst
  pointwise
  rfl

theorem arrG : val_main_v20 (F := Ideal) x0 x1 = grads x0 x1 := by
  funext z
  rw [eq_ix2 z]
  exact refG x0 x1 _ _

theorem arrM : val_main_v25 (F := Ideal) x0 x1 x2 = fun z => mom1 (grads x0 x1 z) (x2 z) := by
  funext z
  rw [eq_ix2 z, ← arrG]
  exact refM x0 x1 x2 _ _

theorem arrV : val_main_v31 (F := Ideal) x0 x1 x3 = fun z => mom2 (grads x0 x1 z) (x3 z) := by
  funext z
  rw [eq_ix2 z, ← arrG]
  exact refV x0 x1 x3 _ _

theorem arrD : val_main_v44 (F := Ideal) x0 x1 x2 x3 = fun z => delta (x1 z) (grads x0 x1 z) (x2 z) (x3 z) := by
  funext z
  rw [eq_ix2 z, ← arrG]
  exact refD x0 x1 x2 x3 _ _

theorem arrL : val_main_v46 (F := Ideal) x0 = errs x0 := by
  funext z
  rw [eq_ix2 z]
  exact refL x0 _ _

end

/-! ## The body's loads and payloads -/

theorem hz : (![0, 0] : Fin 2 → ℕ) = fun _ => 0 := funext fun a => by fin_cases a <;> rfl

section

variable (x0 : Vec Ideal S8x664x128 .f32) (x1 x2 x3 : Vec Ideal S608x128 .f32)

/-- Device 0's packed gradients, as the body reads them. -/
abbrev l0 : Vec Ideal S1x664x128 .f32 := View.ld x0 (Rect.unit ![0, 0, 0] ![1, 664, 128] inb_S8x664x128_S1x664x128_0_0_0)

/-- Device 1's packed gradients, as the body reads them. -/
abbrev l1 : Vec Ideal S1x664x128 .f32 := View.ld x0 (Rect.unit ![1, 0, 0] ![1, 664, 128] inb_S8x664x128_S1x664x128_1_0_0)

/-- Device 2's packed gradients, as the body reads them. -/
abbrev l2 : Vec Ideal S1x664x128 .f32 := View.ld x0 (Rect.unit ![2, 0, 0] ![1, 664, 128] inb_S8x664x128_S1x664x128_2_0_0)

/-- Device 3's packed gradients, as the body reads them. -/
abbrev l3 : Vec Ideal S1x664x128 .f32 := View.ld x0 (Rect.unit ![3, 0, 0] ![1, 664, 128] inb_S8x664x128_S1x664x128_3_0_0)

/-- Device 4's packed gradients, as the body reads them. -/
abbrev l4 : Vec Ideal S1x664x128 .f32 := View.ld x0 (Rect.unit ![4, 0, 0] ![1, 664, 128] inb_S8x664x128_S1x664x128_4_0_0)

/-- Device 5's packed gradients, as the body reads them. -/
abbrev l5 : Vec Ideal S1x664x128 .f32 := View.ld x0 (Rect.unit ![5, 0, 0] ![1, 664, 128] inb_S8x664x128_S1x664x128_5_0_0)

/-- Device 6's packed gradients, as the body reads them. -/
abbrev l6 : Vec Ideal S1x664x128 .f32 := View.ld x0 (Rect.unit ![6, 0, 0] ![1, 664, 128] inb_S8x664x128_S1x664x128_6_0_0)

/-- Device 7's packed gradients, as the body reads them. -/
abbrev l7 : Vec Ideal S1x664x128 .f32 := View.ld x0 (Rect.unit ![7, 0, 0] ![1, 664, 128] inb_S8x664x128_S1x664x128_7_0_0)

/-- The decays' parameters, as the body reads them. -/
abbrev lw : Vec Ideal S8x128 .f32 := View.ld x1 (Rect.unit ![584, 0] ![8, 128] inb_S608x128_S8x128_584_0)

theorem pay3 (v0 v1 v2 v3 v4 v5 v6 v7 : Vec Ideal S1x664x128 .f32) (i : Fin 664) (j : Fin 128) :
    (k0_pay3 (F := Ideal) v0 v1 v2 v3 v4 v5 v6 v7 (ix2 i j) : EReal)
      = v0 (ix3 0 i j) + v1 (ix3 0 i j) + v2 (ix3 0 i j) + v3 (ix3 0 i j) + v4 (ix3 0 i j) + v5 (ix3 0 i j) + v6 (ix3 0 i j)
        + v7 (ix3 0 i j) := by
  unfold k0_pay3
  pointwise

theorem summed : k0_pay3 (F := Ideal) (l0 x0) (l1 x0) (l2 x0) (l3 x0) (l4 x0) (l5 x0) (l6 x0) (l7 x0) = tots x0 := by
  funext z
  rw [eq_ix2 z]
  refine (pay3 _ _ _ _ _ _ _ _ _ _).trans ?_
  have e : ∀ (d : Fin 8) (y : S8x664x128.Idx), (y 0).val = d.val → (y 1).val = 0 + 1 * (z 0).val → (y 2).val = 0 + 1 * (z 1).val →
      (x0 y : EReal) = x0 (ix3 d (z 0) (z 1)) := fun d y h0 h1 h2 =>
    congrArg x0 (funext fun a => Fin.ext (by
      match a with
      | ⟨0, _⟩ => exact h0
      | ⟨1, _⟩ => exact h1.trans (by show 0 + 1 * (z 0).val = (z 0).val; omega)
      | ⟨2, _⟩ => exact h2.trans (by show 0 + 1 * (z 1).val = (z 1).val; omega)))
  refine Eq.trans ?_ (Fin.sum_univ_eight fun d : Fin 8 => (x0 (ix3 d (z 0) (z 1)) : EReal)).symm
  exact congrArg₂ (· + ·) (congrArg₂ (· + ·) (congrArg₂ (· + ·) (congrArg₂ (· + ·) (congrArg₂ (· + ·)
    (congrArg₂ (· + ·) (congrArg₂ (· + ·) (e 0 _ rfl rfl rfl) (e 1 _ rfl rfl rfl)) (e 2 _ rfl rfl rfl)) (e 3 _ rfl rfl rfl))
    (e 4 _ rfl rfl rfl)) (e 5 _ rfl rfl rfl)) (e 6 _ rfl rfl rfl)) (e 7 _ rfl rfl rfl)

theorem pay4 : k0_pay4 (F := Ideal) (l0 x0) (l1 x0) (l2 x0) (l3 x0) (l4 x0) (l5 x0) (l6 x0) (l7 x0) = bias (tots x0) := by
  funext z
  rw [eq_ix2 z]
  unfold k0_pay4
  rw [summed]
  pointwise
  rfl

theorem pay5 : k0_pay5 (F := Ideal) (l0 x0) (l1 x0) (l2 x0) (l3 x0) (l4 x0) (l5 x0) (l6 x0) (l7 x0) = first (tots x0) := by
  funext z
  rw [eq_ix2 z]
  unfold k0_pay5
  rw [summed]
  pointwise
  rfl

theorem pay7_at (i : Fin 8) (j : Fin 128) :
    (k0_pay7 (F := Ideal) (k0_pay6 (F := Ideal) (l0 x0) (l1 x0) (l2 x0) (l3 x0) (l4 x0) (l5 x0) (l6 x0) (l7 x0)) (lw x1) (ix2 i j) : EReal) = decays (tots x0) x1 (ix2 i j) := by
  have e : (lw x1 (ix2 i j) : EReal) = x1 (ix2 ⟨584 + i.val, by omega⟩ j) :=
    congrArg x1 (funext fun a => Fin.ext (by
      match a with
      | ⟨0, _⟩ => show 584 + 1 * i.val = 584 + i.val; omega
      | ⟨1, _⟩ => show 0 + 1 * j.val = j.val; omega))
  unfold k0_pay7 k0_pay6
  rw [summed]
  generalize lw x1 = u at e ⊢
  pointwise
  rw [e, sub_eq_add_neg, zero_add]
  rfl

theorem pay7 : k0_pay7 (F := Ideal) (k0_pay6 (F := Ideal) (l0 x0) (l1 x0) (l2 x0) (l3 x0) (l4 x0) (l5 x0) (l6 x0) (l7 x0)) (lw x1) = decays (tots x0) x1 := by
  funext z
  rw [eq_ix2 z]
  exact pay7_at x0 x1 _ _

theorem pay8 : k0_pay8 (F := Ideal) (k0_pay3 (F := Ideal) (l0 x0) (l1 x0) (l2 x0) (l3 x0) (l4 x0) (l5 x0) (l6 x0) (l7 x0)) = last (tots x0) := by
  funext z
  rw [eq_ix2 z]
  unfold k0_pay8
  rw [summed]
  pointwise
  rfl

theorem pay2 : k0_pay2 (F := Ideal) (k0_pay3 (F := Ideal) (l0 x0) (l1 x0) (l2 x0) (l3 x0) (l4 x0) (l5 x0) (l6 x0) (l7 x0)) = errs x0 := by
  funext z
  rw [eq_ix2 z]
  unfold k0_pay2
  rw [summed]
  pointwise
  rfl

theorem moment1 (g : Vec Ideal S608x128 .f32) : k0_pay10 (F := Ideal) g x2 = fun z => mom1 (g z) (x2 z) := by
  funext z
  rw [eq_ix2 z]
  unfold k0_pay10 k0_pay9
  pointwise
  rfl

theorem moment2 (g : Vec Ideal S608x128 .f32) : k0_pay11 (F := Ideal) g x3 = fun z => mom2 (g z) (x3 z) := by
  funext z
  rw [eq_ix2 z]
  unfold k0_pay11 k0_pay9
  pointwise
  rfl

theorem step (g : Vec Ideal S608x128 .f32) :
    k0_pay1 (F := Ideal) x1 (k0_pay12 (F := Ideal) g x2 x3) = fun z => delta (x1 z) (g z) (x2 z) (x3 z) := by
  funext z
  rw [eq_ix2 z]
  unfold k0_pay1 k0_pay12
  rw [moment1, moment2]
  pointwise
  rfl

end

/-! ## The gradients' buffer -/

section

variable {sg : RefSig} {κ : Kind} {sp : Space} (v : View sg κ sp S608x128 .f32) (f : v.ty.Contents (Elt Ideal))
  (a : Post.Arr 48 128) (b : Post.Arr 536 128) (d : Post.Arr 8 128) (e : Post.Arr 16 128)

/-- The four stores. -/
abbrev four : List (View.Piece (Elt Ideal) S608x128 .f32) :=
  [⟨Rect.unit ![592, 0] ![16, 128] inb_S608x128_S16x128_592_0, e⟩, ⟨Rect.unit ![584, 0] ![8, 128] inb_S608x128_S8x128_584_0, d⟩,
    ⟨Rect.unit ![48, 0] ![536, 128] inb_S608x128_S536x128_48_0, b⟩, ⟨Rect.unit ![0, 0] ![48, 128] inb_S608x128_S48x128_0_0, a⟩]

/-- The four stores, read back. -/
theorem read_four (i : Fin 608) (j : Fin 128) :
    (v.read (Elt Ideal) (v.writes (Elt Ideal) f (four a b d e)) (ix2 i j) : EReal) = packed a b d e i j := by
  have hi := i.isLt
  unfold packed
  by_cases h4 : 592 ≤ i.val
  · rw [dif_neg (by omega), dif_neg (by omega), dif_neg (by omega)]
    refine View.read_writes_cons_unit_of_mem v f (off' := ![592, 0]) _ _ _ (ix2 i j) (ix2 ⟨i.val - 48 - 536 - 8, by omega⟩ j) rfl fun x => ?_
    match x with
    | ⟨0, _⟩ => show i.val = 592 + (i.val - 48 - 536 - 8); omega
    | ⟨1, _⟩ => show j.val = 0 + j.val; omega
  refine (View.read_writes_cons_unit_of_not_mem v f (off' := ![592, 0]) _ _ _ (ix2 i j) rfl ⟨0, by show 0 < 2; decide⟩
    (Or.inl (by show i.val < 592; omega))).trans ?_
  by_cases h3 : 584 ≤ i.val
  · rw [dif_neg (by omega), dif_neg (by omega), dif_pos (by omega)]
    refine View.read_writes_cons_unit_of_mem v f (off' := ![584, 0]) _ _ _ (ix2 i j) (ix2 ⟨i.val - 48 - 536, by omega⟩ j) rfl fun x => ?_
    match x with
    | ⟨0, _⟩ => show i.val = 584 + (i.val - 48 - 536); omega
    | ⟨1, _⟩ => show j.val = 0 + j.val; omega
  refine (View.read_writes_cons_unit_of_not_mem v f (off' := ![584, 0]) _ _ _ (ix2 i j) rfl ⟨0, by show 0 < 2; decide⟩
    (Or.inl (by show i.val < 584; omega))).trans ?_
  by_cases h2 : 48 ≤ i.val
  · rw [dif_neg (by omega), dif_pos (by omega)]
    refine View.read_writes_cons_unit_of_mem v f (off' := ![48, 0]) _ _ _ (ix2 i j) (ix2 ⟨i.val - 48, by omega⟩ j) rfl fun x => ?_
    match x with
    | ⟨0, _⟩ => show i.val = 48 + (i.val - 48); omega
    | ⟨1, _⟩ => show j.val = 0 + j.val; omega
  refine (View.read_writes_cons_unit_of_not_mem v f (off' := ![48, 0]) _ _ _ (ix2 i j) rfl ⟨0, by show 0 < 2; decide⟩
    (Or.inl (by show i.val < 48; omega))).trans ?_
  rw [dif_pos (by omega)]
  refine View.read_writes_cons_unit_of_mem v f (off' := ![0, 0]) _ _ _ (ix2 i j) (ix2 ⟨i.val, by omega⟩ j) rfl fun x => ?_
  match x with
  | ⟨0, _⟩ => show i.val = 0 + i.val; omega
  | ⟨1, _⟩ => show j.val = 0 + j.val; omega

/-- The same, as an array. -/
theorem read_all : v.read (Elt Ideal) (v.writes (Elt Ideal) f (four a b d e)) = fun z => packed a b d e (z 0) (z 1) := by
  funext z
  rw [eq_ix2 z]
  exact read_four v f a b d e _ _

/-- The same, as the body reads it back. -/
theorem read_back : v.readCov (four a b d e) (Rect.unit (s := S608x128) ![0, 0] ![608, 128] inb_S608x128_S608x128_0_0).toLoadRect
    = fun z => packed a b d e (z 0) (z 1) := by
  unfold View.readCov
  refine (View.readAt_eq_ld v _ _).trans ?_
  rw [View.ld_unit_zero (S := S608x128) hz]
  exact read_all v _ a b d e

end

/-! ## The body's stores -/

section

variable (c : Dev nD)
  (arg0 : Memref sig .tc .vmem S8x664x128 .f32) (harg0 : arg0.IsWhole)
  (arg1 : Memref sig .tc .vmem S608x128 .f32) (harg1 : arg1.IsWhole)
  (arg2 : Memref sig .tc .vmem S608x128 .f32) (harg2 : arg2.IsWhole)
  (arg3 : Memref sig .tc .vmem S608x128 .f32) (harg3 : arg3.IsWhole)
  (arg4 : Memref sig .tc .vmem S608x128 .f32) (harg4 : arg4.IsWhole)
  (arg5 : Memref sig .tc .vmem S608x128 .f32) (harg5 : arg5.IsWhole)
  (arg6 : Memref sig .tc .vmem S608x128 .f32) (harg6 : arg6.IsWhole)
  (arg7 : Memref sig .tc .vmem S608x128 .f32) (harg7 : arg7.IsWhole)
  (arg8 : Memref sig .tc .vmem S8x128 .f32) (harg8 : arg8.IsWhole)
  (x0 : Vec Ideal S8x664x128 .f32) (x1 x2 x3 : Vec Ideal S608x128 .f32)

theorem store4 : out0_A_4 c arg0 harg0 arg1 harg1 arg2 harg2 arg3 harg3 arg4 harg4 arg5 harg5 arg6 harg6 arg7 harg7 arg8 harg8 x0 x1 x2 x3 = grads x0 x1 := by
  unfold out0_A_4 kernelRun0_A
  dsimp only
  sl_unfold_words
  simp only [View.readAt_eq_ld, harg0.read_unread, harg1.read_unread, harg2.read_unread, harg3.read_unread]
  refine (read_all _ _ _ _ _ _).trans ?_
  rw [pay4, pay5, pay7, pay8]
  rfl

theorem store5 : out0_A_5 c arg0 harg0 arg1 harg1 arg2 harg2 arg3 harg3 arg4 harg4 arg5 harg5 arg6 harg6 arg7 harg7 arg8 harg8 x0 x1 x2 x3 = fun z => delta (x1 z) (grads x0 x1 z) (x2 z) (x3 z) := by
  unfold out0_A_5 kernelRun0_A
  dsimp only
  sl_unfold_words
  simp only [View.readAt_eq_ld, harg0.read_unread, harg1.read_unread, harg2.read_unread, harg3.read_unread]
  refine (read_store _ _ _ _).trans ?_
  rw [pay4, pay5, pay7, pay8, read_back]
  simp only [View.ld_unit_zero (S := S608x128) hz]
  exact step _ _ _ _

theorem store6 : out0_A_6 c arg0 harg0 arg1 harg1 arg2 harg2 arg3 harg3 arg4 harg4 arg5 harg5 arg6 harg6 arg7 harg7 arg8 harg8 x0 x1 x2 x3 = fun z => mom1 (grads x0 x1 z) (x2 z) := by
  unfold out0_A_6 kernelRun0_A
  dsimp only
  sl_unfold_words
  simp only [View.readAt_eq_ld, harg0.read_unread, harg1.read_unread, harg2.read_unread, harg3.read_unread]
  refine (read_store _ _ _ _).trans ?_
  rw [pay4, pay5, pay7, pay8, read_back]
  simp only [View.ld_unit_zero (S := S608x128) hz]
  exact moment1 _ _

theorem store7 : out0_A_7 c arg0 harg0 arg1 harg1 arg2 harg2 arg3 harg3 arg4 harg4 arg5 harg5 arg6 harg6 arg7 harg7 arg8 harg8 x0 x1 x2 x3 = fun z => mom2 (grads x0 x1 z) (x3 z) := by
  unfold out0_A_7 kernelRun0_A
  dsimp only
  sl_unfold_words
  simp only [View.readAt_eq_ld, harg0.read_unread, harg1.read_unread, harg2.read_unread, harg3.read_unread]
  refine (read_store _ _ _ _).trans ?_
  rw [pay4, pay5, pay7, pay8, read_back]
  simp only [View.ld_unit_zero (S := S608x128) hz]
  exact moment2 _ _

theorem store8 : out0_A_8 c arg0 harg0 arg1 harg1 arg2 harg2 arg3 harg3 arg4 harg4 arg5 harg5 arg6 harg6 arg7 harg7 arg8 harg8 x0 x1 x2 x3 = errs x0 := by
  unfold out0_A_8 kernelRun0_A
  dsimp only
  sl_unfold_words
  simp only [View.readAt_eq_ld, harg0.read_unread, harg1.read_unread, harg2.read_unread, harg3.read_unread]
  refine (read_store _ _ _ _).trans ?_
  exact pay2 x0

end

section

variable (c : Dev nD)
  (arg0 : Memref sig .tc .vmem S8x664x128 .f32) (harg0 : arg0.IsWhole)
  (arg1 : Memref sig .tc .vmem S608x128 .f32) (harg1 : arg1.IsWhole)
  (arg2 : Memref sig .tc .vmem S608x128 .f32) (harg2 : arg2.IsWhole)
  (arg3 : Memref sig .tc .vmem S608x128 .f32) (harg3 : arg3.IsWhole)
  (arg4 : Memref sig .tc .vmem S608x128 .f32) (harg4 : arg4.IsWhole)
  (arg5 : Memref sig .tc .vmem S608x128 .f32) (harg5 : arg5.IsWhole)
  (arg6 : Memref sig .tc .vmem S608x128 .f32) (harg6 : arg6.IsWhole)
  (arg7 : Memref sig .tc .vmem S608x128 .f32) (harg7 : arg7.IsWhole)
  (arg8 : Memref sig .tc .vmem S8x128 .f32) (harg8 : arg8.IsWhole)
  (x0 : Vec Ideal S8x664x128 .f32) (x1 x2 x3 : Vec Ideal S608x128 .f32)

theorem stores : (out0_A_4 c arg0 harg0 arg1 harg1 arg2 harg2 arg3 harg3 arg4 harg4 arg5 harg5 arg6 harg6 arg7 harg7 arg8 harg8 x0 x1 x2 x3, out0_A_5 c arg0 harg0 arg1 harg1 arg2 harg2 arg3 harg3 arg4 harg4 arg5 harg5 arg6 harg6 arg7 harg7 arg8 harg8 x0 x1 x2 x3,
      out0_A_6 c arg0 harg0 arg1 harg1 arg2 harg2 arg3 harg3 arg4 harg4 arg5 harg5 arg6 harg6 arg7 harg7 arg8 harg8 x0 x1 x2 x3, out0_A_7 c arg0 harg0 arg1 harg1 arg2 harg2 arg3 harg3 arg4 harg4 arg5 harg5 arg6 harg6 arg7 harg7 arg8 harg8 x0 x1 x2 x3,
      out0_A_8 c arg0 harg0 arg1 harg1 arg2 harg2 arg3 harg3 arg4 harg4 arg5 harg5 arg6 harg6 arg7 harg7 arg8 harg8 x0 x1 x2 x3)
    = ((grads x0 x1, fun z => delta (x1 z) (grads x0 x1 z) (x2 z) (x3 z), fun z => mom1 (grads x0 x1 z) (x2 z),
        fun z => mom2 (grads x0 x1 z) (x3 z), errs x0) :
        Vec Ideal S608x128 .f32 × Vec Ideal S608x128 .f32 × Vec Ideal S608x128 .f32 × Vec Ideal S608x128 .f32 × Vec Ideal S8x128 .f32) := by
  rw [store4, store5, store6, store7, store8]

end

variable (m : (ℓ : Loc nD τ sig) → Buf (Elt Ideal) ℓ) (c : Dev nD)

/-- The gathered gradients as launched. -/
abbrev Gs : S8x664x128.Idx → EReal := m ((c : Thread nD τ).loc main_arg0)

/-- The packed weights as launched. -/
abbrev W : Post.Arr 608 128 := m ((c : Thread nD τ).loc main_arg1)

/-- The first moment as launched. -/
abbrev M1 : Post.Arr 608 128 := m ((c : Thread nD τ).loc main_arg2)

/-- The second moment as launched. -/
abbrev M2 : Post.Arr 608 128 := m ((c : Thread nD τ).loc main_arg3)

/-- The gradient. -/
def grad : Post.Arr 608 128 := grads (Gs m c) (W m c)

/-- The change of the weights. -/
def newD : Post.Arr 608 128 := fun z => delta (W m c z) (grad m c z) (M1 m c z) (M2 m c z)

/-- The new first moment. -/
def newM : Post.Arr 608 128 := fun z => mom1 (grad m c z) (M1 m c z)

/-- The new second moment. -/
def newV : Post.Arr 608 128 := fun z => mom2 (grad m c z) (M2 m c z)

/-- The loss's rows. -/
def loss : Post.Arr 8 128 := errs (Gs m c)

theorem words : ∀ t : Fin grid0.N, (win0_0.index t 0 = 0 ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := by
  decide +kernel

/-- An index whose coordinates are another's, offset by nothing. -/
theorem same {a b p q : ℕ} (z y : Shape.Idx ⟨2, ![a, b]⟩) (hp : p = 0) (hq : q = 0) (h0 : (z 0).val = p * a + 1 * (y 0).val)
    (h1 : (z 1).val = q * b + 1 * (y 1).val) : z = y := by
  subst hp hq
  funext x
  refine Fin.ext ?_
  match x with
  | ⟨0, _⟩ => show (z 0).val = (y 0).val; omega
  | ⟨1, _⟩ => show (z 1).val = (y 1).val; omega

theorem iblk0 (t : Fin cfg0.N) : iblk m c 0 t = Gs m c := by
  funext y
  unfold iblk
  show Gs m c (((cfg0.win 0).blk t).view.emb y) = _
  refine congrArg (Gs m c) (funext fun x => Fin.ext ?_)
  match x with
  | ⟨0, _⟩ => show win0_0.index t 0 * 8 + 1 * (y 0).val = (y 0).val; rw [(words t).1.1]; omega
  | ⟨1, _⟩ => show win0_0.index t 1 * 664 + 1 * (y 1).val = (y 1).val; rw [(words t).1.2.1]; omega
  | ⟨2, _⟩ => show win0_0.index t 2 * 128 + 1 * (y 2).val = (y 2).val; rw [(words t).1.2.2]; omega

theorem iblk1 (t : Fin cfg0.N) : iblk m c 1 t = W m c := by
  funext y
  unfold iblk
  show W m c (((cfg0.win 1).blk t).view.emb y) = _
  exact congrArg (W m c) (same _ _ (words t).2.1.1 (words t).2.1.2 rfl rfl)

theorem iblk2 (t : Fin cfg0.N) : iblk m c 2 t = M1 m c := by
  funext y
  unfold iblk
  show M1 m c (((cfg0.win 2).blk t).view.emb y) = _
  exact congrArg (M1 m c) (same _ _ (words t).2.2.1.1 (words t).2.2.1.2 rfl rfl)

theorem iblk3 (t : Fin cfg0.N) : iblk m c 3 t = M2 m c := by
  funext y
  unfold iblk
  show M2 m c (((cfg0.win 3).blk t).view.emb y) = _
  exact congrArg (M2 m c) (same _ _ (words t).2.2.2.1.1 (words t).2.2.2.1.2 rfl rfl)

/-- What the body leaves. -/
theorem outs (t : Fin cfg0.N) : outsAt0 m c t = (grad m c, newD m c, newM m c, newV m c, loss m c) := by
  refine (stores c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t)).trans ?_
  rw [iblk0, iblk1, iblk2, iblk3]
  rfl

/-- The one point. -/
def pt : Fin grid0.N := ⟨0, by decide⟩

theorem emb4 (t : Fin cfg0.N) (y : S608x128.Idx) : ((cfg0.win 4).blk t).view.emb y = y :=
  same _ _ (words t).2.2.2.2.1.1 (words t).2.2.2.2.1.2 rfl rfl

theorem final4 : (dats m 0 c).arrAt 4 cfg0.N = grad m c := by
  refine (dats m 0 c).arrAt_eq_of_cover 4 _ (fun t _ => ?_) fun z => ⟨pt, by decide +kernel, ?_⟩
  · show (cfg0.win 4).cut (grid0.coords t) ((dats m 0 c).after 4 t) = _
    rw [after0_4, outs]
    funext y
    exact congrArg (grad m c) (emb4 t y).symm
  · have h := View.emb_mem_set ((cfg0.win 4).blk pt).view z
    rwa [emb4] at h

theorem emb5 (t : Fin cfg0.N) (y : S608x128.Idx) : ((cfg0.win 5).blk t).view.emb y = y :=
  same _ _ (words t).2.2.2.2.2.1.1 (words t).2.2.2.2.2.1.2 rfl rfl

theorem final5 : (dats m 0 c).arrAt 5 cfg0.N = newD m c := by
  refine (dats m 0 c).arrAt_eq_of_cover 5 _ (fun t _ => ?_) fun z => ⟨pt, by decide +kernel, ?_⟩
  · show (cfg0.win 5).cut (grid0.coords t) ((dats m 0 c).after 5 t) = _
    rw [after0_5, outs]
    funext y
    exact congrArg (newD m c) (emb5 t y).symm
  · have h := View.emb_mem_set ((cfg0.win 5).blk pt).view z
    rwa [emb5] at h

theorem emb6 (t : Fin cfg0.N) (y : S608x128.Idx) : ((cfg0.win 6).blk t).view.emb y = y :=
  same _ _ (words t).2.2.2.2.2.2.1.1 (words t).2.2.2.2.2.2.1.2 rfl rfl

theorem final6 : (dats m 0 c).arrAt 6 cfg0.N = newM m c := by
  refine (dats m 0 c).arrAt_eq_of_cover 6 _ (fun t _ => ?_) fun z => ⟨pt, by decide +kernel, ?_⟩
  · show (cfg0.win 6).cut (grid0.coords t) ((dats m 0 c).after 6 t) = _
    rw [after0_6, outs]
    funext y
    exact congrArg (newM m c) (emb6 t y).symm
  · have h := View.emb_mem_set ((cfg0.win 6).blk pt).view z
    rwa [emb6] at h

theorem emb7 (t : Fin cfg0.N) (y : S608x128.Idx) : ((cfg0.win 7).blk t).view.emb y = y :=
  same _ _ (words t).2.2.2.2.2.2.2.1.1 (words t).2.2.2.2.2.2.2.1.2 rfl rfl

theorem final7 : (dats m 0 c).arrAt 7 cfg0.N = newV m c := by
  refine (dats m 0 c).arrAt_eq_of_cover 7 _ (fun t _ => ?_) fun z => ⟨pt, by decide +kernel, ?_⟩
  · show (cfg0.win 7).cut (grid0.coords t) ((dats m 0 c).after 7 t) = _
    rw [after0_7, outs]
    funext y
    exact congrArg (newV m c) (emb7 t y).symm
  · have h := View.emb_mem_set ((cfg0.win 7).blk pt).view z
    rwa [emb7] at h

theorem emb8 (t : Fin cfg0.N) (y : S8x128.Idx) : ((cfg0.win 8).blk t).view.emb y = y :=
  same _ _ (words t).2.2.2.2.2.2.2.2.1 (words t).2.2.2.2.2.2.2.2.2 rfl rfl

theorem final8 : (dats m 0 c).arrAt 8 cfg0.N = loss m c := by
  refine (dats m 0 c).arrAt_eq_of_cover 8 _ (fun t _ => ?_) fun z => ⟨pt, by decide +kernel, ?_⟩
  · show (cfg0.win 8).cut (grid0.coords t) ((dats m 0 c).after 8 t) = _
    rw [after0_8, outs]
    funext y
    exact congrArg (loss m c) (emb8 t y).symm
  · have h := View.emb_mem_set ((cfg0.win 8).blk pt).view z
    rwa [emb8] at h

/-- The reference runs and leaves its arguments. -/
theorem frameRef : Cert.quiescent_Reference8Ideal := fun m ρ _ =>
  (θ_run Cert.Reference8Ideal.defs _ _).mono (fun r h => And.intro (fun c => (h c).2.2.2.2.2)
      (Idealize.ShloMosaic.sem_eq_zero_of_no_sems (by decide) r.2))
    (Cert.Reference8Ideal.Value.run (F := Ideal) m ρ)

/-- Both programs leave the gradient, the step, the two moments, and the loss's rows. -/
theorem algebraic : Cert.algebraic_Kernel8Ideal_Reference8Ideal := by
  intro m g m' g' _ ha
  refine ⟨fun c => grad m c, fun c => newD m c, fun c => newM m c, fun c => newV m c, fun c => loss m c,
    (θ_run Cert.Kernel8Ideal.defs _ _).mono (fun _ h c => ?_) (Cert.Kernel8Ideal.Value.run_blocks (F := Ideal) m g),
    (θ_run Cert.Reference8Ideal.defs _ _).mono (fun _ h c => ?_) (Cert.Reference8Ideal.Value.run (F := Ideal) m' g')⟩
  · obtain ⟨h0, h1, h2, h3, h4, rest⟩ := h c
    exact ⟨h0.trans (final4 m c), h1.trans (final5 m c), h2.trans (final6 m c), h3.trans (final7 m c), h4.trans (final8 m c), rest⟩
  · obtain ⟨h0, h1, h2, h3, h4, rest⟩ := h c
    obtain ⟨e0, e1, e2, e3⟩ := ha c
    refine ⟨(h0.trans (Cert.Reference8Ideal.Read.val_main_v20_eq _ _)).trans ?_,
      (h1.trans (Cert.Reference8Ideal.Read.val_main_v44_eq _ _)).trans ?_,
      (h2.trans (Cert.Reference8Ideal.Read.val_main_v25_eq _ _ _)).trans ?_,
      (h3.trans (Cert.Reference8Ideal.Read.val_main_v31_eq _ _ _)).trans ?_,
      (h4.trans (Cert.Reference8Ideal.Read.val_main_v46_eq _)).trans ?_, rest⟩
    · rw [e0, e1]
      exact arrG _ _
    · rw [e0, e1, e2, e3]
      exact arrD _ _ _ _
    · rw [e0, e1, e2]
      exact arrM _ _ _
    · rw [e0, e1, e3]
      exact arrV _ _ _
    · rw [e0]
      exact arrL _

end Cert.Adam.Small

end
-- ==== Proof.ModBwd.lean ====
/- The gradient of the modulation's weight and the cotangent of the shared modulation's input: the kernel pads the eight
   conditionings and their gradients by zeros to 128, the reference differentiates the plain product. -/
module

public import proofs.«01_k».proof.Defs
public import proofs.«01_k».proof.Proof.Adam
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Grad.Mod

open Idealize.ShloMosaic Idealize.ShloMosaic.TcCoe Idealize.SL.Sem Idealize.ShloMosaic.Tactic
open Cert.Kernel9Ideal Cert.Kernel9Ideal.Gen

/-! ## The mathematics -/

/-- `x` times its logistic. -/
def silu (x : EReal) : EReal := x * Ideal.div 1 (1 + Ideal.exp (-x))

theorem silu_eq (x : EReal) : x * Ideal.logistic x = silu x := rfl

/-- The eight rows summed. -/
def rows (d : Post.Arr 8 1536) (j : Fin 1536) : EReal := ∑ x : Fin 8, d (ix2 x j)

/-- The weight's gradient: the shared conditioning's part and the eight devices' parts. -/
def gradW (ct : Post.Arr 8 1024) (cc : Fin 1024 → EReal) (dm dc : Post.Arr 8 1536) : Post.Arr 1024 1536 := fun z =>
  rows dc (z 1) * silu (cc (z 0)) + ∑ x : Fin 8, dm (ix2 x (z 1)) * silu (ct (ix2 x (z 0)))

/-- The cotangent of the shared modulation's input, in every row. -/
def cot (dc : Post.Arr 8 1536) (w : Post.Arr 1024 1536) : Post.Arr 8 1024 := fun z => ∑ x : Fin 1536, rows dc x * w (ix2 (z 1) x)

/-- The eight rows added one after another. -/
theorem rows_chain (d : Post.Arr 8 1536) (j : Fin 1536) :
    d (ix2 0 j) + d (ix2 1 j) + d (ix2 2 j) + d (ix2 3 j) + d (ix2 4 j) + d (ix2 5 j) + d (ix2 6 j) + d (ix2 7 j) = rows d j := by
  unfold rows
  rw [Fin.sum_univ_eight]

/-- A sum over 128 of which all but the first eight terms vanish. -/
theorem sum_pad (f : Fin 128 → EReal) (g : Fin 8 → EReal) (h : ∀ x : Fin 8, f ⟨x.val, by omega⟩ = g x)
    (h' : ∀ x : Fin 128, 8 ≤ x.val → f x = 0) : ∑ x, f x = ∑ x, g x := by
  have e : ∑ x : Fin (8 + 120), f x = ∑ x, g x := by
    rw [Fin.sum_univ_add, Finset.sum_eq_zero (s := Finset.univ) (f := fun x : Fin 120 => f (Fin.natAdd 8 x))
      (fun x _ => h' _ (by show 8 ≤ 8 + x.val; omega)), add_zero]
    exact Finset.sum_congr rfl fun x _ => h x
  exact e

/-! ## The reference -/

section
open Cert.Reference9Ideal.Read

variable (x0 : S8x1024.Idx → EReal) (x1 : S1024.Idx → EReal) (x2 x3 : S8x1536.Idx → EReal) (x4 : S1024x1536.Idx → EReal)

theorem refG (i : Fin 1024) (j : Fin 1536) :
    (val_main_v13 (F := Ideal) x0 x1 x2 x3 (ix2 i j) : EReal) = gradW x0 (fun i => x1 (ix1 i)) x2 x3 (ix2 i j) := by
  unfold val_main_v13 val_main_v12 val_main_v11 val_main_v9 val_main_v8 val_main_v7 val_main_v6 val_main_v2 val_main_v1
    val_main_v0 val_main_call1_v5 val_main_call1_v4 val_main_call1_v3 val_main_call1_v2 val_main_call1_v1 val_main_call1_v0
    val_main_call0_v5 val_main_call0_v4 val_main_call0_v3 val_main_call0_v2 val_main_call0_v1 val_main_call0_v0 val_main_cst
    val_main_call0_cst val_main_call0_cst_0 val_main_call1_cst val_main_call1_cst_0
  pointwise
  rw [Fin.sum_univ_one]
  rfl

theorem refC (i : Fin 8) (j : Fin 1024) : (val_main_v14 (F := Ideal) x3 x4 (ix2 i j) : EReal) = cot x3 x4 (ix2 i j) := by
  unfold val_main_v14 val_main_v10 val_main_v7 val_main_v6 val_main_cst
  pointwise
  rfl

theorem eq_ix2' {a b : ℕ} (z : Shape.Idx ⟨2, ![a, b]⟩) : z = ix2 (z 0) (z 1) := by
  funext x
  match x with
  | ⟨0, _⟩ => rfl
  | ⟨1, _⟩ => rfl

theorem arrG : val_main_v13 (F := Ideal) x0 x1 x2 x3 = gradW x0 (fun i => x1 (ix1 i)) x2 x3 := by
  funext z
  rw [eq_ix2' z]
  exact refG x0 x1 x2 x3 _ _

theorem arrC : val_main_v14 (F := Ideal) x3 x4 = cot x3 x4 := by
  funext z
  rw [eq_ix2' z]
  exact refC x3 x4 _ _

end

/-! ## The body -/

theorem hz : (![0, 0] : Fin 2 → ℕ) = fun _ => 0 := funext fun a => by fin_cases a <;> rfl

theorem pay3 (v0 v1 v3 v5 v7 v9 v11 v13 : Vec Ideal S1x1536 .f32) (v15 : Vec Ideal S1024x128 .f32) (v19 : Vec Ideal S128x1536 .f32)
    (v22 : Vec Ideal S1024x1 .f32) (i : Fin 1024) (j : Fin 1536) :
    (k0_pay3 (F := Ideal) v0 v1 v3 v5 v7 v9 v11 v13 v15 v19 v22 (ix2 i j) : EReal)
      = ∑ x : Fin 128, silu (v15 (ix2 i x)) * v19 (ix2 x j) + silu (v22 (ix2 i 0)) *
          (v0 (ix2 0 j) + v1 (ix2 0 j) + v3 (ix2 0 j) + v5 (ix2 0 j) + v7 (ix2 0 j) + v9 (ix2 0 j) + v11 (ix2 0 j) + v13 (ix2 0 j)) := by
  unfold k0_pay3 k0_pay2
  pointwise
  rfl

theorem pay1 (v0 v1 v3 v5 v7 v9 v11 v13 : Vec Ideal S1x1536 .f32) (w : Vec Ideal S1024x1536 .f32) (i : Fin 8) (j : Fin 1024) :
    (k0_pay1 (F := Ideal) (k0_pay4 v0 v1 v3 v5 v7 v9 v11 v13) w (ix2 i j) : EReal)
      = ∑ x : Fin 1536, (v0 (ix2 0 x) + v1 (ix2 0 x) + v3 (ix2 0 x) + v5 (ix2 0 x) + v7 (ix2 0 x) + v9 (ix2 0 x) + v11 (ix2 0 x)
          + v13 (ix2 0 x)) * w (ix2 j x) := by
  unfold k0_pay1 k0_pay4 k0_pay2
  pointwise

/-- The rows of the gathered gradients, as the body reads and adds them. -/
theorem ld_rows (x : Vec Ideal S8x1536 .f32) (j : Fin 1536) :
    (View.ld x r0_0 (ix2 0 j) : EReal) + View.ld x r0_1 (ix2 0 j) + View.ld x r0_2 (ix2 0 j) + View.ld x r0_3 (ix2 0 j)
      + View.ld x r0_4 (ix2 0 j) + View.ld x r0_5 (ix2 0 j) + View.ld x r0_6 (ix2 0 j) + View.ld x r0_7 (ix2 0 j) = rows x j := by
  have e : ∀ (k : Fin 8) (z : S8x1536.Idx), (z 0).val = k.val → (z 1).val = 0 + 1 * j.val → (x z : EReal) = x (ix2 k j) := fun k z h0 h1 =>
    congrArg x (funext fun a => Fin.ext (by
      match a with
      | ⟨0, _⟩ => exact h0
      | ⟨1, _⟩ => exact h1.trans (by show 0 + 1 * j.val = j.val; omega)))
  rw [← rows_chain]
  exact congrArg₂ (· + ·) (congrArg₂ (· + ·) (congrArg₂ (· + ·) (congrArg₂ (· + ·) (congrArg₂ (· + ·)
    (congrArg₂ (· + ·) (congrArg₂ (· + ·) (e 0 _ rfl rfl) (e 1 _ rfl rfl)) (e 2 _ rfl rfl)) (e 3 _ rfl rfl))
    (e 4 _ rfl rfl)) (e 5 _ rfl rfl)) (e 6 _ rfl rfl)) (e 7 _ rfl rfl)

section

variable (x0 : Vec Ideal S1024x128 .f32) (x1 : Vec Ideal S1024x1 .f32) (x2 : Vec Ideal S128x1536 .f32) (x3 : Vec Ideal S8x1536 .f32)
  (x4 : Vec Ideal S1024x1536 .f32)

theorem body5 (i : Fin 1024) (j : Fin 1536) : (out0_5 x0 x1 x2 x3 x4 (ix2 i j) : EReal)
    = ∑ x : Fin 128, silu (x0 (ix2 i x)) * x2 (ix2 x j) + silu (x1 (ix2 i 0)) * rows x3 j := by
  unfold out0_5
  rw [View.canon_unit_zero hz]
  simp only [View.ld_unit_zero (S := S1024x128) hz, View.ld_unit_zero (S := S128x1536) hz, View.ld_unit_zero (S := S1024x1) hz]
  rw [pay3, ld_rows]

theorem body6 (i : Fin 8) (j : Fin 1024) : (out0_6 x0 x1 x2 x3 x4 (ix2 i j) : EReal) = cot x3 x4 (ix2 i j) := by
  unfold out0_6
  rw [View.canon_unit_zero hz]
  simp only [View.ld_unit_zero (S := S1024x1536) hz]
  rw [pay1]
  refine Finset.sum_congr rfl fun x _ => ?_
  exact congrArg (fun u : EReal => u * x4 (ix2 j x)) (ld_rows x3 x)

end

variable (m : (ℓ : Loc nD τ sig) → Buf (Elt Ideal) ℓ) (c : Dev nD)

/-- The conditionings as launched. -/
abbrev Ct : Post.Arr 8 1024 := m ((c : Thread nD τ).loc main_arg0)

/-- The shared conditioning as launched. -/
abbrev Cc : S1024.Idx → EReal := m ((c : Thread nD τ).loc main_arg1)

/-- The modulations' gradients as launched. -/
abbrev Dm : Post.Arr 8 1536 := m ((c : Thread nD τ).loc main_arg2)

/-- The shared modulation's gradients as launched. -/
abbrev Dc : Post.Arr 8 1536 := m ((c : Thread nD τ).loc main_arg3)

/-- The weight as launched. -/
abbrev W : Post.Arr 1024 1536 := m ((c : Thread nD τ).loc main_arg4)

theorem hostT (i : Fin 1024) (k : Fin 128) : ((V m c main_v4 : Vec Ideal S1024x128 .f32) (ix2 i k) : EReal)
    = if h : k.val < 8 then Ct m c (ix2 ⟨k.val, h⟩ i) else 0 := by
  unfold V hostOps0
  after_results_simp
  pointwise

theorem hostC (i : Fin 1024) (k : Fin 1) : ((V m c main_v5 : Vec Ideal S1024x1 .f32) (ix2 i k) : EReal) = Cc m c (ix1 i) := by
  unfold V hostOps0
  after_results_simp
  pointwise

theorem hostD (i : Fin 128) (j : Fin 1536) : ((V m c main_v1 : Vec Ideal S128x1536 .f32) (ix2 i j) : EReal)
    = if h : i.val < 8 then Dm m c (ix2 ⟨i.val, h⟩ j) else 0 := by
  unfold V hostOps0
  after_results_simp
  pointwise

/-- The padded products' sum is the eight devices' part. -/
theorem padded (i : Fin 1024) (j : Fin 1536) :
    ∑ x : Fin 128, silu ((V m c main_v4 : Vec Ideal S1024x128 .f32) (ix2 i x)) * ((V m c main_v1 : Vec Ideal S128x1536 .f32) (ix2 x j) : EReal)
      = ∑ x : Fin 8, Dm m c (ix2 x j) * silu (Ct m c (ix2 x i)) := by
  refine sum_pad _ _ (fun x => ?_) fun x hx => ?_
  · rw [hostT, hostD, dif_pos x.isLt, dif_pos x.isLt]
    exact mul_comm _ _
  · rw [hostD, dif_neg (by omega)]
    exact mul_zero _

theorem words : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) := by
  decide +kernel

/-- An index whose coordinates are another's, offset by nothing. -/
theorem same {a b p q : ℕ} (z y : Shape.Idx ⟨2, ![a, b]⟩) (hp : p = 0) (hq : q = 0) (h0 : (z 0).val = p * a + 1 * (y 0).val)
    (h1 : (z 1).val = q * b + 1 * (y 1).val) : z = y := by
  subst hp hq
  funext x
  refine Fin.ext ?_
  match x with
  | ⟨0, _⟩ => show (z 0).val = (y 0).val; omega
  | ⟨1, _⟩ => show (z 1).val = (y 1).val; omega

theorem iblk0 (t : Fin cfg0.N) : iblk m c 0 t = V m c main_v4 := by
  funext y
  unfold iblk
  show V m c main_v4 (((cfg0.win 0).blk t).view.emb y) = _
  exact congrArg (V m c main_v4) (same _ _ (words t).1.1 (words t).1.2 rfl rfl)

theorem iblk1 (t : Fin cfg0.N) : iblk m c 1 t = V m c main_v5 := by
  funext y
  unfold iblk
  show V m c main_v5 (((cfg0.win 1).blk t).view.emb y) = _
  exact congrArg (V m c main_v5) (same _ _ (words t).2.1.1 (words t).2.1.2 rfl rfl)

theorem iblk2 (t : Fin cfg0.N) : iblk m c 2 t = V m c main_v1 := by
  funext y
  unfold iblk
  show V m c main_v1 (((cfg0.win 2).blk t).view.emb y) = _
  exact congrArg (V m c main_v1) (same _ _ (words t).2.2.1.1 (words t).2.2.1.2 rfl rfl)

theorem iblk3 (t : Fin cfg0.N) : iblk m c 3 t = Dc m c := by
  funext y
  unfold iblk
  show V m c main_arg3 (((cfg0.win 3).blk t).view.emb y) = _
  rw [V_main_arg3]
  exact congrArg (Dc m c) (same _ _ (words t).2.2.2.1.1 (words t).2.2.2.1.2 rfl rfl)

theorem iblk4 (t : Fin cfg0.N) : iblk m c 4 t = W m c := by
  funext y
  unfold iblk
  show V m c main_arg4 (((cfg0.win 4).blk t).view.emb y) = _
  rw [V_main_arg4]
  exact congrArg (W m c) (same _ _ (words t).2.2.2.2.1.1 (words t).2.2.2.2.1.2 rfl rfl)

/-! ## The kernel's arrays -/

/-- The weight's gradient. -/
def gw : Post.Arr 1024 1536 := gradW (Ct m c) (fun i => Cc m c (ix1 i)) (Dm m c) (Dc m c)

/-- The cotangent. -/
def part : Post.Arr 8 1024 := cot (Dc m c) (W m c)

theorem entry5 (i : Fin 1024) (j : Fin 1536) :
    (out0_5 (V m c main_v4) (V m c main_v5) (V m c main_v1) (Dc m c) (W m c) (ix2 i j) : EReal) = gw m c (ix2 i j) := by
  refine (body5 _ _ _ _ _ _ _).trans ?_
  rw [padded, hostC, add_comm, mul_comm]
  rfl

theorem out5 (t : Fin cfg0.N) :
    out0_5 (iblk m c 0 t) (iblk m c 1 t) (iblk m c 2 t) (iblk m c 3 t) (iblk m c 4 t) = gw m c := by
  rw [iblk0, iblk1, iblk2, iblk3, iblk4]
  funext z
  rw [eq_ix2' z]
  exact entry5 m c _ _

theorem out6 (t : Fin cfg0.N) :
    out0_6 (iblk m c 0 t) (iblk m c 1 t) (iblk m c 2 t) (iblk m c 3 t) (iblk m c 4 t) = part m c := by
  rw [iblk0, iblk1, iblk2, iblk3, iblk4]
  funext z
  rw [eq_ix2' z]
  exact body6 _ _ _ _ _ _ _

/-- The one point. -/
def pt : Fin grid0.N := ⟨0, by decide⟩

theorem emb5 (t : Fin cfg0.N) (y : S1024x1536.Idx) : ((cfg0.win 5).blk t).view.emb y = y :=
  same _ _ (words t).2.2.2.2.2.1.1 (words t).2.2.2.2.2.1.2 rfl rfl

theorem emb6 (t : Fin cfg0.N) (y : S8x1024.Idx) : ((cfg0.win 6).blk t).view.emb y = y :=
  same _ _ (words t).2.2.2.2.2.2.1 (words t).2.2.2.2.2.2.2 rfl rfl

theorem final5 : (dats m 0 c).arrAt 5 cfg0.N = gw m c := by
  refine (dats m 0 c).arrAt_eq_of_cover 5 _ (fun t _ => ?_) fun z => ⟨pt, by decide +kernel, ?_⟩
  · rw [Value.flushed5, out5]
    funext y
    exact congrArg (gw m c) (emb5 t y).symm
  · have h := View.emb_mem_set ((cfg0.win 5).blk pt).view z
    rwa [emb5] at h

theorem final6 : (dats m 0 c).arrAt 6 cfg0.N = part m c := by
  refine (dats m 0 c).arrAt_eq_of_cover 6 _ (fun t _ => ?_) fun z => ⟨pt, by decide +kernel, ?_⟩
  · rw [Value.flushed6, out6]
    funext y
    exact congrArg (part m c) (emb6 t y).symm
  · have h := View.emb_mem_set ((cfg0.win 6).blk pt).view z
    rwa [emb6] at h

/-- The reference runs and leaves its arguments. -/
theorem frameRef : Cert.quiescent_Reference9Ideal := fun m ρ _ =>
  (θ_run Cert.Reference9Ideal.defs _ _).mono (fun r h => And.intro (fun c => (h c).2.2)
      (Idealize.ShloMosaic.sem_eq_zero_of_no_sems (by decide) r.2))
    (Cert.Reference9Ideal.Value.run (F := Ideal) m ρ)

/-- Both programs leave the weight's gradient and the cotangent. -/
theorem algebraic : Cert.algebraic_Kernel9Ideal_Reference9Ideal := by
  intro m g m' g' _ ha
  refine ⟨fun c => gw m c, fun c => part m c,
    (θ_run Cert.Kernel9Ideal.defs _ _).mono (fun _ h c => ?_) (Cert.Kernel9Ideal.Value.run_blocks (F := Ideal) m g),
    (θ_run Cert.Reference9Ideal.defs _ _).mono (fun _ h c => ?_) (Cert.Reference9Ideal.Value.run (F := Ideal) m' g')⟩
  · obtain ⟨h0, h1, rest⟩ := h c
    exact ⟨h0.trans (final5 m c), h1.trans (final6 m c), rest⟩
  · obtain ⟨h0, h1, rest⟩ := h c
    obtain ⟨e0, e1, e2, e3, e4⟩ := ha c
    refine ⟨(h0.trans (Cert.Reference9Ideal.Read.val_main_v13_eq _ _ _ _)).trans ?_,
      (h1.trans (Cert.Reference9Ideal.Read.val_main_v14_eq _ _)).trans ?_, rest⟩
    · rw [e0, e1, e2, e3]
      exact arrG _ _ _ _
    · rw [e3, e4]
      exact arrC _ _

end Cert.Grad.Mod

end
-- ==== Proof.CtxUpd.lean ====
/- The step on c_ctx: the cotangent of silu(c_ctx) is summed over the four chips, taken back through silu, and the optimiser's step is
   taken. The kernel writes the derivative of silu as one product and the chain rule as a sum of two, so the equality needs reals. -/
module

public import proofs.«01_k».proof.Defs
public import proofs.«01_k».proof.Proof.Adam
public import proofs.«01_k».proof.Proof.Finite
public import proofs.«01_k».proof.Proof.Gen.Kernel10.Frame
public import proofs.«01_k».proof.Proof.Gen.Kernel10Ideal.Value
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Pre_finite_parts
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Adam.Ctx

open Idealize.ShloMosaic Idealize.ShloMosaic.TcCoe Idealize.SL.Sem Idealize.ShloMosaic.Tactic
open Cert.Kernel10Ideal Cert.Kernel10Ideal.Gen

/-! ## The mathematics -/

/-- The cotangent of silu: the rows of the first core of each chip, summed. -/
def tot (x0 : S8x1x1024.Idx → EReal) (j : Fin 1024) : EReal := ∑ k : Fin 4, x0 (ix3 ⟨2 * k.val, by omega⟩ 0 j)

/-- The logistic as the reference spells it. -/
def lg (x : EReal) : EReal := Ideal.div 1 (1 + Ideal.exp (-x))

/-- The gradient of c_ctx, the derivative of silu as one factor. -/
def grad (x0 : S8x1x1024.Idx → EReal) (x1 : S1x1024.Idx → EReal) (j : Fin 1024) : EReal :=
  tot x0 j * (lg (x1 (ix2 0 j)) * (1 + x1 (ix2 0 j) * (1 - lg (x1 (ix2 0 j)))))

/-- The gradient in an array. -/
def gradA (x0 : S8x1x1024.Idx → EReal) (x1 : S1x1024.Idx → EReal) : S1x1024.Idx → EReal := fun z => grad x0 x1 (z 1)

/-- The two forms of the derivative of silu agree on reals. -/
theorem two_forms (t a : ℝ) : (t : EReal) * lg a + (a : EReal) * t * (lg a * (1 - lg a)) = t * (lg a * (1 + a * (1 - lg a))) := by
  have e : lg ((a : ℝ) : EReal) = ((Post.sg a : ℝ) : EReal) := Post.logistic_real a
  rw [e, Post.one_coe]
  simp only [← EReal.coe_mul, ← EReal.coe_add, ← EReal.coe_sub]
  congr 1
  ring

theorem eq_row (z : S1x1024.Idx) : z = ix2 (0 : Fin 1) (z 1 : Fin 1024) := by
  funext x
  match x with
  | ⟨0, _⟩ => exact Fin.ext (by have : (z 0).val < 1 := (z 0).isLt; show (z 0).val = 0; omega)
  | ⟨1, _⟩ => rfl

/-! ## The precondition -/

instance : Subsingleton Cert.Pre_finite_parts.S_.Idx := ⟨fun a b => funext fun k => k.elim0⟩

/-- The rows and c_ctx are real. -/
structure Reals (x0 : S8x1x1024.Idx → EReal) (x1 : S1x1024.Idx → EReal) : Prop where
  parts : ∀ z, x0 z = ((x0 z).toReal : ℝ)
  ctx : ∀ z, x1 z = ((x1 z).toReal : ℝ)

/-- Arguments that meet the precondition are real. -/
theorem reals (x0 : S8x1x1024.Idx → EReal) (x1 x2 x3 : S1x1024.Idx → EReal)
    (h : Cert.Pre_finite_parts.fn (F := Ideal) x0 x1 x2 x3 = fun _ => 1#1) : Reals x0 x1 := by
  have e := congrFun h (fun k => k.elim0)
  unfold Cert.Pre_finite_parts.fn at e
  dsimp only at e
  obtain ⟨e0, e1⟩ := Post.both _ _ _ e
  constructor
  · intro z
    have f : Ideal.cmp .olt (max (x0 z) (-(x0 z))) (Ideal.ofBits .f32 0x7F800000#32) = 1#1 := Host.reduce_andi_all _ _ _ _ _ e0 z
    rw [Post.cinf] at f
    exact (Post.coe_toReal_of_abs_lt ((Ideal.cmp_olt_eq_one _ _).1 f)).symm
  · intro z
    have f : Ideal.cmp .olt (max (x1 z) (-(x1 z))) (Ideal.ofBits .f32 0x7F800000#32) = 1#1 := Host.reduce_andi_all _ _ _ _ _ e1 z
    rw [Post.cinf] at f
    exact (Post.coe_toReal_of_abs_lt ((Ideal.cmp_olt_eq_one _ _).1 f)).symm

/-- Of reals, the chain rule's form is the one factor's. -/
theorem chain (x0 : S8x1x1024.Idx → EReal) (x1 : S1x1024.Idx → EReal) (h : Reals x0 x1) (j : Fin 1024) :
    tot x0 j * lg (x1 (ix2 0 j)) + x1 (ix2 0 j) * tot x0 j * (lg (x1 (ix2 0 j)) * (1 - lg (x1 (ix2 0 j)))) = grad x0 x1 j := by
  have e : tot x0 j = ((∑ k : Fin 4, (x0 (ix3 ⟨2 * k.val, by omega⟩ 0 j)).toReal : ℝ) : EReal) := by
    unfold tot
    rw [← Post.sum_coe]
    exact Finset.sum_congr rfl fun k _ => h.parts _
  unfold grad
  rw [e, h.ctx (ix2 0 j)]
  exact two_forms _ _

/-! ## The reference -/

section
open Cert.Reference10Ideal.Read

variable (x0 : S8x1x1024.Idx → EReal) (x1 x2 x3 : S1x1024.Idx → EReal) (j : Fin 1024)

theorem refT : (val_main_v3 (F := Ideal) x0 (ix2 0 j) : EReal) = tot x0 j := by
  unfold val_main_v3 val_main_v2 val_main_v1 val_main_v0 val_main_cst
  pointwise
  rfl

theorem refG : (val_main_v5 (F := Ideal) x0 x1 (ix2 0 j) : EReal)
    = tot x0 j * lg (x1 (ix2 0 j)) + x1 (ix2 0 j) * tot x0 j * (lg (x1 (ix2 0 j)) * (1 - lg (x1 (ix2 0 j)))) := by
  unfold val_main_v5 val_main_call1_v2 val_main_call1_v1 val_main_call1_v0 val_main_v4_1 val_main_call0_v7 val_main_call0_v6
    val_main_call0_cst_1 val_main_v4_2 val_main_call0_v4 val_main_call0_cst_0 val_main_call0_v3 val_main_call0_v2 val_main_call0_cst
    val_main_call0_v1 val_main_call0_v0
  pointwise
  rw [refT]
  rfl

theorem refM : (val_main_v10 (F := Ideal) x0 x1 x2 (ix2 0 j) : EReal) = mom1 (val_main_v5 (F := Ideal) x0 x1 (ix2 0 j)) (x2 (ix2 0 j)) := by
  unfold val_main_v10 val_main_v9 val_main_v8 val_main_v7 val_main_v6 val_main_cst_1 val_main_cst_0
  pointwise
  rfl

theorem refV : (val_main_v16 (F := Ideal) x0 x1 x3 (ix2 0 j) : EReal) = mom2 (val_main_v5 (F := Ideal) x0 x1 (ix2 0 j)) (x3 (ix2 0 j)) := by
  unfold val_main_v16 val_main_v15 val_main_v14 val_main_v13 val_main_v12 val_main_v11 val_main_cst_3 val_main_cst_2
  pointwise
  rfl

theorem refD : (val_main_v29 (F := Ideal) x0 x1 x2 x3 (ix2 0 j) : EReal)
    = delta (x1 (ix2 0 j)) (val_main_v5 (F := Ideal) x0 x1 (ix2 0 j)) (x2 (ix2 0 j)) (x3 (ix2 0 j)) := by
  unfold val_main_v29 val_main_v28 val_main_v27 val_main_v26 val_main_v25 val_main_v24 val_main_v23 val_main_v22 val_main_v21
    val_main_v20 val_main_v19 val_main_v18 val_main_v17 val_main_cst_8 val_main_cst_7 val_main_cst_6 val_main_cst_5 val_main_cst_4
  pointwise
  rw [refM, refV]
  rfl

variable (h : Reals x0 x1)
include h

theorem arrG : val_main_v5 (F := Ideal) x0 x1 = gradA x0 x1 := by
  funext z
  rw [eq_row z]
  exact (refG x0 x1 _).trans (chain x0 x1 h _)

theorem arrM : val_main_v10 (F := Ideal) x0 x1 x2 = fun z => mom1 (gradA x0 x1 z) (x2 z) := by
  rw [← arrG x0 x1 h]
  funext z
  rw [eq_row z]
  exact refM x0 x1 x2 _

theorem arrV : val_main_v16 (F := Ideal) x0 x1 x3 = fun z => mom2 (gradA x0 x1 z) (x3 z) := by
  rw [← arrG x0 x1 h]
  funext z
  rw [eq_row z]
  exact refV x0 x1 x3 _

theorem arrD : val_main_v29 (F := Ideal) x0 x1 x2 x3 = fun z => delta (x1 z) (gradA x0 x1 z) (x2 z) (x3 z) := by
  rw [← arrG x0 x1 h]
  funext z
  rw [eq_row z]
  exact refD x0 x1 x2 x3 _

end

/-! ## The kernel -/

section

variable (x0 : Vec Ideal S8x1x1024 .f32) (x1 x2 x3 : Vec Ideal S1x1024 .f32)

theorem hz : (![0, 0] : Fin 2 → ℕ) = fun _ => 0 := funext fun a => by fin_cases a <;> rfl

theorem pay3 (v0 v2 v5 v8 : Vec Ideal S1x1x1024 .f32) (v11 : Vec Ideal S1x1024 .f32) (j : Fin 1024) :
    (k0_pay3 (F := Ideal) v0 v2 v5 v8 v11 (ix2 0 j) : EReal)
      = (v0 (ix3 0 0 j) + v2 (ix3 0 0 j) + v5 (ix3 0 0 j) + v8 (ix3 0 0 j))
          * (lg (v11 (ix2 0 j)) * (1 + v11 (ix2 0 j) * (1 - lg (v11 (ix2 0 j))))) := by
  unfold k0_pay3
  pointwise
  rfl

/-- The rows the body reads, added one after another. -/
theorem ld_rows (j : Fin 1024) : (View.ld x0 r0_0 (ix3 0 0 j) : EReal) + View.ld x0 r0_1 (ix3 0 0 j) + View.ld x0 r0_2 (ix3 0 0 j)
    + View.ld x0 r0_3 (ix3 0 0 j) = tot x0 j := by
  have e : ∀ (k : Fin 8) (z : S8x1x1024.Idx), (z 0).val = k.val → (z 2).val = 0 + 1 * j.val → (x0 z : EReal) = x0 (ix3 k 0 j) :=
    fun k z h0 h2 => congrArg x0 (funext fun a => Fin.ext (by
      match a with
      | ⟨0, _⟩ => exact h0
      | ⟨1, _⟩ => have : (z 1).val < 1 := (z 1).isLt; show (z 1).val = 0; omega
      | ⟨2, _⟩ => exact h2.trans (by show 0 + 1 * j.val = j.val; omega)))
  unfold tot
  rw [Fin.sum_univ_four]
  exact congrArg₂ (· + ·) (congrArg₂ (· + ·) (congrArg₂ (· + ·) (e 0 _ rfl rfl) (e 2 _ rfl rfl)) (e 4 _ rfl rfl)) (e 6 _ rfl rfl)

theorem kerG : k0_pay3 (F := Ideal) (View.ld x0 r0_0) (View.ld x0 r0_1) (View.ld x0 r0_2) (View.ld x0 r0_3) x1 = gradA x0 x1 := by
  funext z
  rw [eq_row z]
  exact (pay3 _ _ _ _ _ _).trans (congrArg (fun u : EReal => u * _) (ld_rows x0 _))

theorem kerM : k0_pay7 (F := Ideal) x0 x1 x2 x3 = fun z => mom1 (gradA x0 x1 z) (x2 z) := by
  unfold k0_pay7
  simp only [View.ld_unit_zero (S := S1x1024) hz]
  unfold k0_pay4
  rw [kerG]
  funext z
  rw [eq_row z]
  pointwise
  rfl

theorem kerV : k0_pay1 (F := Ideal) (k0_pay8 (F := Ideal) x0 x1 x2 x3) (k0_pay9 (F := Ideal) x0 x1 x2 x3) = fun z => mom2 (gradA x0 x1 z) (x3 z) := by
  unfold k0_pay8 k0_pay9
  simp only [View.ld_unit_zero (S := S1x1024) hz]
  unfold k0_pay1 k0_pay5 k0_pay6
  rw [kerG]
  funext z
  rw [eq_row z]
  pointwise
  rfl

theorem kerD : k0_pay2 (F := Ideal) x1 (k0_pay7 (F := Ideal) x0 x1 x2 x3) (k0_pay8 (F := Ideal) x0 x1 x2 x3) (k0_pay9 (F := Ideal) x0 x1 x2 x3)
    = fun z => delta (x1 z) (gradA x0 x1 z) (x2 z) (x3 z) := by
  unfold k0_pay2
  rw [kerM, kerV]
  funext z
  rw [eq_row z]
  pointwise
  rfl

end

/-- The reference runs and leaves its arguments. -/
theorem frameRef : Cert.quiescent_Reference10Ideal := fun m ρ _ =>
  (θ_run Cert.Reference10Ideal.defs _ _).mono (fun r h => And.intro (fun c => (h c).2.2.2.2)
      (Idealize.ShloMosaic.sem_eq_zero_of_no_sems (by decide) r.2))
    (Cert.Reference10Ideal.Value.run (F := Ideal) m ρ)

/-- Both programs leave the gradient, the step and the two moments. -/
theorem algebraic : Cert.algebraic_Kernel10Ideal_Reference10Ideal_pre_finite_parts := by
  intro m g m' g' hp ha
  have hr := fun c => reals _ _ _ _ (hp c)
  refine ⟨fun c => _, fun c => _, fun c => _, fun c => _, Cert.Kernel10Ideal.Value.run (F := Ideal) m g,
    (θ_run Cert.Reference10Ideal.defs _ _).mono (fun _ h c => ?_) (Cert.Reference10Ideal.Value.run (F := Ideal) m' g')⟩
  obtain ⟨h0, h1, h2, h3, rest⟩ := h c
  obtain ⟨e0, e1, e2, e3⟩ := ha c
  refine ⟨(h0.trans (Cert.Reference10Ideal.Read.val_main_v5_eq _ _)).trans ?_,
    (h1.trans (Cert.Reference10Ideal.Read.val_main_v29_eq _ _)).trans ?_,
    (h2.trans (Cert.Reference10Ideal.Read.val_main_v10_eq _ _ _)).trans ?_,
    (h3.trans (Cert.Reference10Ideal.Read.val_main_v16_eq _ _ _)).trans ?_, rest⟩
  · rw [e0, e1]
    exact (arrG _ _ (hr c)).trans (kerG _ _).symm
  · rw [e0, e1, e2, e3]
    exact (arrD _ _ _ _ (hr c)).trans (kerD _ _ _ _).symm
  · rw [e0, e1, e2]
    exact (arrM _ _ _ (hr c)).trans (kerM _ _ _ _).symm
  · rw [e0, e1, e3]
    exact (arrV _ _ _ (hr c)).trans (kerV _ _ _ _).symm

end Cert.Adam.Ctx

end
-- ==== Proof.Ctx.lean ====
/- The states in which the retention leaves the context: by head and direction, the transposed products of the scaled keys and the
   weighted values of two chunks of 128 tokens, the earlier chunk's carried through the decay. Kernel and reference write the
   same sums; the kernel has the two chunks and the four heads apart. -/
module

public import proofs.«01_k».proof.Defs
public import proofs.«01_k».proof.Proof.Adam
public import proofs.«01_k».proof.Proof.Gen.Kernel11.Frame
public import proofs.«01_k».proof.Proof.Gen.Kernel11Ideal.Value
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Context

open Idealize.ShloMosaic Idealize.ShloMosaic.TcCoe Idealize.SL.Sem Idealize.ShloMosaic.Tactic
open Cert.Kernel11Ideal Cert.Kernel11Ideal.Gen

/-! ## The mathematics -/

/-- The context's tokens of the chunk, normed, scaled and shifted. -/
def hidden {R : ℕ} (x : Post.Arr R 1024) (n sh sc : Fin 1024 → EReal) (j : Fin R) (d : Fin 1024) : EReal :=
  x (ix2 j d) * Ideal.rsqrt (Ideal.div (∑ k : Fin 1024, x (ix2 j k) * x (ix2 j k)) (Ideal.ofBits .f32 0x44800000#32) + Ideal.ofBits .f32 0x358637BD#32)
    * n d * (1 + sc d) + sh d

/-- A token's projection on one column. -/
def proj (a : Fin 1024 → EReal) (w : Fin 1024 → EReal) : EReal := ∑ x : Fin 1024, a x * w x

/-- One chunk's part of a state: keys and values of its tokens `a`, the values weighted by `z`. -/
def part (a : Fin 128 → Fin 1024 → EReal) (wk wv : Fin 1024 → EReal) (z : Fin 128 → EReal) : EReal :=
  ∑ j : Fin 128, (proj (a j) wk * Ideal.ofBits .f32 0x3DB504F3#32) * (z j * proj (a j) wv)

/-- The state after the chunks `a` and then `b`. -/
def state (a b : Fin 128 → Fin 1024 → EReal) (wk wv : Fin 1024 → EReal) (z : Fin 128 → EReal) (e : EReal) : EReal :=
  e * part a wk wv z + part b wk wv z

/-- States are equal where their parts are. -/
theorem state_congr {a a' b b' : Fin 128 → Fin 1024 → EReal} {wk wk' wv wv' : Fin 1024 → EReal} {z z' : Fin 128 → EReal} {e e' : EReal}
    (ha : ∀ j x, a j x = a' j x) (hb : ∀ j x, b j x = b' j x) (hk : ∀ x, wk x = wk' x) (hv : ∀ x, wv x = wv' x) (hz : ∀ j, z j = z' j)
    (he : e = e') : state a b wk wv z e = state a' b' wk' wv' z' e' := by
  obtain rfl : a = a' := funext fun j => funext (ha j)
  obtain rfl : b = b' := funext fun j => funext (hb j)
  obtain rfl : wk = wk' := funext hk
  obtain rfl : wv = wv' := funext hv
  obtain rfl : z = z' := funext hz
  rw [he]

section

variable (X : Post.Arr 256 1024) (n sh sc : Fin 1024 → EReal) (W : Post.Arr 1024 3584) (dm : S2x4x4x128x128.Idx → EReal)

/-- Chunk `k` of the context. -/
def chunk (k : Fin 2) (j : Fin 128) (x : Fin 1024) : EReal := hidden X n sh sc ⟨k.val * 128 + j.val, by omega⟩ x

/-- Column `q` of the 1024 key and value columns. -/
def col (q : Fin 1024) (x : Fin 1024) : EReal := W (ix2 x ⟨1536 + q.val, by omega⟩)

/-- Head `h`'s state in direction `r`, whose earlier chunk is `k` and later chunk `l`. -/
def entry (r k l : Fin 2) (h : Fin 4) (d e : Fin 128) : EReal :=
  state (chunk X n sh sc k) (chunk X n sh sc l) (col W ⟨h.val * 128 + d.val, by omega⟩) (col W ⟨512 + (h.val * 128 + e.val), by omega⟩)
    (fun j => dm (ix5 r 2 h j e)) (dm (ix5 r 3 h d e))

/-- The states forwards. -/
def forwards : S4x128x128.Idx → EReal := fun z => entry X n sh sc W dm 0 0 1 (z 0) (z 1) (z 2)

/-- The states backwards. -/
def backwards : S4x128x128.Idx → EReal := fun z => entry X n sh sc W dm 1 1 0 (z 0) (z 1) (z 2)

end

theorem eq_ix3' {a b c : ℕ} (z : Shape.Idx ⟨3, ![a, b, c]⟩) : z = ix3 (z 0) (z 1) (z 2) := by
  funext x
  match x with
  | ⟨0, _⟩ => rfl
  | ⟨1, _⟩ => rfl
  | ⟨2, _⟩ => rfl

/-! ## The reference -/

section
open Cert.Reference11Ideal.Read

variable (x0 : S256x1024.Idx → EReal) (x1 x2 x3 : S1x1024.Idx → EReal) (x4 : S1024x3584.Idx → EReal) (x5 : S2x4x4x128x128.Idx → EReal)

theorem refH (i : Fin 256) (j : Fin 1024) : (val_main_v22 (F := Ideal) x0 x1 x2 x3 (ix2 i j) : EReal)
    = hidden x0 (fun d => x1 (ix2 0 d)) (fun d => x2 (ix2 0 d)) (fun d => x3 (ix2 0 d)) i j := by
  unfold val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_cst
    val_main_cst_0 val_main_cst_1 val_main_cst_2
  pointwise
  rfl

/-- A token's key or value before the scale. -/
theorem refP (i : Fin 256) (j : Fin 1024) : (val_main_v23 (F := Ideal) x0 x1 x2 x3 x4 (ix2 i j) : EReal)
    = proj (fun d => val_main_v22 (F := Ideal) x0 x1 x2 x3 (ix2 i d)) (fun d => x4 (ix2 d ⟨1536 + j.val, by omega⟩)) := by
  unfold val_main_v23 val_main_v0
  pointwise
  rfl

/-- A scaled key. -/
theorem refK (n : Fin 2) (h : Fin 4) (j d : Fin 128) : (val_main_v29 (F := Ideal) x0 x1 x2 x3 x4 (ix4 n h j d) : EReal)
    = val_main_v23 (F := Ideal) x0 x1 x2 x3 x4 (ix2 ⟨n.val * 128 + j.val, by omega⟩ ⟨h.val * 128 + d.val, by omega⟩)
      * Ideal.ofBits .f32 0x3DB504F3#32 := by
  unfold val_main_v29 val_main_v28 val_main_v27 val_main_v26 val_main_v24 val_main_cst_3
  pointwise

/-- A value. -/
theorem refV (n : Fin 2) (h : Fin 4) (j d : Fin 128) : (val_main_v31 (F := Ideal) x0 x1 x2 x3 x4 (ix4 n h j d) : EReal)
    = val_main_v23 (F := Ideal) x0 x1 x2 x3 x4 (ix2 ⟨n.val * 128 + j.val, by omega⟩ ⟨512 + (h.val * 128 + d.val), by omega⟩) := by
  unfold val_main_v31 val_main_v30 val_main_v25
  pointwise

/-- The state forwards, from keys and values. -/
theorem refF (h : Fin 4) (d e : Fin 128) : (val_main_v52 (F := Ideal) x0 x1 x2 x3 x4 x5 (ix3 h d e) : EReal)
    = x5 (ix5 0 3 h d e) * (∑ j : Fin 128, val_main_v29 (F := Ideal) x0 x1 x2 x3 x4 (ix4 0 h j d)
        * (x5 (ix5 0 2 h j e) * val_main_v31 (F := Ideal) x0 x1 x2 x3 x4 (ix4 0 h j e)))
      + ∑ j : Fin 128, val_main_v29 (F := Ideal) x0 x1 x2 x3 x4 (ix4 1 h j d)
        * (x5 (ix5 0 2 h j e) * val_main_v31 (F := Ideal) x0 x1 x2 x3 x4 (ix4 1 h j e)) := by
  unfold val_main_v52 val_main_v51 val_main_v50 val_main_v49 val_main_v48 val_main_v47 val_main_v46 val_main_v45 val_main_v44
    val_main_v43 val_main_v42 val_main_v41 val_main_v40 val_main_v39 val_main_v38 val_main_v37 val_main_v36 val_main_v35
    val_main_v34 val_main_v33 val_main_v32 val_main_v4 val_main_v3 val_main_v2 val_main_v1 val_main_cst_4
  pointwise
  rw [mul_zero, zero_add (_ : EReal)]

/-- The state backwards, from keys and values. -/
theorem refB (h : Fin 4) (d e : Fin 128) : (val_main_v73 (F := Ideal) x0 x1 x2 x3 x4 x5 (ix3 h d e) : EReal)
    = x5 (ix5 1 3 h d e) * (∑ j : Fin 128, val_main_v29 (F := Ideal) x0 x1 x2 x3 x4 (ix4 1 h j d)
        * (x5 (ix5 1 2 h j e) * val_main_v31 (F := Ideal) x0 x1 x2 x3 x4 (ix4 1 h j e)))
      + ∑ j : Fin 128, val_main_v29 (F := Ideal) x0 x1 x2 x3 x4 (ix4 0 h j d)
        * (x5 (ix5 1 2 h j e) * val_main_v31 (F := Ideal) x0 x1 x2 x3 x4 (ix4 0 h j e)) := by
  unfold val_main_v73 val_main_v72 val_main_v71 val_main_v70 val_main_v69 val_main_v68 val_main_v67 val_main_v66 val_main_v65
    val_main_v64 val_main_v63 val_main_v62 val_main_v61 val_main_v60 val_main_v59 val_main_v58 val_main_v57 val_main_v56
    val_main_v55 val_main_v54 val_main_v53 val_main_v4 val_main_v3 val_main_v2 val_main_v1 val_main_cst_5
  pointwise
  rw [mul_zero, zero_add (_ : EReal)]

/-- A key or value as a projection of the chunk. -/
theorem refC (k : Fin 2) (j : Fin 128) (q : Fin 1024) :
    (val_main_v23 (F := Ideal) x0 x1 x2 x3 x4 (ix2 ⟨k.val * 128 + j.val, by omega⟩ q) : EReal)
      = proj (chunk x0 (fun d => x1 (ix2 0 d)) (fun d => x2 (ix2 0 d)) (fun d => x3 (ix2 0 d)) k j) (col x4 q) :=
  (refP x0 x1 x2 x3 x4 _ _).trans (congrArg (fun f => proj f (col x4 q)) (funext fun d => refH x0 x1 x2 x3 _ d))

/-- One chunk's part of a state. -/
theorem refPart (k r : Fin 2) (h : Fin 4) (d e : Fin 128) :
    ∑ j : Fin 128, (val_main_v29 (F := Ideal) x0 x1 x2 x3 x4 (ix4 k h j d) : EReal)
        * (x5 (ix5 r 2 h j e) * val_main_v31 (F := Ideal) x0 x1 x2 x3 x4 (ix4 k h j e))
      = part (chunk x0 (fun d => x1 (ix2 0 d)) (fun d => x2 (ix2 0 d)) (fun d => x3 (ix2 0 d)) k) (col x4 ⟨h.val * 128 + d.val, by omega⟩)
        (col x4 ⟨512 + (h.val * 128 + e.val), by omega⟩) (fun j => x5 (ix5 r 2 h j e)) := by
  refine Finset.sum_congr rfl fun j _ => ?_
  rw [refK, refV, refC, refC]

theorem cellF (h : Fin 4) (d e : Fin 128) : (val_main_v52 (F := Ideal) x0 x1 x2 x3 x4 x5 (ix3 h d e) : EReal)
    = entry x0 (fun d => x1 (ix2 0 d)) (fun d => x2 (ix2 0 d)) (fun d => x3 (ix2 0 d)) x4 x5 0 0 1 h d e := by
  rw [refF, refPart, refPart]
  rfl

theorem arrF : val_main_v52 (F := Ideal) x0 x1 x2 x3 x4 x5
    = forwards x0 (fun d => x1 (ix2 0 d)) (fun d => x2 (ix2 0 d)) (fun d => x3 (ix2 0 d)) x4 x5 := by
  funext z
  rw [eq_ix3' z]
  exact cellF x0 x1 x2 x3 x4 x5 _ _ _

theorem cellB (h : Fin 4) (d e : Fin 128) : (val_main_v73 (F := Ideal) x0 x1 x2 x3 x4 x5 (ix3 h d e) : EReal)
    = entry x0 (fun d => x1 (ix2 0 d)) (fun d => x2 (ix2 0 d)) (fun d => x3 (ix2 0 d)) x4 x5 1 1 0 h d e := by
  rw [refB, refPart, refPart]
  rfl

theorem arrB : val_main_v73 (F := Ideal) x0 x1 x2 x3 x4 x5
    = backwards x0 (fun d => x1 (ix2 0 d)) (fun d => x2 (ix2 0 d)) (fun d => x3 (ix2 0 d)) x4 x5 := by
  funext z
  rw [eq_ix3' z]
  exact cellB x0 x1 x2 x3 x4 x5 _ _ _

end

/-! ## The body -/

theorem payH0 (x : Vec Ideal S128x1024 .f32) (n sh sc : Vec Ideal S1x1024 .f32) (j : Fin 128) (d : Fin 1024) :
    (k0_pay35 (F := Ideal) x n sh sc (k0_pay34 x) (ix2 j d) : EReal)
      = hidden x (fun d => n (ix2 0 d)) (fun d => sh (ix2 0 d)) (fun d => sc (ix2 0 d)) j d := by
  unfold k0_pay35 k0_pay34
  pointwise
  rfl

theorem payH1 (x : Vec Ideal S128x1024 .f32) (n sh sc : Vec Ideal S1x1024 .f32) (j : Fin 128) (d : Fin 1024) :
    (k0_pay36 (F := Ideal) x n sh sc (ix2 j d) : EReal)
      = hidden x (fun d => n (ix2 0 d)) (fun d => sh (ix2 0 d)) (fun d => sc (ix2 0 d)) j d := by
  unfold k0_pay36
  pointwise
  rfl

/-- The chunk's part, from arrays. -/
abbrev stateA (a b : Vec Ideal S128x1024 .f32) (wk wv : Vec Ideal S1024x128 .f32) (z e : Vec Ideal S128x128 .f32) (i j : Fin 128) : EReal :=
  state (fun t x => a (ix2 t x)) (fun t x => b (ix2 t x)) (fun x => wk (ix2 x i)) (fun x => wv (ix2 x j)) (fun t => z (ix2 t j)) (e (ix2 i j))

section

variable (a b : Vec Ideal S128x1024 .f32) (wk wv : Vec Ideal S1024x128 .f32) (z e : Vec Ideal S128x128 .f32) (i j : Fin 128)

/-- Head 0 forwards. -/
theorem headF0 (x : Vec Ideal S128x1024 .f32) (n sh sc : Vec Ideal S1x1024 .f32) :
    (k0_pay64 (F := Ideal) (k0_pay41 wv z e (k0_pay36 x n sh sc) (k0_pay37 wk b n sh sc (k0_pay34 b)) (k0_pay38 wk x n sh sc)
        (k0_pay39 wv b n sh sc (k0_pay34 b))) (ix3 0 i j) : EReal)
      = stateA (k0_pay35 b n sh sc (k0_pay34 b)) (k0_pay36 x n sh sc) wk wv z e i j := by
  unfold k0_pay64 k0_pay41 k0_pay40 k0_pay39 k0_pay38 k0_pay37
  pointwise
  rfl

/-- Head 0 backwards. -/
theorem headB0 (x : Vec Ideal S128x1024 .f32) (n sh sc : Vec Ideal S1x1024 .f32) :
    (k0_pay65 (F := Ideal) (k0_pay42 wv z e (k0_pay36 x n sh sc) (k0_pay37 wk b n sh sc (k0_pay34 b)) (k0_pay38 wk x n sh sc)
        (k0_pay39 wv b n sh sc (k0_pay34 b))) (ix3 0 i j) : EReal)
      = stateA (k0_pay36 x n sh sc) (k0_pay35 b n sh sc (k0_pay34 b)) wk wv z e i j := by
  unfold k0_pay65 k0_pay42 k0_pay40 k0_pay39 k0_pay38 k0_pay37
  pointwise
  rfl

/-- Head 1 forwards. -/
theorem headF1 : (k0_pay1 (F := Ideal) (k0_pay50 (k0_pay47 wk wv z e a) (k0_pay48 wk b) (k0_pay49 wv z b)
    (constant S128x128 .f32 0x00000000#32)) (ix3 0 i j) : EReal) = stateA a b wk wv z e i j := by
  unfold k0_pay1 k0_pay50 k0_pay49 k0_pay48 k0_pay47 k0_pay46 k0_pay45 k0_pay44 k0_pay43
  pointwise
  rfl

/-- Head 1 backwards. -/
theorem headB1 : (k0_pay2 (F := Ideal) (k0_pay51 z e (k0_pay43 wk a) (k0_pay44 wk b) (k0_pay45 wv a) (k0_pay46 wv b)) (ix3 0 i j) : EReal)
    = stateA b a wk wv z e i j := by
  unfold k0_pay2 k0_pay51 k0_pay46 k0_pay45 k0_pay44 k0_pay43
  pointwise
  rfl

/-- Head 2 forwards. -/
theorem headF2 : (k0_pay3 (F := Ideal) (k0_pay56 wk wv z e a b) (ix3 0 i j) : EReal) = stateA a b wk wv z e i j := by
  unfold k0_pay3 k0_pay56 k0_pay55 k0_pay54 k0_pay53 k0_pay52
  pointwise
  rfl

/-- Head 2 backwards. -/
theorem headB2 : (k0_pay4 (F := Ideal) (k0_pay57 wk wv z e a b) (ix3 0 i j) : EReal) = stateA b a wk wv z e i j := by
  unfold k0_pay4 k0_pay57 k0_pay55 k0_pay54 k0_pay53 k0_pay52
  pointwise
  rfl

/-- Head 3 forwards. -/
theorem headF3 : (k0_pay5 (F := Ideal) (k0_pay62 wk wv z e a b) (ix3 0 i j) : EReal) = stateA a b wk wv z e i j := by
  unfold k0_pay5 k0_pay62 k0_pay61 k0_pay60 k0_pay59 k0_pay58
  pointwise
  rfl

/-- Head 3 backwards. -/
theorem headB3 : (k0_pay6 (F := Ideal) (k0_pay63 wk wv z e a b) (ix3 0 i j) : EReal) = stateA b a wk wv z e i j := by
  unfold k0_pay6 k0_pay63 k0_pay61 k0_pay60 k0_pay59 k0_pay58
  pointwise
  rfl

end

/-- A store of one head's state, read at an index: its own where the head is the store's, else what was stored before. -/
theorem piece (k : ℕ) (inb : ∀ a, (![k, 0, 0] : Fin 3 → ℕ) a + S1x128x128.size a ≤ S4x128x128.size a) (w : Vec Ideal S1x128x128 .f32)
    (L : List (View.Piece (Elt Ideal) S4x128x128 .f32)) (h : Fin 4) (d e : Fin 128) :
    View.canon (⟨Rect.unit (s := S4x128x128) ![k, 0, 0] S1x128x128.size inb, w⟩ :: L) (ix3 h d e)
      = if h.val = k then w (ix3 0 d e) else View.canon L (ix3 h d e) := by
  by_cases hk : h.val = k
  · rw [if_pos hk]
    have hy : (Rect.unit (s := S4x128x128) ![k, 0, 0] S1x128x128.size inb).emb (ix3 0 d e) = ix3 h d e := funext fun x => Fin.ext (by
      match x with
      | ⟨0, _⟩ => show k + 1 * 0 = h.val; omega
      | ⟨1, _⟩ => show 0 + 1 * d.val = d.val; omega
      | ⟨2, _⟩ => show 0 + 1 * e.val = e.val; omega)
    rw [← hy]
    exact View.canon_cons_emb (Rect.unit (s := S4x128x128) ![k, 0, 0] S1x128x128.size inb) w L (ix3 0 d e)
  · rw [if_neg hk]
    refine View.canon_cons_of_not_mem _ L fun hm => ?_
    rw [Rect.mem_set_unit] at hm
    have h0 := hm ⟨0, by show 0 < 3; decide⟩
    have h1 : k ≤ h.val ∧ h.val < k + 1 := h0
    omega

section

variable (x0 : Vec Ideal S256x1024 .f32) (x1 : Vec Ideal S8x1024 .f32) (x2 : Vec Ideal S4x1024x896 .bf16) (x3 : Vec Ideal S2x4x4x128x128 .f32)

/-- The first chunk, as the body forms it. -/
theorem hid0 (j : Fin 128) (x : Fin 1024) : (k0_pay79 x0 x1 x2 x3 (ix2 j x) : EReal)
    = chunk x0 (fun d => x1 (ix2 0 d)) (fun d => x1 (ix2 1 d)) (fun d => x1 (ix2 2 d)) 0 j x := by
  unfold k0_pay79 k0_pay78 k0_pay77 k0_pay76 k0_pay75 k0_pay33 k0_pay32 k0_pay31
  rw [payH0]
  unfold chunk hidden
  pointwise

/-- The second chunk, as the body forms it. -/
theorem hid1 (j : Fin 128) (x : Fin 1024) : (k0_pay80 x0 x1 x2 x3 (ix2 j x) : EReal)
    = chunk x0 (fun d => x1 (ix2 0 d)) (fun d => x1 (ix2 1 d)) (fun d => x1 (ix2 2 d)) 1 j x := by
  unfold k0_pay80 k0_pay77 k0_pay76 k0_pay75 k0_pay33 k0_pay32 k0_pay31
  rw [payH1]
  unfold chunk hidden
  pointwise

variable (W : Post.Arr 1024 3584) (hW : ∀ (g : Fin 4) (x : Fin 1024) (q : Fin 896), (x2 (ix3 g x q) : EReal) = W (ix2 x ⟨g.val * 896 + q.val, by omega⟩))

include hW in
/-- A key or value column among one chip's. -/
theorem colW (g : Fin 4) (q : Fin 896) (p : Fin 1024) (x : Fin 1024) (h : g.val * 896 + q.val = 1536 + p.val) :
    (x2 (ix3 g x q) : EReal) = W (ix2 x ⟨1536 + p.val, by omega⟩) :=
  (hW g x q).trans (congrArg (fun u => W (ix2 x u)) (Fin.ext h))

include hW in
/-- The heads' key columns. -/
theorem keys (d : Fin 128) (x : Fin 1024) :
    (k0_pay66 x0 x1 x2 x3 (ix2 x d) : EReal) = col W ⟨0 * 128 + d.val, by omega⟩ x
    ∧ (k0_pay67 x0 x1 x2 x3 (ix2 x d) : EReal) = col W ⟨1 * 128 + d.val, by omega⟩ x
    ∧ (k0_pay68 x0 x1 x2 x3 (ix2 x d) : EReal) = col W ⟨2 * 128 + d.val, by omega⟩ x
    ∧ (k0_pay69 x0 x1 x2 x3 (ix2 x d) : EReal) = col W ⟨3 * 128 + d.val, by omega⟩ x := by
  unfold k0_pay66 k0_pay67 k0_pay68 k0_pay69 k0_pay7 k0_pay8 k0_pay9 k0_pay10
  refine ⟨.trans (b := (x2 (ix3 1 x ⟨640 + d.val, by omega⟩) : EReal)) (by pointwise) (colW x2 W hW _ _ ⟨0 * 128 + d.val, by omega⟩ x ?_),
    .trans (b := (x2 (ix3 1 x ⟨768 + d.val, by omega⟩) : EReal)) (by pointwise) (colW x2 W hW _ _ ⟨1 * 128 + d.val, by omega⟩ x ?_),
    .trans (b := (x2 (ix3 2 x ⟨d.val, by omega⟩) : EReal)) (by pointwise) (colW x2 W hW _ _ ⟨2 * 128 + d.val, by omega⟩ x ?_),
    .trans (b := (x2 (ix3 2 x ⟨128 + d.val, by omega⟩) : EReal)) (by pointwise) (colW x2 W hW _ _ ⟨3 * 128 + d.val, by omega⟩ x ?_)⟩
  · show 1 * 896 + (640 + d.val) = 1536 + (0 * 128 + d.val); omega
  · show 1 * 896 + (768 + d.val) = 1536 + (1 * 128 + d.val); omega
  · show 2 * 896 + d.val = 1536 + (2 * 128 + d.val); omega
  · show 2 * 896 + (128 + d.val) = 1536 + (3 * 128 + d.val); omega

include hW in
/-- The heads' value columns. -/
theorem values (d : Fin 128) (x : Fin 1024) :
    (k0_pay70 x0 x1 x2 x3 (ix2 x d) : EReal) = col W ⟨512 + (0 * 128 + d.val), by omega⟩ x
    ∧ (k0_pay71 x0 x1 x2 x3 (ix2 x d) : EReal) = col W ⟨512 + (1 * 128 + d.val), by omega⟩ x
    ∧ (k0_pay72 x0 x1 x2 x3 (ix2 x d) : EReal) = col W ⟨512 + (2 * 128 + d.val), by omega⟩ x
    ∧ (k0_pay73 x0 x1 x2 x3 (ix2 x d) : EReal) = col W ⟨512 + (3 * 128 + d.val), by omega⟩ x := by
  unfold k0_pay70 k0_pay71 k0_pay72 k0_pay73 k0_pay11 k0_pay12 k0_pay13 k0_pay14
  refine ⟨.trans (b := (x2 (ix3 2 x ⟨256 + d.val, by omega⟩) : EReal)) (by pointwise) (colW x2 W hW _ _ ⟨512 + (0 * 128 + d.val), by omega⟩ x ?_),
    .trans (b := (x2 (ix3 2 x ⟨384 + d.val, by omega⟩) : EReal)) (by pointwise) (colW x2 W hW _ _ ⟨512 + (1 * 128 + d.val), by omega⟩ x ?_),
    .trans (b := (x2 (ix3 2 x ⟨512 + d.val, by omega⟩) : EReal)) (by pointwise) (colW x2 W hW _ _ ⟨512 + (2 * 128 + d.val), by omega⟩ x ?_),
    .trans (b := (x2 (ix3 2 x ⟨640 + d.val, by omega⟩) : EReal)) (by pointwise) (colW x2 W hW _ _ ⟨512 + (3 * 128 + d.val), by omega⟩ x ?_)⟩
  · show 2 * 896 + (256 + d.val) = 1536 + (512 + (0 * 128 + d.val)); omega
  · show 2 * 896 + (384 + d.val) = 1536 + (512 + (1 * 128 + d.val)); omega
  · show 2 * 896 + (512 + d.val) = 1536 + (512 + (2 * 128 + d.val)); omega
  · show 2 * 896 + (640 + d.val) = 1536 + (512 + (3 * 128 + d.val)); omega

include hW in
/-- The states forwards, as the body leaves them. -/
theorem body4 (h : Fin 4) (d e : Fin 128) : (out0_4 x0 x1 x2 x3 (ix3 h d e) : EReal)
    = entry x0 (fun d => x1 (ix2 0 d)) (fun d => x1 (ix2 1 d)) (fun d => x1 (ix2 2 d)) W x3 0 0 1 h d e := by
  have hh : h = 0 ∨ h = 1 ∨ h = 2 ∨ h = 3 := by omega
  unfold out0_4 r0_29 r0_30 r0_31 r0_32 entry
  rw [piece, piece, piece, piece]
  rcases hh with rfl | rfl | rfl | rfl
  · rw [if_neg (show ¬((0 : Fin 4).val = 3) by decide),
      if_neg (show ¬((0 : Fin 4).val = 2) by decide),
      if_neg (show ¬((0 : Fin 4).val = 1) by decide),
      if_pos (show (0 : Fin 4).val = 0 by decide)]
    refine (headF0 ..).trans (state_congr (hid0 x0 x1 x2 x3) (hid1 x0 x1 x2 x3) (fun x => (keys x0 x1 x2 x3 W hW d x).1)
      (fun x => (values x0 x1 x2 x3 W hW e x).1) (fun j => ?_) ?_)
    · unfold k0_pay15
      pointwise
    · unfold k0_pay19
      pointwise
  · rw [if_neg (show ¬((1 : Fin 4).val = 3) by decide),
      if_neg (show ¬((1 : Fin 4).val = 2) by decide),
      if_pos (show (1 : Fin 4).val = 1 by decide)]
    refine (headF1 ..).trans (state_congr (hid0 x0 x1 x2 x3) (hid1 x0 x1 x2 x3) (fun x => (keys x0 x1 x2 x3 W hW d x).2.1)
      (fun x => (values x0 x1 x2 x3 W hW e x).2.1) (fun j => ?_) ?_)
    · unfold k0_pay74 k0_pay16
      pointwise
    · unfold k0_pay20
      pointwise
  · rw [if_neg (show ¬((2 : Fin 4).val = 3) by decide),
      if_pos (show (2 : Fin 4).val = 2 by decide)]
    refine (headF2 ..).trans (state_congr (hid0 x0 x1 x2 x3) (hid1 x0 x1 x2 x3) (fun x => (keys x0 x1 x2 x3 W hW d x).2.2.1)
      (fun x => (values x0 x1 x2 x3 W hW e x).2.2.1) (fun j => ?_) ?_)
    · unfold k0_pay17
      pointwise
    · unfold k0_pay21
      pointwise
  · rw [if_pos (show (3 : Fin 4).val = 3 by decide)]
    refine (headF3 ..).trans (state_congr (hid0 x0 x1 x2 x3) (hid1 x0 x1 x2 x3) (fun x => (keys x0 x1 x2 x3 W hW d x).2.2.2)
      (fun x => (values x0 x1 x2 x3 W hW e x).2.2.2) (fun j => ?_) ?_)
    · unfold k0_pay18
      pointwise
    · unfold k0_pay22
      pointwise

include hW in
/-- The states backwards, as the body leaves them. -/
theorem body5 (h : Fin 4) (d e : Fin 128) : (out0_5 x0 x1 x2 x3 (ix3 h d e) : EReal)
    = entry x0 (fun d => x1 (ix2 0 d)) (fun d => x1 (ix2 1 d)) (fun d => x1 (ix2 2 d)) W x3 1 1 0 h d e := by
  have hh : h = 0 ∨ h = 1 ∨ h = 2 ∨ h = 3 := by omega
  unfold out0_5 r0_29 r0_30 r0_31 r0_32 entry
  rw [piece, piece, piece, piece]
  rcases hh with rfl | rfl | rfl | rfl
  · rw [if_neg (show ¬((0 : Fin 4).val = 3) by decide),
      if_neg (show ¬((0 : Fin 4).val = 2) by decide),
      if_neg (show ¬((0 : Fin 4).val = 1) by decide),
      if_pos (show (0 : Fin 4).val = 0 by decide)]
    refine (headB0 ..).trans (state_congr (hid1 x0 x1 x2 x3) (hid0 x0 x1 x2 x3) (fun x => (keys x0 x1 x2 x3 W hW d x).1)
      (fun x => (values x0 x1 x2 x3 W hW e x).1) (fun j => ?_) ?_)
    · unfold k0_pay23
      pointwise
    · unfold k0_pay27
      pointwise
  · rw [if_neg (show ¬((1 : Fin 4).val = 3) by decide),
      if_neg (show ¬((1 : Fin 4).val = 2) by decide),
      if_pos (show (1 : Fin 4).val = 1 by decide)]
    refine (headB1 ..).trans (state_congr (hid1 x0 x1 x2 x3) (hid0 x0 x1 x2 x3) (fun x => (keys x0 x1 x2 x3 W hW d x).2.1)
      (fun x => (values x0 x1 x2 x3 W hW e x).2.1) (fun j => ?_) ?_)
    · unfold k0_pay24
      pointwise
    · unfold k0_pay28
      pointwise
  · rw [if_neg (show ¬((2 : Fin 4).val = 3) by decide),
      if_pos (show (2 : Fin 4).val = 2 by decide)]
    refine (headB2 ..).trans (state_congr (hid1 x0 x1 x2 x3) (hid0 x0 x1 x2 x3) (fun x => (keys x0 x1 x2 x3 W hW d x).2.2.1)
      (fun x => (values x0 x1 x2 x3 W hW e x).2.2.1) (fun j => ?_) ?_)
    · unfold k0_pay25
      pointwise
    · unfold k0_pay29
      pointwise
  · rw [if_pos (show (3 : Fin 4).val = 3 by decide)]
    refine (headB3 ..).trans (state_congr (hid1 x0 x1 x2 x3) (hid0 x0 x1 x2 x3) (fun x => (keys x0 x1 x2 x3 W hW d x).2.2.2)
      (fun x => (values x0 x1 x2 x3 W hW e x).2.2.2) (fun j => ?_) ?_)
    · unfold k0_pay26
      pointwise
    · unfold k0_pay30
      pointwise

end

variable (m : (ℓ : Loc nD τ sig) → Buf (Elt Ideal) ℓ) (c : Dev nD)

/-- The context as launched. -/
abbrev Cx : Post.Arr 256 1024 := m ((c : Thread nD τ).loc main_arg0)

/-- The norm's weight as launched. -/
abbrev Nw : Post.Arr 1 1024 := m ((c : Thread nD τ).loc main_arg1)

/-- The shift as launched. -/
abbrev Sh : Post.Arr 1 1024 := m ((c : Thread nD τ).loc main_arg2)

/-- The scale as launched. -/
abbrev Sc : Post.Arr 1 1024 := m ((c : Thread nD τ).loc main_arg3)

/-- The projection's weight as launched. -/
abbrev Wi : Post.Arr 1024 3584 := m ((c : Thread nD τ).loc main_arg4)

/-- The decay factors as launched. -/
abbrev Df : S2x4x4x128x128.Idx → EReal := m ((c : Thread nD τ).loc main_arg5)

theorem hostN (d : Fin 1024) : ((V m c main_v1 : Vec Ideal S8x1024 .f32) (ix2 0 d) : EReal) = Nw m c (ix2 0 d) := by
  unfold V hostOps0
  after_results_simp
  pointwise

theorem hostSh (d : Fin 1024) : ((V m c main_v1 : Vec Ideal S8x1024 .f32) (ix2 1 d) : EReal) = Sh m c (ix2 0 d) := by
  unfold V hostOps0
  after_results_simp
  pointwise

theorem hostSc (d : Fin 1024) : ((V m c main_v1 : Vec Ideal S8x1024 .f32) (ix2 2 d) : EReal) = Sc m c (ix2 0 d) := by
  unfold V hostOps0
  after_results_simp
  pointwise

/-- The weight's columns, cut among the four chips. -/
theorem hostW (g : Fin 4) (x : Fin 1024) (q : Fin 896) : ((V m c main_v4 : Vec Ideal S4x1024x896 .bf16) (ix3 g x q) : EReal)
    = Wi m c (ix2 x ⟨g.val * 896 + q.val, by omega⟩) := by
  unfold V hostOps0
  after_results_simp
  pointwise

theorem words : ∀ t : Fin grid0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0)
    ∧ (win0_3.index t 0 = 0 ∧ win0_3.index t 1 = 0 ∧ win0_3.index t 2 = 0 ∧ win0_3.index t 3 = 0 ∧ win0_3.index t 4 = 0)
    ∧ (win0_4.index t 0 = 0 ∧ win0_4.index t 1 = 0 ∧ win0_4.index t 2 = 0)
    ∧ (win0_5.index t 0 = 0 ∧ win0_5.index t 1 = 0 ∧ win0_5.index t 2 = 0) := by
  decide +kernel

/-- A coordinate that is another, offset by nothing. -/
theorem off {a p u v : ℕ} (hp : p = 0) (h : u = p * a + 1 * v) : u = v := by
  subst hp
  omega

theorem iblk0 (t : Fin cfg0.N) : iblk m c 0 t = Cx m c := by
  funext y
  unfold iblk
  show V m c main_arg0 (((cfg0.win 0).blk t).view.emb y) = _
  rw [V_main_arg0]
  exact congrArg (Cx m c) (funext fun x => Fin.ext (by
    match x with
    | ⟨0, _⟩ => exact off (words t).1.1 rfl
    | ⟨1, _⟩ => exact off (words t).1.2 rfl))

theorem iblk1 (t : Fin cfg0.N) : iblk m c 1 t = V m c main_v1 := by
  funext y
  unfold iblk
  show V m c main_v1 (((cfg0.win 1).blk t).view.emb y) = _
  exact congrArg (V m c main_v1) (funext fun x => Fin.ext (by
    match x with
    | ⟨0, _⟩ => exact off (words t).2.1.1 rfl
    | ⟨1, _⟩ => exact off (words t).2.1.2 rfl))

theorem iblk2 (t : Fin cfg0.N) : iblk m c 2 t = V m c main_v4 := by
  funext y
  unfold iblk
  show V m c main_v4 (((cfg0.win 2).blk t).view.emb y) = _
  exact congrArg (V m c main_v4) (funext fun x => Fin.ext (by
    match x with
    | ⟨0, _⟩ => exact off (words t).2.2.1.1 rfl
    | ⟨1, _⟩ => exact off (words t).2.2.1.2.1 rfl
    | ⟨2, _⟩ => exact off (words t).2.2.1.2.2 rfl))

theorem iblk3 (t : Fin cfg0.N) : iblk m c 3 t = Df m c := by
  funext y
  unfold iblk
  show V m c main_arg5 (((cfg0.win 3).blk t).view.emb y) = _
  rw [V_main_arg5]
  exact congrArg (Df m c) (funext fun x => Fin.ext (by
    match x with
    | ⟨0, _⟩ => exact off (words t).2.2.2.1.1 rfl
    | ⟨1, _⟩ => exact off (words t).2.2.2.1.2.1 rfl
    | ⟨2, _⟩ => exact off (words t).2.2.2.1.2.2.1 rfl
    | ⟨3, _⟩ => exact off (words t).2.2.2.1.2.2.2.1 rfl
    | ⟨4, _⟩ => exact off (words t).2.2.2.1.2.2.2.2 rfl))

/-! ## The kernel's arrays -/

/-- The states forwards, of the arguments as launched. -/
def fwd : S4x128x128.Idx → EReal :=
  forwards (Cx m c) (fun d => Nw m c (ix2 0 d)) (fun d => Sh m c (ix2 0 d)) (fun d => Sc m c (ix2 0 d)) (Wi m c) (Df m c)

/-- The states backwards, of the arguments as launched. -/
def bwd : S4x128x128.Idx → EReal :=
  backwards (Cx m c) (fun d => Nw m c (ix2 0 d)) (fun d => Sh m c (ix2 0 d)) (fun d => Sc m c (ix2 0 d)) (Wi m c) (Df m c)

theorem vecs : ((fun d => ((V m c main_v1 : Vec Ideal S8x1024 .f32) (ix2 0 d) : EReal)) = fun d => Nw m c (ix2 0 d))
    ∧ ((fun d => ((V m c main_v1 : Vec Ideal S8x1024 .f32) (ix2 1 d) : EReal)) = fun d => Sh m c (ix2 0 d))
    ∧ ((fun d => ((V m c main_v1 : Vec Ideal S8x1024 .f32) (ix2 2 d) : EReal)) = fun d => Sc m c (ix2 0 d)) :=
  ⟨funext (hostN m c), funext (hostSh m c), funext (hostSc m c)⟩

theorem entry4 (h : Fin 4) (d e : Fin 128) :
    (out0_4 (Cx m c) (V m c main_v1) (V m c main_v4) (Df m c) (ix3 h d e) : EReal) = fwd m c (ix3 h d e) := by
  refine (body4 _ _ _ _ (Wi m c) (hostW m c) _ _ _).trans ?_
  rw [(vecs m c).1, (vecs m c).2.1, (vecs m c).2.2]
  rfl

theorem entry5 (h : Fin 4) (d e : Fin 128) :
    (out0_5 (Cx m c) (V m c main_v1) (V m c main_v4) (Df m c) (ix3 h d e) : EReal) = bwd m c (ix3 h d e) := by
  refine (body5 _ _ _ _ (Wi m c) (hostW m c) _ _ _).trans ?_
  rw [(vecs m c).1, (vecs m c).2.1, (vecs m c).2.2]
  rfl

theorem out4 (t : Fin cfg0.N) : out0_4 (iblk m c 0 t) (iblk m c 1 t) (iblk m c 2 t) (iblk m c 3 t) = fwd m c := by
  rw [iblk0, iblk1, iblk2, iblk3]
  funext z
  rw [eq_ix3' z]
  exact entry4 m c _ _ _

theorem out5 (t : Fin cfg0.N) : out0_5 (iblk m c 0 t) (iblk m c 1 t) (iblk m c 2 t) (iblk m c 3 t) = bwd m c := by
  rw [iblk0, iblk1, iblk2, iblk3]
  funext z
  rw [eq_ix3' z]
  exact entry5 m c _ _ _

/-- The one point. -/
def pt : Fin grid0.N := ⟨0, by decide⟩

theorem emb4 (t : Fin cfg0.N) (y : S4x128x128.Idx) : ((cfg0.win 4).blk t).view.emb y = y := funext fun x => Fin.ext (by
  match x with
  | ⟨0, _⟩ => exact off (words t).2.2.2.2.1.1 rfl
  | ⟨1, _⟩ => exact off (words t).2.2.2.2.1.2.1 rfl
  | ⟨2, _⟩ => exact off (words t).2.2.2.2.1.2.2 rfl)

theorem emb5 (t : Fin cfg0.N) (y : S4x128x128.Idx) : ((cfg0.win 5).blk t).view.emb y = y := funext fun x => Fin.ext (by
  match x with
  | ⟨0, _⟩ => exact off (words t).2.2.2.2.2.1 rfl
  | ⟨1, _⟩ => exact off (words t).2.2.2.2.2.2.1 rfl
  | ⟨2, _⟩ => exact off (words t).2.2.2.2.2.2.2 rfl)

theorem final4 : (dats m 0 c).arrAt 4 cfg0.N = fwd m c := by
  refine (dats m 0 c).arrAt_eq_of_cover 4 _ (fun t _ => ?_) fun z => ⟨pt, by decide +kernel, ?_⟩
  · rw [Value.flushed4, out4]
    funext y
    exact congrArg (fwd m c) (emb4 t y).symm
  · have h := View.emb_mem_set ((cfg0.win 4).blk pt).view z
    rwa [emb4] at h

theorem final5 : (dats m 0 c).arrAt 5 cfg0.N = bwd m c := by
  refine (dats m 0 c).arrAt_eq_of_cover 5 _ (fun t _ => ?_) fun z => ⟨pt, by decide +kernel, ?_⟩
  · rw [Value.flushed5, out5]
    funext y
    exact congrArg (bwd m c) (emb5 t y).symm
  · have h := View.emb_mem_set ((cfg0.win 5).blk pt).view z
    rwa [emb5] at h

/-- The reference runs and leaves its arguments. -/
theorem frameRef : Cert.quiescent_Reference11Ideal := fun m ρ _ =>
  (θ_run Cert.Reference11Ideal.defs _ _).mono (fun r h => And.intro (fun c => (h c).2.2)
      (Idealize.ShloMosaic.sem_eq_zero_of_no_sems (by decide) r.2))
    (Cert.Reference11Ideal.Value.run (F := Ideal) m ρ)

/-- Both programs leave the states forwards and backwards. -/
theorem algebraic : Cert.algebraic_Kernel11Ideal_Reference11Ideal := by
  intro m g m' g' _ ha
  refine ⟨fun c => fwd m c, fun c => bwd m c,
    (θ_run Cert.Kernel11Ideal.defs _ _).mono (fun _ h c => ?_) (Cert.Kernel11Ideal.Value.run_blocks (F := Ideal) m g),
    (θ_run Cert.Reference11Ideal.defs _ _).mono (fun _ h c => ?_) (Cert.Reference11Ideal.Value.run (F := Ideal) m' g')⟩
  · obtain ⟨h0, h1, rest⟩ := h c
    exact ⟨h0.trans (final4 m c), h1.trans (final5 m c), rest⟩
  · obtain ⟨h0, h1, rest⟩ := h c
    obtain ⟨e0, e1, e2, e3, e4, e5⟩ := ha c
    refine ⟨(h0.trans (Cert.Reference11Ideal.Read.val_main_v52_eq _ _)).trans ?_,
      (h1.trans (Cert.Reference11Ideal.Read.val_main_v73_eq _ _)).trans ?_, rest⟩
    · rw [e0, e1, e2, e3, e4, e5]
      exact arrF _ _ _ _ _ _
    · rw [e0, e1, e2, e3, e4, e5]
      exact arrB _ _ _ _ _ _

end Cert.Context

end
-- ==== Proof.Decay.lean ====
/- The small sums of the retention and of the spatial gating: the gradient of the logarithms of the decays, column by column, and
   the gradient of the bias. Kernel and reference write the same sums of products; the kernel has the heads apart and adds the
   four kinds of factors before it sums the rows, the reference after. -/
module

public import proofs.«01_k».proof.Defs
public import proofs.«01_k».proof.Proof.Adam
public import proofs.«01_k».proof.Proof.Gen.Kernel12.Frame
public import proofs.«01_k».proof.Proof.Gen.Kernel12Ideal.Value
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Decay

open Idealize.ShloMosaic Idealize.ShloMosaic.TcCoe Idealize.SL.Sem Idealize.ShloMosaic.Tactic
open Cert.Kernel12Ideal Cert.Kernel12Ideal.Gen

/-! ## The mathematics -/

/-- A row's or column's number. -/
def num (i : Fin 128) : EReal := FloatOps.sitofp (F := Ideal) .f32 (BitVec.ofNat 32 i.val)

/-- The power of the decay by direction and kind, at a row and column. -/
def power (r : Fin 2) (k : Fin 4) (i j : Fin 128) : EReal :=
  (![![num i - num j, num i + 1, Ideal.ofBits .f32 0x42FE0000#32 - num i, Ideal.ofBits .f32 0x43000000#32],
    ![num j - num i, Ideal.ofBits .f32 0x43000000#32 - num i, num i, Ideal.ofBits .f32 0x43000000#32]] : Fin 2 → Fin 4 → EReal) r k

section

variable (x0 : S2x4x4x128x128.Idx → EReal) (x1 : S2x2x4x128x128.Idx → EReal) (x2 : S2x4x4x128x128.Idx → EReal) (x3 : S4x128x128.Idx → EReal)

/-- The cotangent of a decay factor: the tokens', and for the last two kinds the context's besides. -/
def total (r : Fin 2) (k h : Fin 4) (i j : Fin 128) : EReal :=
  (![x0 (ix5 r 0 h i j), x0 (ix5 r 1 h i j), x0 (ix5 r 2 h i j) + x1 (ix5 r 0 h i j), x0 (ix5 r 3 h i j) + x1 (ix5 r 1 h i j)] : Fin 4 → EReal) k

/-- What one factor gives. -/
def term (r : Fin 2) (k h : Fin 4) (i j : Fin 128) : EReal := total x0 x1 r k h i j * x2 (ix5 r k h i j) * power r k i j

/-- A column's gradient. -/
def column (r : Fin 2) (h : Fin 4) (j : Fin 128) : EReal :=
  ∑ i : Fin 128, (term x0 x1 x2 r 0 h i j + term x0 x1 x2 r 1 h i j + term x0 x1 x2 r 2 h i j + term x0 x1 x2 r 3 h i j)

/-- A column's gradient forwards, written out. -/
theorem columnF (h : Fin 4) (j : Fin 128) : column x0 x1 x2 0 h j = ∑ i : Fin 128,
    (x0 (ix5 0 0 h i j) * x2 (ix5 0 0 h i j) * (num i - num j) + x0 (ix5 0 1 h i j) * x2 (ix5 0 1 h i j) * (num i + 1)
      + (x0 (ix5 0 2 h i j) + x1 (ix5 0 0 h i j)) * x2 (ix5 0 2 h i j) * (Ideal.ofBits .f32 0x42FE0000#32 - num i)
      + (x0 (ix5 0 3 h i j) + x1 (ix5 0 1 h i j)) * x2 (ix5 0 3 h i j) * Ideal.ofBits .f32 0x43000000#32) := rfl

/-- A column's gradient backwards, written out. -/
theorem columnB (h : Fin 4) (j : Fin 128) : column x0 x1 x2 1 h j = ∑ i : Fin 128,
    (x0 (ix5 1 0 h i j) * x2 (ix5 1 0 h i j) * (num j - num i)
      + x0 (ix5 1 1 h i j) * x2 (ix5 1 1 h i j) * (Ideal.ofBits .f32 0x43000000#32 - num i)
      + (x0 (ix5 1 2 h i j) + x1 (ix5 1 0 h i j)) * x2 (ix5 1 2 h i j) * num i
      + (x0 (ix5 1 3 h i j) + x1 (ix5 1 1 h i j)) * x2 (ix5 1 3 h i j) * Ideal.ofBits .f32 0x43000000#32) := rfl

/-- The gradient of the logarithms of the decays, a row for each direction and head. -/
def decays : S8x128.Idx → EReal := fun z => column x0 x1 x2 ⟨(z 0).val / 4, by have : (z 0).val < 8 := (z 0).isLt; omega⟩
  ⟨(z 0).val % 4, Nat.mod_lt _ (by decide)⟩ (z 1)

/-- The gradient of the bias in the first four rows, and zeros. -/
def biases : S8x128.Idx → EReal := fun z => if h : (z 0).val < 4 then ∑ k : Fin 128, x3 (ix3 ⟨(z 0).val, h⟩ (z 1) k) else 0

end

theorem eq_ix2' {a b : ℕ} (z : Shape.Idx ⟨2, ![a, b]⟩) : z = ix2 (z 0) (z 1) := by
  funext x
  match x with
  | ⟨0, _⟩ => rfl
  | ⟨1, _⟩ => rfl

/-! ## The reference -/

section
open Cert.Reference12Ideal.Read

variable (x0 : S2x4x4x128x128.Idx → EReal) (x1 : S2x2x4x128x128.Idx → EReal) (x2 : S2x4x4x128x128.Idx → EReal) (x3 : S4x128x128.Idx → EReal)

/-- The powers, as the reference stacks them. -/
theorem refE (r : Fin 2) (k : Fin 4) (i j : Fin 128) : (val_main_v38 (F := Ideal) (ix5 r k 0 i j) : EReal) = power r k i j := by
  have hr : r = 0 ∨ r = 1 := by omega
  have hk : k = 0 ∨ k = 1 ∨ k = 2 ∨ k = 3 := by omega
  simp only [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_cst_0, val_main_cst_1, val_main_cst_2,
    val_main_cst_3]
  rcases hr with rfl | rfl <;> rcases hk with rfl | rfl | rfl | rfl <;> pointwise <;> rfl

/-- What one factor gives, as the reference forms it. -/
theorem refT (r : Fin 2) (k h : Fin 4) (i j : Fin 128) : (val_main_v47 (F := Ideal) x0 x1 x2 (ix5 r k h i j) : EReal)
    = term x0 x1 x2 r k h i j := by
  have h1 : Ideal.exp 0 = 1 := by
    show ((Real.exp 0 : ℝ) : EReal) = 1
    rw [Real.exp_zero]
    rfl
  have ht : (val_main_v3 (F := Ideal) x0 x1 (ix5 r k h i j) : EReal) = total x0 x1 r k h i j := by
    have hk : k = 0 ∨ k = 1 ∨ k = 2 ∨ k = 3 := by omega
    simp only [val_main_v3, val_main_v2, val_main_v1, val_main_v0]
    rcases hk with rfl | rfl | rfl | rfl <;> pointwise <;> rfl
  have hz : (val_main_v42 (F := Ideal) (ix5 r k h i j) : EReal) = 1 := by
    simp only [val_main_v42, val_main_v41, val_main_v40, val_main_v39, val_main_v7, val_main_v6, val_main_v5, val_main_v4, val_main_cst]
    pointwise
    rw [zero_mul, h1]
  simp only [val_main_v47, val_main_v46, val_main_v45, val_main_v44]
  pointwise
  rw [ht, hz, refE, mul_one, mul_comm (x2 _)]
  rfl

/-- A column's gradient, as the reference sums it. -/
theorem refS (r : Fin 2) (h : Fin 4) (j : Fin 128) : (val_main_v53 (F := Ideal) x0 x1 x2 (ix3 r h j) : EReal) = column x0 x1 x2 r h j := by
  simp only [val_main_v53, val_main_v52, val_main_v51, val_main_v50, val_main_v49, val_main_v48, val_main_cst_4, val_main_cst_5,
    val_main_cst_6, val_main_cst_7]
  pointwise
  simp only [Fin.sum_univ_one, Fin.sum_univ_four, refT]
  rw [← Finset.sum_add_distrib, ← Finset.sum_add_distrib, ← Finset.sum_add_distrib]
  rfl

theorem refD (z : Fin 8) (j : Fin 128) : (val_main_v60 (F := Ideal) x0 x1 x2 (ix2 z j) : EReal)
    = val_main_v53 (F := Ideal) x0 x1 x2 (ix3 ⟨z.val / 4, by omega⟩ ⟨z.val % 4, Nat.mod_lt _ (by decide)⟩ j) := by
  unfold val_main_v60
  pointwise

theorem arrD : val_main_v60 (F := Ideal) x0 x1 x2 = decays x0 x1 x2 := by
  funext z
  rw [eq_ix2' z]
  exact (refD x0 x1 x2 _ _).trans (refS x0 x1 x2 _ _ _)

/-- The gradient of the bias, as the reference sums it. -/
theorem refB (z : Fin 8) (j : Fin 128) : (val_main_v62 (F := Ideal) x3 (ix2 z j) : EReal)
    = if h : z.val < 4 then ∑ k : Fin 128, x3 (ix3 ⟨z.val, h⟩ j k) else 0 := by
  unfold val_main_v62 val_main_v61 val_main_v59 val_main_v58 val_main_v57 val_main_cst_9 val_main_cst_10 val_main_cst_11
  pointwise
  by_cases h : z.val < 4
  · rw [dif_pos h, dif_pos h]
    exact Fin.sum_univ_one _
  · rw [dif_neg h, dif_neg h]

theorem arrB : val_main_v62 (F := Ideal) x3 = biases x3 := by
  funext z
  rw [eq_ix2' z]
  exact refB x3 _ _

end

/-! ## The body -/

/-- A store of one row, read at an index: its own where the row is the store's, else what was stored before. -/
theorem piece (k : ℕ) (inb : ∀ a, (![k, 0] : Fin 2 → ℕ) a + (![1, 128] : Fin 2 → ℕ) a ≤ S8x128.size a) (w : Vec Ideal S1x128 .f32)
    (L : List (View.Piece (Elt Ideal) S8x128 .f32)) (z : Fin 8) (j : Fin 128) :
    View.canon (⟨Rect.unit (s := S8x128) ![k, 0] ![1, 128] inb, w⟩ :: L) (ix2 z j)
      = if z.val = k then w (ix2 0 j) else View.canon L (ix2 z j) := by
  by_cases hk : z.val = k
  · rw [if_pos hk]
    have hy : (Rect.unit (s := S8x128) ![k, 0] ![1, 128] inb).emb (ix2 0 j) = ix2 z j := funext fun x => Fin.ext (by
      match x with
      | ⟨0, _⟩ => show k + 1 * 0 = z.val; omega
      | ⟨1, _⟩ => show 0 + 1 * j.val = j.val; omega)
    rw [← hy]
    exact View.canon_cons_emb (Rect.unit (s := S8x128) ![k, 0] ![1, 128] inb) w L (ix2 0 j)
  · rw [if_neg hk]
    refine View.canon_cons_of_not_mem _ L fun hm => ?_
    rw [Rect.mem_set_unit] at hm
    have h0 := hm ⟨0, by show 0 < 2; decide⟩
    have h1 : k ≤ z.val ∧ z.val < k + 1 := h0
    omega

/-- A store of all rows, read at an index. -/
theorem base (inb : ∀ a, (![0, 0] : Fin 2 → ℕ) a + (![8, 128] : Fin 2 → ℕ) a ≤ S8x128.size a) (w : Vec Ideal S8x128 .f32)
    (L : List (View.Piece (Elt Ideal) S8x128 .f32)) (z : Fin 8) (j : Fin 128) :
    View.canon (⟨Rect.unit (s := S8x128) ![0, 0] ![8, 128] inb, w⟩ :: L) (ix2 z j) = w (ix2 z j) := by
  have hy : (Rect.unit (s := S8x128) ![0, 0] ![8, 128] inb).emb (ix2 z j) = ix2 z j := funext fun x => Fin.ext (by
    match x with
    | ⟨0, _⟩ => show 0 + 1 * z.val = z.val; omega
    | ⟨1, _⟩ => show 0 + 1 * j.val = j.val; omega)
  conv_lhs => rw [← hy]
  exact View.canon_cons_emb (Rect.unit (s := S8x128) ![0, 0] ![8, 128] inb) w L (ix2 z j)

section

variable (c : Dev nD) (arg0 : Memref sig .tc .vmem S2x4x4x128x128 .f32) (harg0 : arg0.IsWhole)
  (arg1 : Memref sig .tc .vmem S2x2x4x128x128 .f32) (harg1 : arg1.IsWhole) (arg2 : Memref sig .tc .vmem S2x4x4x128x128 .f32) (harg2 : arg2.IsWhole)
  (arg3 : Memref sig .tc .vmem S4x128x128 .f32) (harg3 : arg3.IsWhole) (arg4 : Memref sig .tc .vmem S8x128 .f32) (harg4 : arg4.IsWhole)
  (arg5 : Memref sig .tc .vmem S8x128 .f32) (harg5 : arg5.IsWhole)
  (x0 : Vec Ideal S2x4x4x128x128 .f32) (x1 : Vec Ideal S2x2x4x128x128 .f32) (x2 : Vec Ideal S2x4x4x128x128 .f32) (x3 : Vec Ideal S4x128x128 .f32)

/-- One row of the gradient of the logarithms of the decays, as the body leaves it. -/
theorem row4 (r : Fin 2) (h : Fin 4) (z : Fin 8) (j : Fin 128) (hz : z.val = r.val * 4 + h.val) :
    (out0_A_4 c arg0 harg0 arg1 harg1 arg2 harg2 arg3 harg3 arg4 harg4 arg5 harg5 x0 x1 x2 x3 (ix2 z j) : EReal) = column x0 x1 x2 r h j := by
  have hr : r = 0 ∨ r = 1 := by omega
  have hh : h = 0 ∨ h = 1 ∨ h = 2 ∨ h = 3 := by omega
  unfold out0_A_4 kernelRun0_A
  dsimp only
  sl_unfold_words
  simp only [View.readAt_eq_ld, harg0.read_unread, harg1.read_unread, harg2.read_unread, harg3.read_unread]
  rw [View.read_writes_junk_eq_canon, piece, piece, piece, piece, piece, piece, piece, piece, hz]
  rcases hr with rfl | rfl <;> rcases hh with rfl | rfl | rfl | rfl <;>
    (simp (decide := true) only [reduceIte]
     simp only [k0_pay4, k0_pay5, k0_pay6, k0_pay7, k0_pay8, k0_pay9, k0_pay10, k0_pay11, k0_pay13, k0_pay14, k0_pay15, k0_pay16,
       k0_pay17, k0_pay18, k0_pay19, k0_pay20, k0_pay21, k0_pay22, k0_pay23, k0_pay24, k0_pay25, k0_pay26, k0_pay27, k0_pay28,
       k0_pay29, k0_pay30, k0_pay31, k0_pay32, k0_pay33, k0_pay34, k0_pay35, k0_pay36, k0_pay37, k0_pay38, k0_pay39]
     pointwise
     simp only [columnF, columnB]
     rfl)

/-- The gradient of the logarithms of the decays, as the body leaves it. -/
theorem body4 (z : Fin 8) (j : Fin 128) :
    (out0_A_4 c arg0 harg0 arg1 harg1 arg2 harg2 arg3 harg3 arg4 harg4 arg5 harg5 x0 x1 x2 x3 (ix2 z j) : EReal) = decays x0 x1 x2 (ix2 z j) :=
  row4 c arg0 harg0 arg1 harg1 arg2 harg2 arg3 harg3 arg4 harg4 arg5 harg5 x0 x1 x2 x3 ⟨z.val / 4, by omega⟩
    ⟨z.val % 4, Nat.mod_lt _ (by decide)⟩ z j (by show z.val = z.val / 4 * 4 + z.val % 4; omega)

/-- A row of the gradient of the bias. -/
theorem biases_at (y : Fin 4) (z : Fin 8) (j : Fin 128) (hy : z.val = y.val) : biases x3 (ix2 z j) = ∑ k : Fin 128, x3 (ix3 y j k) := by
  have h : z.val < 4 := by omega
  obtain rfl : y = ⟨z.val, h⟩ := Fin.ext hy.symm
  exact dif_pos h

/-- The gradient of the bias, as the body leaves it. -/
theorem body5 (z : Fin 8) (j : Fin 128) :
    (out0_A_5 c arg0 harg0 arg1 harg1 arg2 harg2 arg3 harg3 arg4 harg4 arg5 harg5 x0 x1 x2 x3 (ix2 z j) : EReal) = biases x3 (ix2 z j) := by
  have hz : z = 0 ∨ z = 1 ∨ z = 2 ∨ z = 3 ∨ 4 ≤ z.val := by omega
  unfold out0_A_5 kernelRun0_A
  dsimp only
  sl_unfold_words
  simp only [View.readAt_eq_ld, harg0.read_unread, harg1.read_unread, harg2.read_unread, harg3.read_unread]
  rw [View.read_writes_junk_eq_canon, piece, piece, piece, piece, base]
  rcases hz with rfl | rfl | rfl | rfl | hz
  case inr.inr.inr.inr =>
    rw [if_neg (by omega), if_neg (by omega), if_neg (by omega), if_neg (by omega)]
    refine Eq.trans ?_ (dif_neg (show ¬z.val < 4 by omega)).symm
    unfold k0_pay40
    pointwise
  · rw [biases_at x3 0 0 j rfl]
    simp (decide := true) only [reduceIte]
    unfold k0_pay41 k0_pay12
    pointwise
  · rw [biases_at x3 1 1 j rfl]
    simp (decide := true) only [reduceIte]
    unfold k0_pay1 k0_pay12
    pointwise
  · rw [biases_at x3 2 2 j rfl]
    simp (decide := true) only [reduceIte]
    unfold k0_pay2 k0_pay12
    pointwise
  · rw [biases_at x3 3 3 j rfl]
    simp (decide := true) only [reduceIte]
    unfold k0_pay3 k0_pay12
    pointwise

end

variable (m : (ℓ : Loc nD τ sig) → Buf (Elt Ideal) ℓ) (c : Dev nD)

/-- The tokens' cotangents as launched. -/
abbrev Dt : S2x4x4x128x128.Idx → EReal := m ((c : Thread nD τ).loc main_arg0)

/-- The context's cotangents as launched. -/
abbrev Dc : S2x2x4x128x128.Idx → EReal := m ((c : Thread nD τ).loc main_arg1)

/-- The decay factors as launched. -/
abbrev Df : S2x4x4x128x128.Idx → EReal := m ((c : Thread nD τ).loc main_arg2)

/-- The bias's cotangents as launched. -/
abbrev Db : S4x128x128.Idx → EReal := m ((c : Thread nD τ).loc main_arg3)

theorem words : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) := by
  decide +kernel

/-- A coordinate that is another, offset by nothing. -/
theorem off {a p u v : ℕ} (hp : p = 0) (h : u = p * a + 1 * v) : u = v := by
  subst hp
  omega

theorem iblk0 (t : Fin cfg0.N) : iblk m c 0 t = Dt m c := by
  funext y
  exact congrArg (Dt m c) (funext fun x => Fin.ext (off ((words t).1 x) rfl))

theorem iblk1 (t : Fin cfg0.N) : iblk m c 1 t = Dc m c := by
  funext y
  exact congrArg (Dc m c) (funext fun x => Fin.ext (off ((words t).2.1 x) rfl))

theorem iblk2 (t : Fin cfg0.N) : iblk m c 2 t = Df m c := by
  funext y
  exact congrArg (Df m c) (funext fun x => Fin.ext (off ((words t).2.2.1 x) rfl))

theorem iblk3 (t : Fin cfg0.N) : iblk m c 3 t = Db m c := by
  funext y
  exact congrArg (Db m c) (funext fun x => Fin.ext (off ((words t).2.2.2.1 x) rfl))

/-- The one point. -/
def pt : Fin grid0.N := ⟨0, by decide⟩

theorem emb4 (t : Fin cfg0.N) (y : S8x128.Idx) : ((cfg0.win 4).blk t).view.emb y = y :=
  funext fun x => Fin.ext (off ((words t).2.2.2.2.1 x) rfl)

theorem emb5 (t : Fin cfg0.N) (y : S8x128.Idx) : ((cfg0.win 5).blk t).view.emb y = y :=
  funext fun x => Fin.ext (off ((words t).2.2.2.2.2 x) rfl)

theorem out4 (t : Fin cfg0.N) : (outsAt0 m c t).1 = decays (Dt m c) (Dc m c) (Df m c) := by
  unfold outsAt0
  rw [iblk0, iblk1, iblk2, iblk3]
  dsimp only
  funext z
  rw [eq_ix2' z]
  exact body4 c (ms0_0 t) (hs0_0 t) (ms0_1 t) (hs0_1 t) (ms0_2 t) (hs0_2 t) (ms0_3 t) (hs0_3 t) (ms0_4 t) (hs0_4 t) (ms0_5 t) (hs0_5 t)
    (Dt m c) (Dc m c) (Df m c) (Db m c) (z 0) (z 1)

theorem out5 (t : Fin cfg0.N) : (outsAt0 m c t).2 = biases (Db m c) := by
  unfold outsAt0
  rw [iblk0, iblk1, iblk2, iblk3]
  dsimp only
  funext z
  rw [eq_ix2' z]
  exact body5 c (ms0_0 t) (hs0_0 t) (ms0_1 t) (hs0_1 t) (ms0_2 t) (hs0_2 t) (ms0_3 t) (hs0_3 t) (ms0_4 t) (hs0_4 t) (ms0_5 t) (hs0_5 t)
    (Dt m c) (Dc m c) (Df m c) (Db m c) (z 0) (z 1)

theorem final4 : (dats m 0 c).arrAt 4 cfg0.N = decays (Dt m c) (Dc m c) (Df m c) := by
  refine (dats m 0 c).arrAt_eq_of_cover 4 _ (fun t _ => ?_) fun z => ⟨pt, by decide +kernel, ?_⟩
  · rw [Value.flushed4, out4]
    funext y
    exact congrArg (decays (Dt m c) (Dc m c) (Df m c)) (emb4 t y).symm
  · have h := View.emb_mem_set ((cfg0.win 4).blk pt).view z
    rwa [emb4] at h

theorem final5 : (dats m 0 c).arrAt 5 cfg0.N = biases (Db m c) := by
  refine (dats m 0 c).arrAt_eq_of_cover 5 _ (fun t _ => ?_) fun z => ⟨pt, by decide +kernel, ?_⟩
  · rw [Value.flushed5, out5]
    funext y
    exact congrArg (biases (Db m c)) (emb5 t y).symm
  · have h := View.emb_mem_set ((cfg0.win 5).blk pt).view z
    rwa [emb5] at h

/-- The reference runs and leaves its arguments. -/
theorem frameRef : Cert.quiescent_Reference12Ideal := fun m ρ _ =>
  (θ_run Cert.Reference12Ideal.defs _ _).mono (fun r h => And.intro (fun c => (h c).2.2)
      (Idealize.ShloMosaic.sem_eq_zero_of_no_sems (by decide) r.2))
    (Cert.Reference12Ideal.Value.run (F := Ideal) m ρ)

/-- Both programs leave the gradients of the logarithms of the decays and of the bias. -/
theorem algebraic : Cert.algebraic_Kernel12Ideal_Reference12Ideal := by
  intro m g m' g' _ ha
  refine ⟨fun c => decays (Dt m c) (Dc m c) (Df m c), fun c => biases (Db m c),
    (θ_run Cert.Kernel12Ideal.defs _ _).mono (fun _ h c => ?_) (Cert.Kernel12Ideal.Value.run_blocks (F := Ideal) m g),
    (θ_run Cert.Reference12Ideal.defs _ _).mono (fun _ h c => ?_) (Cert.Reference12Ideal.Value.run (F := Ideal) m' g')⟩
  · obtain ⟨h0, h1, rest⟩ := h c
    exact ⟨h0.trans (final4 m c), h1.trans (final5 m c), rest⟩
  · obtain ⟨h0, h1, rest⟩ := h c
    obtain ⟨e0, e1, e2, e3⟩ := ha c
    refine ⟨(h0.trans (Cert.Reference12Ideal.Read.val_main_v60_eq _ _)).trans ?_,
      (h1.trans (Cert.Reference12Ideal.Read.val_main_v62_eq _)).trans ?_, rest⟩
    · rw [e0, e1, e2]
      exact arrD _ _ _
    · rw [e3]
      exact arrB _

end Cert.Decay

end
-- ==== Proof.Factors.lean ====
/- The decay factors of the retention: the logarithm of the logistic function of a head's logit, times the powers, exponentiated.
   The kernel writes the logarithm with a smallest and a logarithm of one plus an exponential, the reference as the log-sigmoid. -/
module

public import proofs.«01_k».proof.Defs
public import proofs.«01_k».proof.Proof.Adam
public import proofs.«01_k».proof.Proof.Decay
public import proofs.«01_k».proof.Proof.Gen.Kernel13.Frame
public import proofs.«01_k».proof.Proof.Gen.Kernel13Ideal.Value
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Pointwise
public import Idealize.ShloMosaic.Lib.IdealHost
public import Idealize.ShloMosaic.Lib.Pipeline.Value
public import Idealize.ShloMosaic.Adequacy
public import Idealize.ShloMosaic.Init

@[expose] public section

set_option maxRecDepth 16384

noncomputable section

namespace Cert.Factors

open Idealize.ShloMosaic Idealize.ShloMosaic.TcCoe Idealize.SL.Sem Idealize.ShloMosaic.Tactic
open Cert.Kernel13Ideal Cert.Kernel13Ideal.Gen

open Cert.Decay (num power off)

/-! ## The mathematics -/

/-- The logarithm of the logistic function, as the kernel writes it. -/
def lg (l : EReal) : EReal := min l 0 - Ideal.log (1 + Ideal.exp (0 - max l (-l)))

/-- The decay factor by direction and kind, at a row and column: the first kind is masked to where its power is not negative. -/
def factor (l : EReal) (r : Fin 2) (k : Fin 4) (i j : Fin 128) : EReal :=
  (![if 0 ≤ power r 0 i j then Ideal.exp (lg l * max (power r 0 i j) 0) else 0, Ideal.exp (lg l * power r 1 i j),
    Ideal.exp (lg l * power r 2 i j), Ideal.exp (lg l * power r 3 i j)] : Fin 4 → EReal) k

/-- The logit by direction and head. -/
def logit (x0 x1 : S1x4.Idx → EReal) (r : Fin 2) (h : Fin 4) : EReal := (![x0 (ix2 0 h), x1 (ix2 0 h)] : Fin 2 → EReal) r

/-- The decay factors. -/
def factors (x0 x1 : S1x4.Idx → EReal) : S2x4x4x128x128.Idx → EReal := fun z => factor (logit x0 x1 (z 0) (z 2)) (z 0) (z 1) (z 3) (z 4)

/-- One plus an exponential has a logarithm above the least. -/
theorem log_ne (z : EReal) : Ideal.log (1 + Ideal.exp z) ≠ ⊥ := by
  induction z using EReal.rec with
  | bot =>
    have e : (1 : EReal) + Ideal.exp ⊥ = ((1 : ℝ) : EReal) := by show (1 : EReal) + 0 = 1; rw [add_zero]
    rw [e]
    show (if (1 : ℝ) ≤ 0 then (⊥ : EReal) else ((Real.log 1 : ℝ) : EReal)) ≠ ⊥
    rw [if_neg (by norm_num)]
    exact EReal.coe_ne_bot _
  | coe r =>
    have e : (1 : EReal) + Ideal.exp ((r : ℝ) : EReal) = ((1 + Real.exp r : ℝ) : EReal) := by rw [EReal.coe_add]; rfl
    rw [e]
    show (if 1 + Real.exp r ≤ 0 then (⊥ : EReal) else ((Real.log (1 + Real.exp r) : ℝ) : EReal)) ≠ ⊥
    rw [if_neg (by have := Real.exp_pos r; linarith)]
    exact EReal.coe_ne_bot _
  | top =>
    have e : (1 : EReal) + Ideal.exp ⊤ = ⊤ := by show (1 : EReal) + ⊤ = ⊤; rfl
    rw [e]
    show (⊤ : EReal) ≠ ⊥
    exact top_ne_bot

/-- The reference's logarithm is the kernel's. -/
theorem lg_eq (l : EReal) : -(max (-l) 0 + Ideal.log (1 + Ideal.exp (-(max (-l) (-(-l)))))) = lg l := by
  have hm : -(max (-l) 0) = min l 0 := by
    rcases le_total l 0 with h | h
    · rw [min_eq_left h, max_eq_left (EReal.neg_nonneg.mpr h), neg_neg]
    · rw [min_eq_right h, max_eq_right (EReal.neg_le_zero.mpr h), neg_zero]
  have hx : max (-l) 0 ≠ (⊥ : EReal) := fun h => by
    have h0 : (0 : EReal) ≤ ⊥ := h ▸ le_max_right (-l) 0
    exact absurd h0 (by decide)
  rw [EReal.neg_add (Or.inl hx) (Or.inr (log_ne _)), hm, neg_neg, max_comm (-l) l]
  unfold lg
  rw [zero_sub]

theorem eq_ix5' {a b c d e : ℕ} (z : Shape.Idx ⟨5, ![a, b, c, d, e]⟩) : z = ix5 (z 0) (z 1) (z 2) (z 3) (z 4) := by
  funext x
  match x with
  | ⟨0, _⟩ => rfl
  | ⟨1, _⟩ => rfl
  | ⟨2, _⟩ => rfl
  | ⟨3, _⟩ => rfl
  | ⟨4, _⟩ => rfl

/-! ## The reference -/

section
open Cert.Reference13Ideal.Read

/-- The powers, as the reference stacks them. -/
theorem refE (r : Fin 2) (k : Fin 4) (i j : Fin 128) : (val_main_v36 (F := Ideal) (ix4 r k i j) : EReal) = power r k i j := by
  have hr : r = 0 ∨ r = 1 := by omega
  have hk : k = 0 ∨ k = 1 ∨ k = 2 ∨ k = 3 := by omega
  simp only [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2]
  rcases hr with rfl | rfl <;> rcases hk with rfl | rfl | rfl | rfl <;> pointwise <;> rfl

theorem refF (x : S1x4.Idx → EReal) (h : Fin 4) : (val_main_v1 (F := Ideal) x (ix1 h) : EReal) = lg (x (ix2 0 h)) := by
  simp only [val_main_v0, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v1]
  pointwise
  rw [if_neg (fun hn => hn rfl)]
  exact lg_eq _

theorem refB (x : S1x4.Idx → EReal) (h : Fin 4) : (val_main_v3 (F := Ideal) x (ix1 h) : EReal) = lg (x (ix2 0 h)) := by
  simp only [val_main_v2, val_main_call1_v0, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v1, val_main_v3]
  pointwise
  rw [if_neg (fun hn => hn rfl)]
  exact lg_eq _

variable (x0 x1 : S1x4.Idx → EReal)

/-- The factors, as the reference forms them. -/
theorem ref (r : Fin 2) (k h : Fin 4) (i j : Fin 128) :
    (val_main_v58 (F := Ideal) x0 x1 (ix5 r k h i j) : EReal) = factor (logit x0 x1 r h) r k i j := by
  have hr : r = 0 ∨ r = 1 := by omega
  have hk : k = 0 ∨ k = 1 ∨ k = 2 ∨ k = 3 := by omega
  have hz : (id (constant (F := Ideal) Cert.Reference13Ideal.S_ FTy.f32 0#32) ix0 : EReal) = 0 := Ideal.ofBits_zero_f32
  obtain ⟨v, hv⟩ : ∃ v, v = factor (logit x0 x1 r h) r k i j := ⟨_, rfl⟩
  rw [← hv]
  simp only [val_main_v58, val_main_v57, val_main_v56, val_main_v55, val_main_v54, val_main_v53, val_main_v52, val_main_v51, val_main_v50, val_main_v49, val_main_call2_v2, val_main_call2_v1, val_main_call2_v0, val_main_v48, val_main_v47, val_main_v46, val_main_v45, val_main_v44, val_main_v43, val_main_v42, val_main_v41, val_main_v40, val_main_v39, val_main_v38, val_main_v37, val_main_cst_3, val_main_cst_4, val_main_cst_5, val_main_v6, val_main_v5, val_main_v4]
  rcases hr with rfl | rfl <;> rcases hk with rfl | rfl | rfl | rfl <;>
    (pointwise
     simp only [refE, refF, refB, hz]
     rw [hv]
     rfl)

theorem arr : val_main_v58 (F := Ideal) x0 x1 = factors x0 x1 := by
  funext z
  rw [eq_ix5' z]
  exact ref x0 x1 _ _ _ _ _

end

/-! ## The body -/

/-- A store of one direction, kind and head, read at an index. -/
theorem piece (d p q : ℕ) (inb : ∀ a, (![d, p, q, 0, 0] : Fin 5 → ℕ) a + S1x1x1x128x128.size a ≤ S2x4x4x128x128.size a)
    (w : Vec Ideal S1x1x1x128x128 .f32) (L : List (View.Piece (Elt Ideal) S2x4x4x128x128 .f32)) (r : Fin 2) (k h : Fin 4) (i j : Fin 128) :
    View.canon (⟨Rect.unit (s := S2x4x4x128x128) ![d, p, q, 0, 0] S1x1x1x128x128.size inb, w⟩ :: L) (ix5 r k h i j)
      = if r.val = d ∧ k.val = p ∧ h.val = q then w (ix5 0 0 0 i j) else View.canon L (ix5 r k h i j) := by
  by_cases hk : r.val = d ∧ k.val = p ∧ h.val = q
  · rw [if_pos hk]
    have hy : (Rect.unit (s := S2x4x4x128x128) ![d, p, q, 0, 0] S1x1x1x128x128.size inb).emb (ix5 0 0 0 i j) = ix5 r k h i j :=
      funext fun x => Fin.ext (by
        match x with
        | ⟨0, _⟩ => show d + 1 * 0 = r.val; omega
        | ⟨1, _⟩ => show p + 1 * 0 = k.val; omega
        | ⟨2, _⟩ => show q + 1 * 0 = h.val; omega
        | ⟨3, _⟩ => show 0 + 1 * i.val = i.val; omega
        | ⟨4, _⟩ => show 0 + 1 * j.val = j.val; omega)
    rw [← hy]
    exact View.canon_cons_emb (Rect.unit (s := S2x4x4x128x128) ![d, p, q, 0, 0] S1x1x1x128x128.size inb) w L (ix5 0 0 0 i j)
  · rw [if_neg hk]
    refine View.canon_cons_of_not_mem _ L fun hm => ?_
    rw [Rect.mem_set_unit] at hm
    have g0 := hm ⟨0, by show 0 < 5; decide⟩
    have h0 : d ≤ r.val ∧ r.val < d + 1 := g0
    have g1 := hm ⟨1, by show 1 < 5; decide⟩
    have h1 : p ≤ k.val ∧ k.val < p + 1 := g1
    have g2 := hm ⟨2, by show 2 < 5; decide⟩
    have h2 : q ≤ h.val ∧ h.val < q + 1 := g2
    omega

/-- Where a direction's and head's logits lie. -/
def slot (r : Fin 2) (h : Fin 4) : Fin 8 := (![![0, 1, 2, 3], ![4, 5, 6, 7]] : Fin 2 → Fin 4 → Fin 8) r h

/-- The factors, as the body leaves them. -/
theorem body (x0 : Vec Ideal S8x128x128 .f32) (r : Fin 2) (k h : Fin 4) (i j : Fin 128) :
    (out0_1 x0 (ix5 r k h i j) : EReal) = factor (x0 (ix3 (slot r h) i j)) r k i j := by
  have hr : r = 0 ∨ r = 1 := by omega
  have hk : k = 0 ∨ k = 1 ∨ k = 2 ∨ k = 3 := by omega
  have hh : h = 0 ∨ h = 1 ∨ h = 2 ∨ h = 3 := by omega
  obtain ⟨v, hv⟩ : ∃ v, v = factor (x0 (ix3 (slot r h) i j)) r k i j := ⟨_, rfl⟩
  rw [← hv]
  unfold out0_1
  rw [piece, piece, piece, piece, piece, piece, piece, piece, piece, piece, piece, piece, piece, piece, piece, piece, piece, piece, piece, piece, piece, piece, piece, piece, piece, piece, piece, piece, piece, piece, piece, piece]
  rcases hr with rfl | rfl <;> rcases hk with rfl | rfl | rfl | rfl <;> rcases hh with rfl | rfl | rfl | rfl <;>
    (simp (decide := true) only [reduceIte]
     simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71]
     pointwise
     rw [hv]
     rfl)

variable (m : (ℓ : Loc nD τ sig) → Buf (Elt Ideal) ℓ) (c : Dev nD)

/-- The forward logits as launched. -/
abbrev Lf : S1x4.Idx → EReal := m ((c : Thread nD τ).loc main_arg0)

/-- The backward logits as launched. -/
abbrev Lb : S1x4.Idx → EReal := m ((c : Thread nD τ).loc main_arg1)

/-- The logits, as they are broadcast for the call. -/
theorem hostL (r : Fin 2) (h : Fin 4) (i j : Fin 128) :
    ((V m c main_v4 : Vec Ideal S8x128x128 .f32) (ix3 (slot r h) i j) : EReal) = logit (Lf m c) (Lb m c) r h := by
  have hr : r = 0 ∨ r = 1 := by omega
  have hh : h = 0 ∨ h = 1 ∨ h = 2 ∨ h = 3 := by omega
  obtain ⟨v, hv⟩ : ∃ v, v = logit (Lf m c) (Lb m c) r h := ⟨_, rfl⟩
  rw [← hv]
  unfold V hostOps0
  after_results_simp
  rcases hr with rfl | rfl <;> rcases hh with rfl | rfl | rfl | rfl <;> dsimp only [slot, Matrix.cons_val] <;>
    (pointwise
     after_results_simp
     pointwise
     rw [hv]
     rfl)

theorem words : ∀ t : Fin grid0.N, (∀ a, win0_0.index t a = 0) ∧ (∀ a, win0_1.index t a = 0) := by
  decide +kernel

theorem iblk0 (t : Fin cfg0.N) : iblk m c 0 t = V m c main_v4 := by
  funext y
  unfold iblk
  show V m c main_v4 (((cfg0.win 0).blk t).view.emb y) = _
  exact congrArg (V m c main_v4) (funext fun x => Fin.ext (off ((words t).1 x) rfl))

/-- The one point. -/
def pt : Fin grid0.N := ⟨0, by decide⟩

theorem emb1 (t : Fin cfg0.N) (y : S2x4x4x128x128.Idx) : ((cfg0.win 1).blk t).view.emb y = y :=
  funext fun x => Fin.ext (off ((words t).2 x) rfl)

theorem entry (r : Fin 2) (k h : Fin 4) (i j : Fin 128) :
    (out0_1 (V m c main_v4) (ix5 r k h i j) : EReal) = factor (logit (Lf m c) (Lb m c) r h) r k i j := by
  refine (body _ _ _ _ _ _).trans ?_
  rw [hostL]

theorem out1 (t : Fin cfg0.N) : out0_1 (iblk m c 0 t) = factors (Lf m c) (Lb m c) := by
  rw [iblk0]
  funext z
  rw [eq_ix5' z]
  exact entry m c _ _ _ _ _

theorem final1 : (dats m 0 c).arrAt 1 cfg0.N = factors (Lf m c) (Lb m c) := by
  refine (dats m 0 c).arrAt_eq_of_cover 1 _ (fun t _ => ?_) fun z => ⟨pt, by decide +kernel, ?_⟩
  · rw [Value.flushed1, out1]
    funext y
    exact congrArg (factors (Lf m c) (Lb m c)) (emb1 t y).symm
  · have h := View.emb_mem_set ((cfg0.win 1).blk pt).view z
    rwa [emb1] at h

/-- The reference runs and leaves its arguments. -/
theorem frameRef : Cert.quiescent_Reference13Ideal := fun m ρ _ =>
  (θ_run Cert.Reference13Ideal.defs _ _).mono (fun r h => And.intro (fun c => (h c).2)
      (Idealize.ShloMosaic.sem_eq_zero_of_no_sems (by decide) r.2))
    (Cert.Reference13Ideal.Value.run (F := Ideal) m ρ)

/-- Both programs leave the decay factors. -/
theorem algebraic : Cert.algebraic_Kernel13Ideal_Reference13Ideal := by
  intro m g m' g' _ ha
  refine ⟨fun c => factors (Lf m c) (Lb m c),
    (θ_run Cert.Kernel13Ideal.defs _ _).mono (fun _ h c => ?_) (Cert.Kernel13Ideal.Value.run_blocks (F := Ideal) m g),
    (θ_run Cert.Reference13Ideal.defs _ _).mono (fun _ h c => ?_) (Cert.Reference13Ideal.Value.run (F := Ideal) m' g')⟩
  · obtain ⟨h0, rest⟩ := h c
    exact ⟨h0.trans (final1 m c), rest⟩
  · obtain ⟨h0, rest⟩ := h c
    obtain ⟨e0, e1⟩ := ha c
    refine ⟨(h0.trans (Cert.Reference13Ideal.Read.val_main_v58_eq _ _)).trans ?_, rest⟩
    rw [e0, e1]
    exact arr _ _

end Cert.Factors

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_all_finite
public import proofs.«01_k».proof.Proof.RefOut
public import proofs.«01_k».proof.Proof.Down
public import proofs.«01_k».proof.Proof.WIn
public import proofs.«01_k».proof.Proof.AdamMod
public import proofs.«01_k».proof.Proof.AdamWIn
public import proofs.«01_k».proof.Proof.AdamWOut
public import proofs.«01_k».proof.Proof.AdamWDown
public import proofs.«01_k».proof.Proof.Small
public import proofs.«01_k».proof.Proof.ModBwd
public import proofs.«01_k».proof.Proof.CtxUpd
public import proofs.«01_k».proof.Proof.Ctx
public import proofs.«01_k».proof.Proof.Decay
public import proofs.«01_k».proof.Proof.Factors
public import Idealize.ShloMosaic.Adequacy
public import Idealize.ShloMosaic.Init

@[expose] public section

noncomputable section

namespace Cert.Proof

open Idealize.ShloMosaic Idealize.ShloMosaic.StableHlo Idealize.SL.Sem Cert.Kernel

/-- The reference runs, its arguments end unchanged, and the counters are zero because it declares no semaphore. -/
theorem frameRef : Cert.quiescent_ReferenceIdeal := fun m ρ _ =>
  (θ_run Cert.ReferenceIdeal.defs _ _).mono (fun r h => And.intro (fun c => (h c).2.2.2.2.2.2.2.2.2)
      (Idealize.ShloMosaic.sem_eq_zero_of_no_sems (by decide) r.2))
    (Cert.ReferenceIdeal.Value.run (F := Ideal) m ρ)

/-- The reference's arguments, equal to the kernel's, hold the launched parameters and tokens. -/
theorem _root_.Cert.Post.inputs' (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Post.Launched m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Post.Inputs (Post.par m c) (Post.row m c)
      (launchContents m' c (Proc.devRef .tc Cert.ReferenceIdeal.main_arg0))
      (launchContents m' c (Proc.devRef .tc Cert.ReferenceIdeal.main_arg1))
      (launchContents m' c (Proc.devRef .tc Cert.ReferenceIdeal.main_arg2))
      (launchContents m' c (Proc.devRef .tc Cert.ReferenceIdeal.main_arg3))
      (launchContents m' c (Proc.devRef .tc Cert.ReferenceIdeal.main_arg4))
      (launchContents m' c (Proc.devRef .tc Cert.ReferenceIdeal.main_arg5))
      (launchContents m' c (Proc.devRef .tc Cert.ReferenceIdeal.main_arg6))
      (launchContents m' c (Proc.devRef .tc Cert.ReferenceIdeal.main_arg7))
      (launchContents m' c (Proc.devRef .tc Cert.ReferenceIdeal.main_arg8))
      (launchContents m' c (Proc.devRef .tc Cert.ReferenceIdeal.main_arg9))
      (launchContents m' c (Proc.devRef .tc Cert.ReferenceIdeal.main_arg10))
      (launchContents m' c (Proc.devRef .tc Cert.ReferenceIdeal.main_arg11))
      (launchContents m' c (Proc.devRef .tc Cert.ReferenceIdeal.main_arg12)) := by
  have H := h.inputs
  have f0 : launchContents m' c (Proc.devRef .tc Cert.ReferenceIdeal.main_arg0) = Post.A0 m c := e0
  have f1 : launchContents m' c (Proc.devRef .tc Cert.ReferenceIdeal.main_arg1) = Post.A1 m c := e1
  have f2 : launchContents m' c (Proc.devRef .tc Cert.ReferenceIdeal.main_arg2) = Post.A2 m c := e2
  have f3 : launchContents m' c (Proc.devRef .tc Cert.ReferenceIdeal.main_arg3) = Post.A3 m c := e3
  have f4 : launchContents m' c (Proc.devRef .tc Cert.ReferenceIdeal.main_arg4) = Post.A4 m c := e4
  have f5 : launchContents m' c (Proc.devRef .tc Cert.ReferenceIdeal.main_arg5) = Post.A5 m c := e5
  have f6 : launchContents m' c (Proc.devRef .tc Cert.ReferenceIdeal.main_arg6) = Post.A6 m c := e6
  have f7 : launchContents m' c (Proc.devRef .tc Cert.ReferenceIdeal.main_arg7) = Post.A7 m c := e7
  have f8 : launchContents m' c (Proc.devRef .tc Cert.ReferenceIdeal.main_arg8) = Post.A8 m c := e8
  have f9 : launchContents m' c (Proc.devRef .tc Cert.ReferenceIdeal.main_arg9) = Post.A9 m c := e9
  have f10 : launchContents m' c (Proc.devRef .tc Cert.ReferenceIdeal.main_arg10) = Post.A10 m c := e10
  have f11 : launchContents m' c (Proc.devRef .tc Cert.ReferenceIdeal.main_arg11) = Post.A11 m c := e11
  have f12 : launchContents m' c (Proc.devRef .tc Cert.ReferenceIdeal.main_arg12) = Post.A12 m c := e12
  rw [f0, f1, f2, f3, f4, f5, f6, f7, f8, f9, f10, f11, f12]
  exact H

/-- The kernel's and the reference's arrays are equal: both are the arrays of the same real functions of the launched tokens. -/
theorem algebraic : Cert.algebraic_KernelIdeal_ReferenceIdeal_pre_all_finite := by
  intro m g m' g' hp ha
  have hL : ∀ c, Post.Launched m c := fun c => Post.allReal _ _ _ _ _ _ _ _ _ _ _ _ _ (hp c)
  refine ⟨fun c => Post.arrOf fun R => Post.dx1 (Post.par m c) (Post.row m c R),
    fun c => Post.arrOf fun R => Post.dyc (Post.par m c) (Post.row m c R),
    fun c => Post.arrOf fun R => Post.h2 (Post.par m c) (Post.row m c R),
    fun c => Post.arrOf fun R => Post.dy (Post.par m c) (Post.row m c R),
    fun c => Post.arrOf fun R => Post.df (Post.par m c) (Post.row m c R),
    fun c => Post.arrOf fun R => Post.act (Post.par m c) (Post.row m c R),
    fun c => Post.arrOf fun R => Post.da (Post.par m c) (Post.row m c R),
    fun c => Post.arrOf fun R => Post.db (Post.par m c) (Post.row m c R),
    fun c => Post.arrOf fun k j => ∑ R, Post.part (Post.par m c) (Post.row m c R) k j,
    (θ_run Cert.KernelIdeal.defs _ _).mono (fun _ h c => ?_) (Cert.KernelIdeal.Value.run_blocks (F := Ideal) m g),
    (θ_run Cert.ReferenceIdeal.defs _ _).mono (fun _ h c => ?_) (Cert.ReferenceIdeal.Value.run (F := Ideal) m' g')⟩
  · obtain ⟨h8, h9, h10, h11, h12, h13, h14, h15, h16, rest⟩ := h c
    exact ⟨h8.trans (Post.final8 m c (hL c)), h9.trans (Post.final9 m c (hL c)), h10.trans (Post.final10 m c (hL c)), h11.trans (Post.final11 m c (hL c)), h12.trans (Post.final12 m c (hL c)), h13.trans (Post.final13 m c (hL c)), h14.trans (Post.final14 m c (hL c)), h15.trans (Post.final15 m c (hL c)), h16.trans (Post.final16 m c (hL c)), rest⟩
  · obtain ⟨h8, h9, h10, h11, h12, h13, h14, h15, h16, rest⟩ := h c
    obtain ⟨e0, e1, e2, e3, e4, e5, e6, e7, e8, e9, e10, e11, e12⟩ := ha c
    have hi := Post.inputs' m m' c (hL c) e0 e1 e2 e3 e4 e5 e6 e7 e8 e9 e10 e11 e12
    exact ⟨h8.trans ((Cert.ReferenceIdeal.Read.val_main_v130_eq _).trans (Post.o_v130 _ _ hi)), h9.trans ((Cert.ReferenceIdeal.Read.val_main_v136_eq _).trans (Post.o_v136 _ _ hi)), h10.trans ((Cert.ReferenceIdeal.Read.val_main_v140_eq _).trans (Post.o_v140 _ _ hi)), h11.trans ((Cert.ReferenceIdeal.Read.val_main_v141_eq _).trans (Post.o_v141 _ _ hi)), h12.trans ((Cert.ReferenceIdeal.Read.val_main_v142_eq _).trans (Post.o_v142 _ _ hi)), h13.trans ((Cert.ReferenceIdeal.Read.val_main_v143_eq _).trans (Post.o_v143 _ _ hi)), h14.trans ((Cert.ReferenceIdeal.Read.val_main_v144_eq _).trans (Post.o_v144 _ _ hi)), h15.trans ((Cert.ReferenceIdeal.Read.val_main_v145_eq _).trans (Post.o_v145 _ _ hi)), h16.trans ((Cert.ReferenceIdeal.Read.val_main_v139_eq _).trans (Post.o_v139 _ _ hi)), rest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_all_finite.Gen.facts, Cert.Pre_finite_parts.Gen.facts,
  fun m ρ _ => Cert.Kernel.Gen.frame m ρ,
  fun m ρ _ => Cert.KernelIdeal.Gen.frame m ρ,
  fun m ρ _ => Cert.KernelIdeal.Gen.frame m ρ,
  frameRef,
  fun m ρ _ => frameRef m ρ trivial,
  fun m ρ _ => Cert.Kernel2.Gen.frame m ρ,
  fun m ρ _ => Cert.Kernel2Ideal.Gen.frame m ρ,
  Cert.Grad.Down.frameRef,
  fun m ρ _ => Cert.Kernel3.Gen.frame m ρ,
  fun m ρ _ => Cert.Kernel3Ideal.Gen.frame m ρ,
  Cert.Grad.WIn.frameRef,
  fun m ρ _ => Cert.Kernel4.Gen.frame m ρ,
  fun m ρ _ => Cert.Kernel4Ideal.Gen.frame m ρ,
  Cert.Adam.Mod.frameRef,
  fun m ρ _ => Cert.Kernel5.Gen.frame m ρ trivial,
  fun m ρ _ => Cert.Kernel5Ideal.Gen.frame m ρ trivial,
  Cert.Adam.WIn.frameRef,
  fun m ρ _ => Cert.Kernel6.Gen.frame m ρ trivial,
  fun m ρ _ => Cert.Kernel6Ideal.Gen.frame m ρ trivial,
  Cert.Adam.WOut.frameRef,
  fun m ρ _ => Cert.Kernel7.Gen.frame m ρ trivial,
  fun m ρ _ => Cert.Kernel7Ideal.Gen.frame m ρ trivial,
  Cert.Adam.WDown.frameRef,
  fun m ρ _ => Cert.Kernel8.Gen.frame m ρ,
  fun m ρ _ => Cert.Kernel8Ideal.Gen.frame m ρ,
  Cert.Adam.Small.frameRef,
  fun m ρ _ => Cert.Kernel9.Gen.frame m ρ,
  fun m ρ _ => Cert.Kernel9Ideal.Gen.frame m ρ,
  Cert.Grad.Mod.frameRef,
  fun m ρ _ => Cert.Kernel10.Gen.frame m ρ,
  fun m ρ _ => Cert.Kernel10Ideal.Gen.frame m ρ,
  fun m ρ _ => Cert.Kernel10Ideal.Gen.frame m ρ,
  Cert.Adam.Ctx.frameRef,
  fun m ρ _ => Cert.Adam.Ctx.frameRef m ρ trivial,
  fun m ρ _ => Cert.Kernel11.Gen.frame m ρ,
  fun m ρ _ => Cert.Kernel11Ideal.Gen.frame m ρ,
  Cert.Context.frameRef,
  fun m ρ _ => Cert.Kernel12.Gen.frame m ρ,
  fun m ρ _ => Cert.Kernel12Ideal.Gen.frame m ρ,
  Cert.Decay.frameRef,
  fun m ρ _ => Cert.Kernel13.Gen.frame m ρ,
  fun m ρ _ => Cert.Kernel13Ideal.Gen.frame m ρ,
  Cert.Factors.frameRef,
  trivial, algebraic,
  trivial, Cert.Grad.Down.algebraic,
  trivial, Cert.Grad.WIn.algebraic,
  trivial, Cert.Adam.Mod.algebraic,
  trivial, Cert.Adam.WIn.algebraic,
  trivial, Cert.Adam.WOut.algebraic,
  trivial, Cert.Adam.WDown.algebraic,
  trivial, Cert.Adam.Small.algebraic,
  trivial, Cert.Grad.Mod.algebraic,
  trivial, Cert.Adam.Ctx.algebraic,
  trivial, Cert.Context.algebraic,
  trivial, Cert.Decay.algebraic,
  trivial, Cert.Factors.algebraic⟩

end Cert.Proof

end
